-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_gate_above_minus_infinity [hPre_gate_above_minus_infinity : Cert.Pre_gate_above_minus_infinity.Facts] (m : (ℓ : Loc Cert.ScanIdeal.nD Cert.ScanIdeal.τ Cert.ScanIdeal.sig) → Buf (Elt Ideal) ℓ) : Prop :=
  ∀ c : Dev Cert.ScanIdeal.nD,
    (Cert.Pre_gate_above_minus_infinity.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_gate_above_minus_infinity [hPre_gate_above_minus_infinity : Cert.Pre_gate_above_minus_infinity.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_gate_above_minus_infinity.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_gate_above_minus_infinity [hScanIdeal : Cert.ScanIdeal.Facts] [hPre_gate_above_minus_infinity : Cert.Pre_gate_above_minus_infinity.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_gate_above_minus_infinity m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_gate_above_minus_infinity [hScanRefIdeal : Cert.ScanRefIdeal.Facts] [hPre_gate_above_minus_infinity : Cert.Pre_gate_above_minus_infinity.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_gate_above_minus_infinity m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def preserves_Scan_ScanIdeal : Prop :=
  True

def algebraic_ScanIdeal_ScanRefIdeal_pre_gate_above_minus_infinity [hScanIdeal : Cert.ScanIdeal.Facts] [hScanRefIdeal : Cert.ScanRefIdeal.Facts] [hPre_gate_above_minus_infinity : Cert.Pre_gate_above_minus_infinity.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_gate_above_minus_infinity m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v6)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v6) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v47) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v35_0)) (v1 : (c : Dev Cert.InIdeal.nD) → Buf (Elt Ideal) ((c.tc : Thread Cert.InIdeal.nD Cert.InIdeal.τ).loc Cert.InIdeal.main_v35_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v35_0) = v0 c
          ∧ r.2.mem ((c.tc : Thread Cert.InIdeal.nD Cert.InIdeal.τ).loc Cert.InIdeal.main_v35_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v112) = v0 c
          ∧ r.2.mem ((c.tc : Thread Cert.InRefIdeal.nD Cert.InRefIdeal.τ).loc Cert.InRefIdeal.main_v113) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def Claim : Prop :=
  ∃ (hScan : Cert.Scan.Facts) (hScanIdeal : Cert.ScanIdeal.Facts) (hScanRefIdeal : Cert.ScanRefIdeal.Facts) (hOut : Cert.Out.Facts) (hOutIdeal : Cert.OutIdeal.Facts) (hOutRefIdeal : Cert.OutRefIdeal.Facts) (hMlp : Cert.Mlp.Facts) (hMlpIdeal : Cert.MlpIdeal.Facts) (hMlpRefIdeal : Cert.MlpRefIdeal.Facts) (hIn : Cert.In.Facts) (hInIdeal : Cert.InIdeal.Facts) (hInRefIdeal : Cert.InRefIdeal.Facts) (hPre_gate_above_minus_infinity : Cert.Pre_gate_above_minus_infinity.Facts),
    quiescent_Scan (hScan := hScan)
    ∧ quiescent_ScanIdeal (hScanIdeal := hScanIdeal)
    ∧ quiescent_ScanIdeal_pre_gate_above_minus_infinity (hScanIdeal := hScanIdeal) (hPre_gate_above_minus_infinity := hPre_gate_above_minus_infinity)
    ∧ quiescent_ScanRefIdeal (hScanRefIdeal := hScanRefIdeal)
    ∧ quiescent_ScanRefIdeal_pre_gate_above_minus_infinity (hScanRefIdeal := hScanRefIdeal) (hPre_gate_above_minus_infinity := hPre_gate_above_minus_infinity)
    ∧ quiescent_Out (hOut := hOut)
    ∧ quiescent_OutIdeal (hOutIdeal := hOutIdeal)
    ∧ quiescent_OutRefIdeal (hOutRefIdeal := hOutRefIdeal)
    ∧ quiescent_Mlp (hMlp := hMlp)
    ∧ quiescent_MlpIdeal (hMlpIdeal := hMlpIdeal)
    ∧ quiescent_MlpRefIdeal (hMlpRefIdeal := hMlpRefIdeal)
    ∧ quiescent_In (hIn := hIn)
    ∧ quiescent_InIdeal (hInIdeal := hInIdeal)
    ∧ quiescent_InRefIdeal (hInRefIdeal := hInRefIdeal)
    ∧ preserves_Scan_ScanIdeal
    ∧ algebraic_ScanIdeal_ScanRefIdeal_pre_gate_above_minus_infinity (hScanIdeal := hScanIdeal) (hScanRefIdeal := hScanRefIdeal) (hPre_gate_above_minus_infinity := hPre_gate_above_minus_infinity)
    ∧ preserves_Out_OutIdeal
    ∧ algebraic_OutIdeal_OutRefIdeal (hOutIdeal := hOutIdeal) (hOutRefIdeal := hOutRefIdeal)
    ∧ preserves_Mlp_MlpIdeal
    ∧ algebraic_MlpIdeal_MlpRefIdeal (hMlpIdeal := hMlpIdeal) (hMlpRefIdeal := hMlpRefIdeal)
    ∧ preserves_In_InIdeal
    ∧ algebraic_InIdeal_InRefIdeal (hInIdeal := hInIdeal) (hInRefIdeal := hInRefIdeal)
-- ==== Pre_gate_above_minus_infinity.lean ====
abbrev S8x128x128x128 : Shape := ⟨4, ![8, 128, 128, 128]⟩
abbrev S8x128x64x128 : Shape := ⟨4, ![8, 128, 64, 128]⟩
abbrev S8x128x64x64 : Shape := ⟨4, ![8, 128, 64, 64]⟩
abbrev S8x128x1x128 : Shape := ⟨4, ![8, 128, 1, 128]⟩
abbrev S8192x7168 : Shape := ⟨2, ![8192, 7168]⟩
abbrev S1x128 : Shape := ⟨2, ![1, 128]⟩
abbrev S8192x1024 : Shape := ⟨2, ![8192, 1024]⟩
abbrev S_ : Shape := ⟨0, ![]⟩

class Facts : Prop where
  slices_S8192x7168_S8192x1024_0_6144 : S8192x7168.Slices ![0, 6144] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8x128x128x128 .bf16) (main_arg1 : FVec F S8x128x64x128 .bf16) (main_arg2 : FVec F S8x128x64x128 .bf16) (main_arg3 : FVec F S8x128x64x64 .bf16) (main_arg4 : FVec F S8x128x1x128 .f32) (main_arg5 : FVec F S8192x7168 .bf16) (main_arg6 : FVec F S1x128 .f32) : IVec S8192x1024 1 :=
  let main_v0 : FVec F S8192x1024 .bf16 := (extractStridedSlice S8192x1024 ![0, 6144] · slices_S8192x7168_S8192x1024_0_6144) main_arg5
  let main_v1 : FVec F S8192x1024 .f32 := (extf .f32 · bitsLt_bf16_f32) main_v0
  let main_cst : FVec F S_ .f32 := constant S_ .f32 0xFF800000#32
  let main_v2 : FVec F S8192x1024 .f32 := broadcastInDim S8192x1024 ![] bcast_S_S8192x1024 main_cst
  let main_v3 : IVec S8192x1024 1 := cmpf .ogt main_v1 main_v2
  main_v3
-- ==== Scan.lean ====
abbrev S8x128x128x128 : Shape := ⟨4, ![8, 128, 128, 128]⟩
abbrev S8x128x64x128 : Shape := ⟨4, ![8, 128, 64, 128]⟩
abbrev S8x128x64x64 : Shape := ⟨4, ![8, 128, 64, 64]⟩
abbrev S8x128x1x128 : Shape := ⟨4, ![8, 128, 1, 128]⟩
abbrev S8192x7168 : Shape := ⟨2, ![8192, 7168]⟩
abbrev S1x128 : Shape := ⟨2, ![1, 128]⟩
abbrev S8x2x64x128x128 : Shape := ⟨5, ![8, 2, 64, 128, 128]⟩
abbrev S8x2x64x64x128 : Shape := ⟨5, ![8, 2, 64, 64, 128]⟩
abbrev S8x2x64x64x64 : Shape := ⟨5, ![8, 2, 64, 64, 64]⟩
abbrev S8x2x64x1x128 : Shape := ⟨5, ![8, 2, 64, 1, 128]⟩
abbrev S2x4096x7168 : Shape := ⟨3, ![2, 4096, 7168]⟩
abbrev S2x4096x1024 : Shape := ⟨3, ![2, 4096, 1024]⟩
abbrev S8x2x8x128x128 : Shape := ⟨5, ![8, 2, 8, 128, 128]⟩
abbrev S8x2x8x64x128 : Shape := ⟨5, ![8, 2, 8, 64, 128]⟩
abbrev S8x2x8x64x64 : Shape := ⟨5, ![8, 2, 8, 64, 64]⟩
abbrev S8x2x8x1x128 : Shape := ⟨5, ![8, 2, 8, 1, 128]⟩
abbrev S2x512x1024 : Shape := ⟨3, ![2, 512, 1024]⟩
abbrev S2x8x128x128 : Shape := ⟨4, ![2, 8, 128, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x1x1x64x128 : Shape := ⟨5, ![1, 1, 1, 64, 128]⟩
abbrev S64x128 : Shape := ⟨2, ![64, 128]⟩
abbrev S1x1x1x64x64 : Shape := ⟨5, ![1, 1, 1, 64, 64]⟩
abbrev S64x64 : Shape := ⟨2, ![64, 64]⟩
abbrev S1x1x1x1x128 : Shape := ⟨5, ![1, 1, 1, 1, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 14
  | .vmem => 16
  | .smem => 0
  | _ => 0

abbrev bufTy : (tb : Table) → Fin (tcTables nBuf tb) → BufTy
  | .hbm, ⟨0, _⟩ => ⟨S8x128x128x128, .bf16⟩
  | .hbm, ⟨1, _⟩ => ⟨S8x128x64x128, .bf16⟩
  | .hbm, ⟨2, _⟩ => ⟨S8x128x64x128, .bf16⟩
  | .hbm, ⟨3, _⟩ => ⟨S8x128x64x64, .bf16⟩
  | .hbm, ⟨4, _⟩ => ⟨S8x128x1x128, .f32⟩
  | .hbm, ⟨5, _⟩ => ⟨S8192x7168, .bf16⟩
  | .hbm, ⟨6, _⟩ => ⟨S1x128, .f32⟩
  | .hbm, ⟨7, _⟩ => ⟨S8x2x64x128x128, .bf16⟩
  | .hbm, ⟨8, _⟩ => ⟨S8x2x64x64x128, .bf16⟩
  | .hbm, ⟨9, _⟩ => ⟨S8x2x64x64x128, .bf16⟩
  | .hbm, ⟨10, _⟩ => ⟨S8x2x64x64x64, .bf16⟩
  | .hbm, ⟨11, _⟩ => ⟨S8x2x64x1x128, .f32⟩
  | .hbm, ⟨12, _⟩ => ⟨S2x4096x7168, .bf16⟩
  | .hbm, ⟨13, _⟩ => ⟨S2x4096x1024, .bf16⟩
  | .local _ .vmem, ⟨0, _⟩ => ⟨S8x2x8x128x128, .bf16⟩
  | .local _ .vmem, ⟨1, _⟩ => ⟨S8x2x8x128x128, .bf16⟩
  | .local _ .vmem, ⟨2, _⟩ => ⟨S8x2x8x64x128, .bf16⟩
  | .local _ .vmem, ⟨3, _⟩ => ⟨S8x2x8x64x128, .bf16⟩
  | .local _ .vmem, ⟨4, _⟩ => ⟨S8x2x8x64x128, .bf16⟩
  | .local _ .vmem, ⟨5, _⟩ => ⟨S8x2x8x64x128, .bf16⟩
  | .local _ .vmem, ⟨6, _⟩ => ⟨S8x2x8x64x64, .bf16⟩
  | .local _ .vmem, ⟨7, _⟩ => ⟨S8x2x8x64x64, .bf16⟩
  | .local _ .vmem, ⟨8, _⟩ => ⟨S8x2x8x1x128, .f32⟩
  | .local _ .vmem, ⟨9, _⟩ => ⟨S8x2x8x1x128, .f32⟩
  | .local _ .vmem, ⟨10, _⟩ => ⟨S2x512x1024, .bf16⟩
  | .local _ .vmem, ⟨11, _⟩ => ⟨S2x512x1024, .bf16⟩
  | .local _ .vmem, ⟨12, _⟩ => ⟨S1x128, .f32⟩
  | .local _ .vmem, ⟨13, _⟩ => ⟨S2x512x1024, .bf16⟩
  | .local _ .vmem, ⟨14, _⟩ => ⟨S2x512x1024, .bf16⟩
  | .local _ .vmem, ⟨15, _⟩ => ⟨S2x8x128x128, .f32⟩
  | _, _ => ⟨S8x128x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  v5
def k0_off1 (k0_t1 : Fin k0_t1_loop.trips) : Fin 5 → Nat :=
  let c0_61 : Index := 0#32
  let c0_62 : Index := 0#32
  let c0_i32_2 : BitVec 32 := 0#32
  let c1_i32 : BitVec 32 := 1#32
  let arg10 : BitVec 32 := Scf.iv c0_i32_2 c1_i32 k0_t1
  let v39 : Index := Scalar.indexCast arg10
  let c0_63 : Index := 0#32
  let c0_64 : Index := 0#32
  ![0, 0, v39.toNat, 0, 0]
def k0_off2 (k0_t1 : Fin k0_t1_loop.trips) : Fin 5 → Nat :=
  let c1_65 : Index := 1#32
  let c0_66 : Index := 0#32
  let c0_i32_2 : BitVec 32 := 0#32
  let c1_i32 : BitVec 32 := 1#32
  let arg10 : BitVec 32 := Scf.iv c0_i32_2 c1_i32 k0_t1
  let v44 : Index := Scalar.indexCast arg10
  let c0_67 : Index := 0#32
  let c0_68 : Index := 0#32
  ![1, 0, v44.toNat, 0, 0]
def k0_off3 (k0_t1 : Fin k0_t1_loop.trips) : Fin 5 → Nat :=
  let c2_70 : Index := 2#32
  let c0_71 : Index := 0#32
  let c0_i32_2 : BitVec 32 := 0#32
  let c1_i32 : BitVec 32 := 1#32
  let arg10 : BitVec 32 := Scf.iv c0_i32_2 c1_i32 k0_t1
  let v49 : Index := Scalar.indexCast arg10
  let c0_72 : Index := 0#32
  let c0_73 : Index := 0#32
  ![2, 0, v49.toNat, 0, 0]
def k0_off4 (k0_t1 : Fin k0_t1_loop.trips) : Fin 5 → Nat :=
  let c3_75 : Index := 3#32
  let c0_76 : Index := 0#32
  let c0_i32_2 : BitVec 32 := 0#32
  let c1_i32 : BitVec 32 := 1#32
  let arg10 : BitVec 32 := Scf.iv c0_i32_2 c1_i32 k0_t1
  let v54 : Index := Scalar.indexCast arg10
  let c0_77 : Index := 0#32
  let c0_78 : Index := 0#32
  ![3, 0, v54.toNat, 0, 0]
def k0_off5 (k0_t1 : Fin k0_t1_loop.trips) : Fin 5 → Nat :=
  let c4_80 : Index := 4#32
  let c0_81 : Index := 0#32
  let c0_i32_2 : BitVec 32 := 0#32
  let c1_i32 : BitVec 32 := 1#32
  let arg10 : BitVec 32 := Scf.iv c0_i32_2 c1_i32 k0_t1
  let v59 : Index := Scalar.indexCast arg10
  let c0_82 : Index := 0#32
  let c0_83 : Index := 0#32
  ![4, 0, v59.toNat, 0, 0]
def k0_off6 (k0_t1 : Fin k0_t1_loop.trips) : Fin 5 → Nat :=
  let c5_85 : Index := 5#32
  let c0_86 : Index := 0#32
  let c0_i32_2 : BitVec 32 := 0#32
  let c1_i32 : BitVec 32 := 1#32
  let arg10 : BitVec 32 := Scf.iv c0_i32_2 c1_i32 k0_t1
  let v64 : Index := Scalar.indexCast arg10
  let c0_87 : Index := 0#32
  let c0_88 : Index := 0#32
  ![5, 0, v64.toNat, 0, 0]
def k0_off7 (k0_t1 : Fin k0_t1_loop.trips) : Fin 5 → Nat :=
  let c6_90 : Index := 6#32
  let c0_91 : Index := 0#32
  let c0_i32_2 : BitVec 32 := 0#32
  let c1_i32 : BitVec 32 := 1#32
  let arg10 : BitVec 32 := Scf.iv c0_i32_2 c1_i32 k0_t1
  let v69 : Index := Scalar.indexCast arg10
  let c0_92 : Index := 0#32
  let c0_93 : Index := 0#32
  ![6, 0, v69.toNat, 0, 0]
def k0_off8 (k0_t1 : Fin k0_t1_loop.trips) : Fin 5 → Nat :=
  let c7_95 : Index := 7#32
  let c0_96 : Index := 0#32
  let c0_i32_2 : BitVec 32 := 0#32
  let c1_i32 : BitVec 32 := 1#32
  let arg10 : BitVec 32 := Scf.iv c0_i32_2 c1_i32 k0_t1
  let v74 : Index := Scalar.indexCast arg10
  let c0_97 : Index := 0#32
  let c0_98 : Index := 0#32
  ![7, 0, v74.toNat, 0, 0]
def k0_off9 (k0_t1 : Fin k0_t1_loop.trips) : Fin 5 → Nat :=
  let c0_100 : Index := 0#32
  let c1_101 : Index := 1#32
  let c0_i32_2 : BitVec 32 := 0#32
  let c1_i32 : BitVec 32 := 1#32
  let arg10 : BitVec 32 := Scf.iv c0_i32_2 c1_i32 k0_t1
  let v79 : Index := Scalar.indexCast arg10
  let c0_102 : Index := 0#32
  let c0_103 : Index := 0#32
  ![0, 1, v79.toNat, 0, 0]
def k0_off10 (k0_t1 : Fin k0_t1_loop.trips) : Fin 5 → Nat :=
  let c1_105 : Index := 1#32
  let c1_106 : Index := 1#32
  let c0_i32_2 : BitVec 32 := 0#32
  let c1_i32 : BitVec 32 := 1#32
  let arg10 : BitVec 32 := Scf.iv c0_i32_2 c1_i32 k0_t1
  let v84 : Index := Scalar.indexCast arg10
  let c0_107 : Index := 0#32
  let c0_108 : Index := 0#32
  ![1, 1, v84.toNat, 0, 0]
def k0_off11 (k0_t1 : Fin k0_t1_loop.trips) : Fin 5 → Nat :=
  let c2_110 : Index := 2#32
  let c1_111 : Index := 1#32
  let c0_i32_2 : BitVec 32 := 0#32
  let c1_i32 : BitVec 32 := 1#32
  let arg10 : BitVec 32 := Scf.iv c0_i32_2 c1_i32 k0_t1
  let v89 : Index := Scalar.indexCast arg10
  let c0_112 : Index := 0#32
  let c0_113 : Index := 0#32
  ![2, 1, v89.toNat, 0, 0]
def k0_off12 (k0_t1 : Fin k0_t1_loop.trips) : Fin 5 → Nat :=
  let c3_115 : Index := 3#32
  let c1_116 : Index := 1#32
  let c0_i32_2 : BitVec 32 := 0#32
  let c1_i32 : BitVec 32 := 1#32
  let arg10 : BitVec 32 := Scf.iv c0_i32_2 c1_i32 k0_t1
  let v94 : Index := Scalar.indexCast arg10
  let c0_117 : Index := 0#32
  let c0_118 : Index := 0#32
  ![3, 1, v94.toNat, 0, 0]
def k0_off13 (k0_t1 : Fin k0_t1_loop.trips) : Fin 5 → Nat :=
  let c4_120 : Index := 4#32
  let c1_121 : Index := 1#32
  let c0_i32_2 : BitVec 32 := 0#32
  let c1_i32 : BitVec 32 := 1#32
  let arg10 : BitVec 32 := Scf.iv c0_i32_2 c1_i32 k0_t1
  let v99 : Index := Scalar.indexCast arg10
  let c0_122 : Index := 0#32
  let c0_123 : Index := 0#32
  ![4, 1, v99.toNat, 0, 0]
def k0_off14 (k0_t1 : Fin k0_t1_loop.trips) : Fin 5 → Nat :=
  let c5_125 : Index := 5#32
  let c1_126 : Index := 1#32
  let c0_i32_2 : BitVec 32 := 0#32
  let c1_i32 : BitVec 32 := 1#32
  let arg10 : BitVec 32 := Scf.iv c0_i32_2 c1_i32 k0_t1
  let v104 : Index := Scalar.indexCast arg10
  let c0_127 : Index := 0#32
  let c0_128 : Index := 0#32
  ![5, 1, v104.toNat, 0, 0]
def k0_off15 (k0_t1 : Fin k0_t1_loop.trips) : Fin 5 → Nat :=
  let c6_130 : Index := 6#32
  let c1_131 : Index := 1#32
  let c0_i32_2 : BitVec 32 := 0#32
  let c1_i32 : BitVec 32 := 1#32
  let arg10 : BitVec 32 := Scf.iv c0_i32_2 c1_i32 k0_t1
  let v109 : Index := Scalar.indexCast arg10
  let c0_132 : Index := 0#32
  let c0_133 : Index := 0#32
  ![6, 1, v109.toNat, 0, 0]
def k0_off16 (k0_t1 : Fin k0_t1_loop.trips) : Fin 5 → Nat :=
  let c7_135 : Index := 7#32
  let c1_136 : Index := 1#32
  let c0_i32_2 : BitVec 32 := 0#32
  let c1_i32 : BitVec 32 := 1#32
  let arg10 : BitVec 32 := Scf.iv c0_i32_2 c1_i32 k0_t1
  let v114 : Index := Scalar.indexCast arg10
  let c0_137 : Index := 0#32
  let c0_138 : Index := 0#32
  ![7, 1, v114.toNat, 0, 0]
def k0_off17 (k0_t1 : Fin k0_t1_loop.trips) : Fin 5 → Nat :=
  let c0_140 : Index := 0#32
  let c0_141 : Index := 0#32
  let c0_i32_2 : BitVec 32 := 0#32
  let c1_i32 : BitVec 32 := 1#32
  let arg10 : BitVec 32 := Scf.iv c0_i32_2 c1_i32 k0_t1
  let v119 : Index := Scalar.indexCast arg10
  let c0_142 : Index := 0#32
  let c0_143 : Index := 0#32
  ![0, 0, v119.toNat, 0, 0]
def k0_off18 (k0_t1 : Fin k0_t1_loop.trips) : Fin 5 → Nat :=
  let c1_144 : Index := 1#32
  let c0_145 : Index := 0#32
  let c0_i32_2 : BitVec 32 := 0#32
  let c1_i32 : BitVec 32 := 1#32
  let arg10 : BitVec 32 := Scf.iv c0_i32_2 c1_i32 k0_t1
  let v126 : Index := Scalar.indexCast arg10
  let c0_146 : Index := 0#32
  let c0_147 : Index := 0#32
  ![1, 0, v126.toNat, 0, 0]
def k0_off19 (k0_t1 : Fin k0_t1_loop.trips) : Fin 5 → Nat :=
  let c2_148 : Index := 2#32
  let c0_149 : Index := 0#32
  let c0_i32_2 : BitVec 32 := 0#32
  let c1_i32 : BitVec 32 := 1#32
  let arg10 : BitVec 32 := Scf.iv c0_i32_2 c1_i32 k0_t1
  let v133 : Index := Scalar.indexCast arg10
  let c0_150 : Index := 0#32
  let c0_151 : Index := 0#32
  ![2, 0, v133.toNat, 0, 0]
def k0_off20 (k0_t1 : Fin k0_t1_loop.trips) : Fin 5 → Nat :=
  let c3_152 : Index := 3#32
  let c0_153 : Index := 0#32
  let c0_i32_2 : BitVec 32 := 0#32
  let c1_i32 : BitVec 32 := 1#32
  let arg10 : BitVec 32 := Scf.iv c0_i32_2 c1_i32 k0_t1
  let v140 : Index := Scalar.indexCast arg10
  let c0_154 : Index := 0#32
  let c0_155 : Index := 0#32
  ![3, 0, v140.toNat, 0, 0]
def k0_off21 (k0_t1 : Fin k0_t1_loop.trips) : Fin 5 → Nat :=
  let c4_156 : Index := 4#32
  let c0_157 : Index := 0#32
  let c0_i32_2 : BitVec 32 := 0#32
  let c1_i32 : BitVec 32 := 1#32
  let arg10 : BitVec 32 := Scf.iv c0_i32_2 c1_i32 k0_t1
  let v147 : Index := Scalar.indexCast arg10
  let c0_158 : Index := 0#32
  let c0_159 : Index := 0#32
  ![4, 0, v147.toNat, 0, 0]
def k0_off22 (k0_t1 : Fin k0_t1_loop.trips) : Fin 5 → Nat :=
  let c5_160 : Index := 5#32
  let c0_161 : Index := 0#32
  let c0_i32_2 : BitVec 32 := 0#32
  let c1_i32 : BitVec 32 := 1#32
  let arg10 : BitVec 32 := Scf.iv c0_i32_2 c1_i32 k0_t1
  let v154 : Index := Scalar.indexCast arg10
  let c0_162 : Index := 0#32
  let c0_163 : Index := 0#32
  ![5, 0, v154.toNat, 0, 0]
def k0_off23 (k0_t1 : Fin k0_t1_loop.trips) : Fin 5 → Nat :=
  let c6_164 : Index := 6#32
  let c0_165 : Index := 0#32
  let c0_i32_2 : BitVec 32 := 0#32
  let c1_i32 : BitVec 32 := 1#32
  let arg10 : BitVec 32 := Scf.iv c0_i32_2 c1_i32 k0_t1
  let v161 : Index := Scalar.indexCast arg10
  let c0_166 : Index := 0#32
  let c0_167 : Index := 0#32
  ![6, 0, v161.toNat, 0, 0]
def k0_off24 (k0_t1 : Fin k0_t1_loop.trips) : Fin 5 → Nat :=
  let c7_168 : Index := 7#32
  let c0_169 : Index := 0#32
  let c0_i32_2 : BitVec 32 := 0#32
  let c1_i32 : BitVec 32 := 1#32
  let arg10 : BitVec 32 := Scf.iv c0_i32_2 c1_i32 k0_t1
  let v168 : Index := Scalar.indexCast arg10
  let c0_170 : Index := 0#32
  let c0_171 : Index := 0#32
  ![7, 0, v168.toNat, 0, 0]
def k0_off25 (k0_t1 : Fin k0_t1_loop.trips) : Fin 5 → Nat :=
  let c0_172 : Index := 0#32
  let c1_173 : Index := 1#32
  let c0_i32_2 : BitVec 32 := 0#32
  let c1_i32 : BitVec 32 := 1#32
  let arg10 : BitVec 32 := Scf.iv c0_i32_2 c1_i32 k0_t1
  let v175 : Index := Scalar.indexCast arg10
  let c0_174 : Index := 0#32
  let c0_175 : Index := 0#32
  ![0, 1, v175.toNat, 0, 0]
def k0_off26 (k0_t1 : Fin k0_t1_loop.trips) : Fin 5 → Nat :=
  let c1_176 : Index := 1#32
  let c1_177 : Index := 1#32
  let c0_i32_2 : BitVec 32 := 0#32
  let c1_i32 : BitVec 32 := 1#32
  let arg10 : BitVec 32 := Scf.iv c0_i32_2 c1_i32 k0_t1
  let v182 : Index := Scalar.indexCast arg10
  let c0_178 : Index := 0#32
  let c0_179 : Index := 0#32
  ![1, 1, v182.toNat, 0, 0]
def k0_off27 (k0_t1 : Fin k0_t1_loop.trips) : Fin 5 → Nat :=
  let c2_180 : Index := 2#32
  let c1_181 : Index := 1#32
  let c0_i32_2 : BitVec 32 := 0#32
  let c1_i32 : BitVec 32 := 1#32
  let arg10 : BitVec 32 := Scf.iv c0_i32_2 c1_i32 k0_t1
  let v189 : Index := Scalar.indexCast arg10
  let c0_182 : Index := 0#32
  let c0_183 : Index := 0#32
  ![2, 1, v189.toNat, 0, 0]
def k0_off28 (k0_t1 : Fin k0_t1_loop.trips) : Fin 5 → Nat :=
  let c3_184 : Index := 3#32
  let c1_185 : Index := 1#32
  let c0_i32_2 : BitVec 32 := 0#32
  let c1_i32 : BitVec 32 := 1#32
  let arg10 : BitVec 32 := Scf.iv c0_i32_2 c1_i32 k0_t1
  let v196 : Index := Scalar.indexCast arg10
  let c0_186 : Index := 0#32
  let c0_187 : Index := 0#32
  ![3, 1, v196.toNat, 0, 0]
def k0_off29 (k0_t1 : Fin k0_t1_loop.trips) : Fin 5 → Nat :=
  let c4_188 : Index := 4#32
  let c1_189 : Index := 1#32
  let c0_i32_2 : BitVec 32 := 0#32
  let c1_i32 : BitVec 32 := 1#32
  let arg10 : BitVec 32 := Scf.iv c0_i32_2 c1_i32 k0_t1
  let v203 : Index := Scalar.indexCast arg10
  let c0_190 : Index := 0#32
  let c0_191 : Index := 0#32
  ![4, 1, v203.toNat, 0, 0]
def k0_off30 (k0_t1 : Fin k0_t1_loop.trips) : Fin 5 → Nat :=
  let c5_192 : Index := 5#32
  let c1_193 : Index := 1#32
  let c0_i32_2 : BitVec 32 := 0#32
  let c1_i32 : BitVec 32 := 1#32
  let arg10 : BitVec 32 := Scf.iv c0_i32_2 c1_i32 k0_t1
  let v210 : Index := Scalar.indexCast arg10
  let c0_194 : Index := 0#32
  let c0_195 : Index := 0#32
  ![5, 1, v210.toNat, 0, 0]
def k0_off31 (k0_t1 : Fin k0_t1_loop.trips) : Fin 5 → Nat :=
  let c6_196 : Index := 6#32
  let c1_197 : Index := 1#32
  let c0_i32_2 : BitVec 32 := 0#32
  let c1_i32 : BitVec 32 := 1#32
  let arg10 : BitVec 32 := Scf.iv c0_i32_2 c1_i32 k0_t1
  let v217 : Index := Scalar.indexCast arg10
  let c0_198 : Index := 0#32
  let c0_199 : Index := 0#32
  ![6, 1, v217.toNat, 0, 0]
def k0_off32 (k0_t1 : Fin k0_t1_loop.trips) : Fin 5 → Nat :=
  let c7_200 : Index := 7#32
  let c1_201 : Index := 1#32
  let c0_i32_2 : BitVec 32 := 0#32
  let c1_i32 : BitVec 32 := 1#32
  let arg10 : BitVec 32 := Scf.iv c0_i32_2 c1_i32 k0_t1
  let v224 : Index := Scalar.indexCast arg10
  let c0_202 : Index := 0#32
  let c0_203 : Index := 0#32
  ![7, 1, v224.toNat, 0, 0]
def k0_off33 (k0_t1 : Fin k0_t1_loop.trips) : Fin 5 → Nat :=
  let c0_284 : Index := 0#32
  let c0_285 : Index := 0#32
  let c0_i32_2 : BitVec 32 := 0#32
  let c1_i32 : BitVec 32 := 1#32
  let arg10 : BitVec 32 := Scf.iv c0_i32_2 c1_i32 k0_t1
  let v296 : Index := Scalar.indexCast arg10
  let c0_286 : Index := 0#32
  let c0_287 : Index := 0#32
  ![0, 0, v296.toNat, 0, 0]
def k0_off34 (k0_t1 : Fin k0_t1_loop.trips) : Fin 5 → Nat :=
  let c1_289 : Index := 1#32
  let c0_290 : Index := 0#32
  let c0_i32_2 : BitVec 32 := 0#32
  let c1_i32 : BitVec 32 := 1#32
  let arg10 : BitVec 32 := Scf.iv c0_i32_2 c1_i32 k0_t1
  let v302 : Index := Scalar.indexCast arg10
  let c0_291 : Index := 0#32
  let c0_292 : Index := 0#32
  ![1, 0, v302.toNat, 0, 0]
def k0_off35 (k0_t1 : Fin k0_t1_loop.trips) : Fin 5 → Nat :=
  let c2_294 : Index := 2#32
  let c0_295 : Index := 0#32
  let c0_i32_2 : BitVec 32 := 0#32
  let c1_i32 : BitVec 32 := 1#32
  let arg10 : BitVec 32 := Scf.iv c0_i32_2 c1_i32 k0_t1
  let v308 : Index := Scalar.indexCast arg10
  let c0_296 : Index := 0#32
  let c0_297 : Index := 0#32
  ![2, 0, v308.toNat, 0, 0]
def k0_off36 (k0_t1 : Fin k0_t1_loop.trips) : Fin 5 → Nat :=
  let c3_299 : Index := 3#32
  let c0_300 : Index := 0#32
  let c0_i32_2 : BitVec 32 := 0#32
  let c1_i32 : BitVec 32 := 1#32
  let arg10 : BitVec 32 := Scf.iv c0_i32_2 c1_i32 k0_t1
  let v314 : Index := Scalar.indexCast arg10
  let c0_301 : Index := 0#32
  let c0_302 : Index := 0#32
  ![3, 0, v314.toNat, 0, 0]
def k0_off37 (k0_t1 : Fin k0_t1_loop.trips) : Fin 5 → Nat :=
  let c4_304 : Index := 4#32
  let c0_305 : Index := 0#32
  let c0_i32_2 : BitVec 32 := 0#32
  let c1_i32 : BitVec 32 := 1#32
  let arg10 : BitVec 32 := Scf.iv c0_i32_2 c1_i32 k0_t1
  let v320 : Index := Scalar.indexCast arg10
  let c0_306 : Index := 0#32
  let c0_307 : Index := 0#32
  ![4, 0, v320.toNat, 0, 0]
def k0_off38 (k0_t1 : Fin k0_t1_loop.trips) : Fin 5 → Nat :=
  let c5_309 : Index := 5#32
  let c0_310 : Index := 0#32
  let c0_i32_2 : BitVec 32 := 0#32
  let c1_i32 : BitVec 32 := 1#32
  let arg10 : BitVec 32 := Scf.iv c0_i32_2 c1_i32 k0_t1
  let v326 : Index := Scalar.indexCast arg10
  let c0_311 : Index := 0#32
  let c0_312 : Index := 0#32
  ![5, 0, v326.toNat, 0, 0]
def k0_off39 (k0_t1 : Fin k0_t1_loop.trips) : Fin 5 → Nat :=
  let c6_314 : Index := 6#32
  let c0_315 : Index := 0#32
  let c0_i32_2 : BitVec 32 := 0#32
  let c1_i32 : BitVec 32 := 1#32
  let arg10 : BitVec 32 := Scf.iv c0_i32_2 c1_i32 k0_t1
  let v332 : Index := Scalar.indexCast arg10
  let c0_316 : Index := 0#32
  let c0_317 : Index := 0#32
  ![6, 0, v332.toNat, 0, 0]
def k0_off40 (k0_t1 : Fin k0_t1_loop.trips) : Fin 5 → Nat :=
  let c7_319 : Index := 7#32
  let c0_320 : Index := 0#32
  let c0_i32_2 : BitVec 32 := 0#32
  let c1_i32 : BitVec 32 := 1#32
  let arg10 : BitVec 32 := Scf.iv c0_i32_2 c1_i32 k0_t1
  let v338 : Index := Scalar.indexCast arg10
  let c0_321 : Index := 0#32
  let c0_322 : Index := 0#32
  ![7, 0, v338.toNat, 0, 0]
def k0_off41 (k0_t1 : Fin k0_t1_loop.trips) : Fin 5 → Nat :=
  let c0_324 : Index := 0#32
  let c1_325 : Index := 1#32
  let c0_i32_2 : BitVec 32 := 0#32
  let c1_i32 : BitVec 32 := 1#32
  let arg10 : BitVec 32 := Scf.iv c0_i32_2 c1_i32 k0_t1
  let v344 : Index := Scalar.indexCast arg10
  let c0_326 : Index := 0#32
  let c0_327 : Index := 0#32
  ![0, 1, v344.toNat, 0, 0]
def k0_off42 (k0_t1 : Fin k0_t1_loop.trips) : Fin 5 → Nat :=
  let c1_329 : Index := 1#32
  let c1_330 : Index := 1#32
  let c0_i32_2 : BitVec 32 := 0#32
  let c1_i32 : BitVec 32 := 1#32
  let arg10 : BitVec 32 := Scf.iv c0_i32_2 c1_i32 k0_t1
  let v350 : Index := Scalar.indexCast arg10
  let c0_331 : Index := 0#32
  let c0_332 : Index := 0#32
  ![1, 1, v350.toNat, 0, 0]
def k0_off43 (k0_t1 : Fin k0_t1_loop.trips) : Fin 5 → Nat :=
  let c2_334 : Index := 2#32
  let c1_335 : Index := 1#32
  let c0_i32_2 : BitVec 32 := 0#32
  let c1_i32 : BitVec 32 := 1#32
  let arg10 : BitVec 32 := Scf.iv c0_i32_2 c1_i32 k0_t1
  let v356 : Index := Scalar.indexCast arg10
  let c0_336 : Index := 0#32
  let c0_337 : Index := 0#32
  ![2, 1, v356.toNat, 0, 0]
def k0_off44 (k0_t1 : Fin k0_t1_loop.trips) : Fin 5 → Nat :=
  let c3_339 : Index := 3#32
  let c1_340 : Index := 1#32
  let c0_i32_2 : BitVec 32 := 0#32
  let c1_i32 : BitVec 32 := 1#32
  let arg10 : BitVec 32 := Scf.iv c0_i32_2 c1_i32 k0_t1
  let v362 : Index := Scalar.indexCast arg10
  let c0_341 : Index := 0#32
  let c0_342 : Index := 0#32
  ![3, 1, v362.toNat, 0, 0]
def k0_off45 (k0_t1 : Fin k0_t1_loop.trips) : Fin 5 → Nat :=
  let c4_344 : Index := 4#32
  let c1_345 : Index := 1#32
  let c0_i32_2 : BitVec 32 := 0#32
  let c1_i32 : BitVec 32 := 1#32
  let arg10 : BitVec 32 := Scf.iv c0_i32_2 c1_i32 k0_t1
  let v368 : Index := Scalar.indexCast arg10
  let c0_346 : Index := 0#32
  let c0_347 : Index := 0#32
  ![4, 1, v368.toNat, 0, 0]
def k0_off46 (k0_t1 : Fin k0_t1_loop.trips) : Fin 5 → Nat :=
  let c5_349 : Index := 5#32
  let c1_350 : Index := 1#32
  let c0_i32_2 : BitVec 32 := 0#32
  let c1_i32 : BitVec 32 := 1#32
  let arg10 : BitVec 32 := Scf.iv c0_i32_2 c1_i32 k0_t1
  let v374 : Index := Scalar.indexCast arg10
  let c0_351 : Index := 0#32
  let c0_352 : Index := 0#32
  ![5, 1, v374.toNat, 0, 0]
def k0_off47 (k0_t1 : Fin k0_t1_loop.trips) : Fin 5 → Nat :=
  let c6_354 : Index := 6#32
  let c1_355 : Index := 1#32
  let c0_i32_2 : BitVec 32 := 0#32
  let c1_i32 : BitVec 32 := 1#32
  let arg10 : BitVec 32 := Scf.iv c0_i32_2 c1_i32 k0_t1
  let v380 : Index := Scalar.indexCast arg10
  let c0_356 : Index := 0#32
  let c0_357 : Index := 0#32
  ![6, 1, v380.toNat, 0, 0]
def k0_off48 (k0_t1 : Fin k0_t1_loop.trips) : Fin 5 → Nat :=
  let c7_359 : Index := 7#32
  let c1_360 : Index := 1#32
  let c0_i32_2 : BitVec 32 := 0#32
  let c1_i32 : BitVec 32 := 1#32
  let arg10 : BitVec 32 := Scf.iv c0_i32_2 c1_i32 k0_t1
  let v386 : Index := Scalar.indexCast arg10
  let c0_361 : Index := 0#32
  let c0_362 : Index := 0#32
  ![7, 1, v386.toNat, 0, 0]
def k0_off49 (k0_t1 : Fin k0_t1_loop.trips) : Fin 5 → Nat :=
  let c0_364 : Index := 0#32
  let c0_365 : Index := 0#32
  let c0_i32_2 : BitVec 32 := 0#32
  let c1_i32 : BitVec 32 := 1#32
  let arg10 : BitVec 32 := Scf.iv c0_i32_2 c1_i32 k0_t1
  let v391 : Index := Scalar.indexCast arg10
  let c0_366 : Index := 0#32
  let c0_367 : Index := 0#32
  ![0, 0, v391.toNat, 0, 0]
def k0_off50 (k0_t1 : Fin k0_t1_loop.trips) : Fin 5 → Nat :=
  let c1_372 : Index := 1#32
  let c0_373 : Index := 0#32
  let c0_i32_2 : BitVec 32 := 0#32
  let c1_i32 : BitVec 32 := 1#32
  let arg10 : BitVec 32 := Scf.iv c0_i32_2 c1_i32 k0_t1
  let v400 : Index := Scalar.indexCast arg10
  let c0_374 : Index := 0#32
  let c0_375 : Index := 0#32
  ![1, 0, v400.toNat, 0, 0]
def k0_off51 (k0_t1 : Fin k0_t1_loop.trips) : Fin 5 → Nat :=
  let c2_380 : Index := 2#32
  let c0_381 : Index := 0#32
  let c0_i32_2 : BitVec 32 := 0#32
  let c1_i32 : BitVec 32 := 1#32
  let arg10 : BitVec 32 := Scf.iv c0_i32_2 c1_i32 k0_t1
  let v409 : Index := Scalar.indexCast arg10
  let c0_382 : Index := 0#32
  let c0_383 : Index := 0#32
  ![2, 0, v409.toNat, 0, 0]
def k0_off52 (k0_t1 : Fin k0_t1_loop.trips) : Fin 5 → Nat :=
  let c3_388 : Index := 3#32
  let c0_389 : Index := 0#32
  let c0_i32_2 : BitVec 32 := 0#32
  let c1_i32 : BitVec 32 := 1#32
  let arg10 : BitVec 32 := Scf.iv c0_i32_2 c1_i32 k0_t1
  let v418 : Index := Scalar.indexCast arg10
  let c0_390 : Index := 0#32
  let c0_391 : Index := 0#32
  ![3, 0, v418.toNat, 0, 0]
def k0_off53 (k0_t1 : Fin k0_t1_loop.trips) : Fin 5 → Nat :=
  let c4_396 : Index := 4#32
  let c0_397 : Index := 0#32
  let c0_i32_2 : BitVec 32 := 0#32
  let c1_i32 : BitVec 32 := 1#32
  let arg10 : BitVec 32 := Scf.iv c0_i32_2 c1_i32 k0_t1
  let v427 : Index := Scalar.indexCast arg10
  let c0_398 : Index := 0#32
  let c0_399 : Index := 0#32
  ![4, 0, v427.toNat, 0, 0]
def k0_off54 (k0_t1 : Fin k0_t1_loop.trips) : Fin 5 → Nat :=
  let c5_404 : Index := 5#32
  let c0_405 : Index := 0#32
  let c0_i32_2 : BitVec 32 := 0#32
  let c1_i32 : BitVec 32 := 1#32
  let arg10 : BitVec 32 := Scf.iv c0_i32_2 c1_i32 k0_t1
  let v436 : Index := Scalar.indexCast arg10
  let c0_406 : Index := 0#32
  let c0_407 : Index := 0#32
  ![5, 0, v436.toNat, 0, 0]
def k0_off55 (k0_t1 : Fin k0_t1_loop.trips) : Fin 5 → Nat :=
  let c6_412 : Index := 6#32
  let c0_413 : Index := 0#32
  let c0_i32_2 : BitVec 32 := 0#32
  let c1_i32 : BitVec 32 := 1#32
  let arg10 : BitVec 32 := Scf.iv c0_i32_2 c1_i32 k0_t1
  let v445 : Index := Scalar.indexCast arg10
  let c0_414 : Index := 0#32
  let c0_415 : Index := 0#32
  ![6, 0, v445.toNat, 0, 0]
def k0_off56 (k0_t1 : Fin k0_t1_loop.trips) : Fin 5 → Nat :=
  let c7_420 : Index := 7#32
  let c0_421 : Index := 0#32
  let c0_i32_2 : BitVec 32 := 0#32
  let c1_i32 : BitVec 32 := 1#32
  let arg10 : BitVec 32 := Scf.iv c0_i32_2 c1_i32 k0_t1
  let v454 : Index := Scalar.indexCast arg10
  let c0_422 : Index := 0#32
  let c0_423 : Index := 0#32
  ![7, 0, v454.toNat, 0, 0]
def k0_off57 (k0_t1 : Fin k0_t1_loop.trips) : Fin 5 → Nat :=
  let c0_428 : Index := 0#32
  let c1_429 : Index := 1#32
  let c0_i32_2 : BitVec 32 := 0#32
  let c1_i32 : BitVec 32 := 1#32
  let arg10 : BitVec 32 := Scf.iv c0_i32_2 c1_i32 k0_t1
  let v463 : Index := Scalar.indexCast arg10
  let c0_430 : Index := 0#32
  let c0_431 : Index := 0#32
  ![0, 1, v463.toNat, 0, 0]
def k0_off58 (k0_t1 : Fin k0_t1_loop.trips) : Fin 5 → Nat :=
  let c1_436 : Index := 1#32
  let c1_437 : Index := 1#32
  let c0_i32_2 : BitVec 32 := 0#32
  let c1_i32 : BitVec 32 := 1#32
  let arg10 : BitVec 32 := Scf.iv c0_i32_2 c1_i32 k0_t1
  let v472 : Index := Scalar.indexCast arg10
  let c0_438 : Index := 0#32
  let c0_439 : Index := 0#32
  ![1, 1, v472.toNat, 0, 0]
def k0_off59 (k0_t1 : Fin k0_t1_loop.trips) : Fin 5 → Nat :=
  let c2_444 : Index := 2#32
  let c1_445 : Index := 1#32
  let c0_i32_2 : BitVec 32 := 0#32
  let c1_i32 : BitVec 32 := 1#32
  let arg10 : BitVec 32 := Scf.iv c0_i32_2 c1_i32 k0_t1
  let v481 : Index := Scalar.indexCast arg10
  let c0_446 : Index := 0#32
  let c0_447 : Index := 0#32
  ![2, 1, v481.toNat, 0, 0]
def k0_off60 (k0_t1 : Fin k0_t1_loop.trips) : Fin 5 → Nat :=
  let c3_452 : Index := 3#32
  let c1_453 : Index := 1#32
  let c0_i32_2 : BitVec 32 := 0#32
  let c1_i32 : BitVec 32 := 1#32
  let arg10 : BitVec 32 := Scf.iv c0_i32_2 c1_i32 k0_t1
  let v490 : Index := Scalar.indexCast arg10
  let c0_454 : Index := 0#32
  let c0_455 : Index := 0#32
  ![3, 1, v490.toNat, 0, 0]
def k0_off61 (k0_t1 : Fin k0_t1_loop.trips) : Fin 5 → Nat :=
  let c4_460 : Index := 4#32
  let c1_461 : Index := 1#32
  let c0_i32_2 : BitVec 32 := 0#32
  let c1_i32 : BitVec 32 := 1#32
  let arg10 : BitVec 32 := Scf.iv c0_i32_2 c1_i32 k0_t1
  let v499 : Index := Scalar.indexCast arg10
  let c0_462 : Index := 0#32
  let c0_463 : Index := 0#32
  ![4, 1, v499.toNat, 0, 0]
def k0_off62 (k0_t1 : Fin k0_t1_loop.trips) : Fin 5 → Nat :=
  let c5_468 : Index := 5#32
  let c1_469 : Index := 1#32
  let c0_i32_2 : BitVec 32 := 0#32
  let c1_i32 : BitVec 32 := 1#32
  let arg10 : BitVec 32 := Scf.iv c0_i32_2 c1_i32 k0_t1
  let v508 : Index := Scalar.indexCast arg10
  let c0_470 : Index := 0#32
  let c0_471 : Index := 0#32
  ![5, 1, v508.toNat, 0, 0]
def k0_off63 (k0_t1 : Fin k0_t1_loop.trips) : Fin 5 → Nat :=
  let c6_476 : Index := 6#32
  let c1_477 : Index := 1#32
  let c0_i32_2 : BitVec 32 := 0#32
  let c1_i32 : BitVec 32 := 1#32
  let arg10 : BitVec 32 := Scf.iv c0_i32_2 c1_i32 k0_t1
  let v517 : Index := Scalar.indexCast arg10
  let c0_478 : Index := 0#32
  let c0_479 : Index := 0#32
  ![6, 1, v517.toNat, 0, 0]
def k0_off64 (k0_t1 : Fin k0_t1_loop.trips) : Fin 5 → Nat :=
  let c7_484 : Index := 7#32
  let c1_485 : Index := 1#32
  let c0_i32_2 : BitVec 32 := 0#32
  let c1_i32 : BitVec 32 := 1#32
  let arg10 : BitVec 32 := Scf.iv c0_i32_2 c1_i32 k0_t1
  let v526 : Index := Scalar.indexCast arg10
  let c0_486 : Index := 0#32
  let c0_487 : Index := 0#32
  ![7, 1, v526.toNat, 0, 0]
def k0_off65 (k0_t1 : Fin k0_t1_loop.trips) : Fin 3 → Nat :=
  let c0_494 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v540 : Index := Scalar.indexCast v6
  let c0_495 : Index := 0#32
  ![0, v540.toNat, 0]
def k0_off66 (k0_t1 : Fin k0_t1_loop.trips) : Fin 3 → Nat :=
  let c0_502 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v567 : Index := Scalar.indexCast v6
  let c128 : Index := 128#32
  ![0, v567.toNat, 128]
def k0_off67 (k0_t1 : Fin k0_t1_loop.trips) : Fin 3 → Nat :=
  let c0_509 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v594 : Index := Scalar.indexCast v6
  let c256 : Index := 256#32
  ![0, v594.toNat, 256]
def k0_off68 (k0_t1 : Fin k0_t1_loop.trips) : Fin 3 → Nat :=
  let c0_516 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v621 : Index := Scalar.indexCast v6
  let c384 : Index := 384#32
  ![0, v621.toNat, 384]
def k0_off69 (k0_t1 : Fin k0_t1_loop.trips) : Fin 3 → Nat :=
  let c0_523 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v648 : Index := Scalar.indexCast v6
  let c512 : Index := 512#32
  ![0, v648.toNat, 512]
def k0_off70 (k0_t1 : Fin k0_t1_loop.trips) : Fin 3 → Nat :=
  let c0_530 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v675 : Index := Scalar.indexCast v6
  let c640 : Index := 640#32
  ![0, v675.toNat, 640]
def k0_off71 (k0_t1 : Fin k0_t1_loop.trips) : Fin 3 → Nat :=
  let c0_537 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v702 : Index := Scalar.indexCast v6
  let c768 : Index := 768#32
  ![0, v702.toNat, 768]
def k0_off72 (k0_t1 : Fin k0_t1_loop.trips) : Fin 3 → Nat :=
  let c0_544 : Index := 0#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v729 : Index := Scalar.indexCast v6
  let c896 : Index := 896#32
  ![0, v729.toNat, 896]
def k0_off73 (k0_t1 : Fin k0_t1_loop.trips) : Fin 3 → Nat :=
  let c1_551 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v756 : Index := Scalar.indexCast v6
  let c0_552 : Index := 0#32
  ![1, v756.toNat, 0]
def k0_off74 (k0_t1 : Fin k0_t1_loop.trips) : Fin 3 → Nat :=
  let c1_559 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v783 : Index := Scalar.indexCast v6
  let c128_560 : Index := 128#32
  ![1, v783.toNat, 128]
def k0_off75 (k0_t1 : Fin k0_t1_loop.trips) : Fin 3 → Nat :=
  let c1_567 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v810 : Index := Scalar.indexCast v6
  let c256_568 : Index := 256#32
  ![1, v810.toNat, 256]
def k0_off76 (k0_t1 : Fin k0_t1_loop.trips) : Fin 3 → Nat :=
  let c1_575 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v837 : Index := Scalar.indexCast v6
  let c384_576 : Index := 384#32
  ![1, v837.toNat, 384]
def k0_off77 (k0_t1 : Fin k0_t1_loop.trips) : Fin 3 → Nat :=
  let c1_583 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v864 : Index := Scalar.indexCast v6
  let c512_584 : Index := 512#32
  ![1, v864.toNat, 512]
def k0_off78 (k0_t1 : Fin k0_t1_loop.trips) : Fin 3 → Nat :=
  let c1_591 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v891 : Index := Scalar.indexCast v6
  let c640_592 : Index := 640#32
  ![1, v891.toNat, 640]
def k0_off79 (k0_t1 : Fin k0_t1_loop.trips) : Fin 3 → Nat :=
  let c1_599 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v918 : Index := Scalar.indexCast v6
  let c768_600 : Index := 768#32
  ![1, v918.toNat, 768]
def k0_off80 (k0_t1 : Fin k0_t1_loop.trips) : Fin 3 → Nat :=
  let c1_607 : Index := 1#32
  let c0_i32_2 : BitVec 32 := 0#32
  let c1_i32 : BitVec 32 := 1#32
  let arg10 : BitVec 32 := Scf.iv c0_i32_2 c1_i32 k0_t1
  let c64_i32 : BitVec 32 := 64#32
  let v5 : BitVec 32 := Scalar.muli arg10 c64_i32
  let v6 : BitVec 32 := v5
  let v945 : Index := Scalar.indexCast v6
  let c896_608 : Index := 896#32
  ![1, v945.toNat, 896]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x2x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x8x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2x8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScanRefIdeal.lean ====
abbrev S8x128x128x128 : Shape := ⟨4, ![8, 128, 128, 128]⟩
abbrev S8x128x64x128 : Shape := ⟨4, ![8, 128, 64, 128]⟩
abbrev S8x128x64x64 : Shape := ⟨4, ![8, 128, 64, 64]⟩
abbrev S8x128x1x128 : Shape := ⟨4, ![8, 128, 1, 128]⟩
abbrev S8192x7168 : Shape := ⟨2, ![8192, 7168]⟩
abbrev S1x128 : Shape := ⟨2, ![1, 128]⟩
abbrev S8x2x64x128x128 : Shape := ⟨5, ![8, 2, 64, 128, 128]⟩
abbrev S64x8x2x128x128 : Shape := ⟨5, ![64, 8, 2, 128, 128]⟩
abbrev S64x2x8x128x128 : Shape := ⟨5, ![64, 2, 8, 128, 128]⟩
abbrev S8x2x64x64x128 : Shape := ⟨5, ![8, 2, 64, 64, 128]⟩
abbrev S64x8x2x64x128 : Shape := ⟨5, ![64, 8, 2, 64, 128]⟩
abbrev S64x2x8x64x128 : Shape := ⟨5, ![64, 2, 8, 64, 128]⟩
abbrev S8x2x64x64x64 : Shape := ⟨5, ![8, 2, 64, 64, 64]⟩
abbrev S64x8x2x64x64 : Shape := ⟨5, ![64, 8, 2, 64, 64]⟩
abbrev S64x2x8x64x64 : Shape := ⟨5, ![64, 2, 8, 64, 64]⟩
abbrev S8x2x64x1x128 : Shape := ⟨5, ![8, 2, 64, 1, 128]⟩
abbrev S64x8x2x1x128 : Shape := ⟨5, ![64, 8, 2, 1, 128]⟩
abbrev S64x2x8x1x128 : Shape := ⟨5, ![64, 2, 8, 1, 128]⟩
abbrev S_ : Shape := ⟨0, ![]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8x1x128 : Shape := ⟨5, ![1, 2, 8, 1, 128]⟩
abbrev S2x8x1x128 : Shape := ⟨4, ![2, 8, 1, 128]⟩
abbrev S2x8x64x64x128 : Shape := ⟨5, ![2, 8, 64, 64, 128]⟩
abbrev S2x8x4096x128 : Shape := ⟨4, ![2, 8, 4096, 128]⟩
abbrev S2x4096x8x128 : Shape := ⟨4, ![2, 4096, 8, 128]⟩
abbrev S8192x1024 : Shape := ⟨2, ![8192, 1024]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩
abbrev S2x4096x1024 : Shape := ⟨3, ![2, 4096, 1024]⟩

abbrev nBuf : Space → Nat
  | .hbm => 132
  | .vmem => 0
  | .smem => 0
  | _ => 0

abbrev hbmTy0_0 (i : Nat) : BufTy := match i % 128 with
  | 0 => ⟨S8x128x128x128, .bf16⟩
  | 1 => ⟨S8x128x64x128, .bf16⟩
  | 2 => ⟨S8x128x64x128, .bf16⟩
  | 3 => ⟨S8x128x64x64, .bf16⟩
  | 4 => ⟨S8x128x1x128, .f32⟩
  | 5 => ⟨S8192x7168, .bf16⟩
  | 6 => ⟨S1x128, .f32⟩
  | 7 => ⟨S8x128x128x128, .f32⟩
  | 8 => ⟨S8x2x64x128x128, .f32⟩
  | 9 => ⟨S64x8x2x128x128, .f32⟩
  | 10 => ⟨S64x2x8x128x128, .f32⟩
  | 11 => ⟨S8x128x64x128, .f32⟩
  | 12 => ⟨S8x2x64x64x128, .f32⟩
  | 13 => ⟨S64x8x2x64x128, .f32⟩
  | 14 => ⟨S64x2x8x64x128, .f32⟩
  | 15 => ⟨S8x128x64x128, .f32⟩
  | 16 => ⟨S8x2x64x64x128, .f32⟩
  | 17 => ⟨S64x8x2x64x128, .f32⟩
  | 18 => ⟨S64x2x8x64x128, .f32⟩
  | 19 => ⟨S8x128x64x64, .f32⟩
  | 20 => ⟨S8x2x64x64x64, .f32⟩
  | 21 => ⟨S64x8x2x64x64, .f32⟩
  | 22 => ⟨S64x2x8x64x64, .f32⟩
  | 23 => ⟨S8x2x64x1x128, .f32⟩
  | 24 => ⟨S64x8x2x1x128, .f32⟩
  | 25 => ⟨S64x2x8x1x128, .f32⟩
  | 26 => ⟨S64x2x8x64x128, .f32⟩
  | 27 => ⟨S64x2x8x64x128, .f32⟩
  | 28 => ⟨S_, .f32⟩
  | 29 => ⟨S2x8x128x128, .f32⟩
  | 30 => ⟨S_, .f32⟩
  | 31 => ⟨S64x2x8x64x128, .f32⟩
  | 32 => ⟨S_, .i32⟩
  | 33 => ⟨S64x2x8x64x128, .f32⟩
  | 34 => ⟨S64x2x8x64x64, .f32⟩
  | 35 => ⟨S64x2x8x64x128, .f32⟩
  | 36 => ⟨S64x2x8x64x128, .f32⟩
  | 37 => ⟨S64x2x8x64x128, .f32⟩
  | 38 => ⟨S64x2x8x1x128, .f32⟩
  | 39 => ⟨S_, .i32⟩
  | 40 => ⟨S2x8x128x128, .f32⟩
  | 41 => ⟨S64x2x8x64x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x2x8x64x128, .f32⟩
  | 49 => ⟨S2x8x64x128, .f32⟩
  | 50 => ⟨S_, .i32⟩
  | 51 => ⟨S_, .i32⟩
  | 52 => ⟨S_, .i32⟩
  | 53 => ⟨S_, .i32⟩
  | 54 => ⟨S1x2x8x64x64, .f32⟩
  | 55 => ⟨S2x8x64x64, .f32⟩
  | 56 => ⟨S_, .i32⟩
  | 57 => ⟨S_, .i32⟩
  | 58 => ⟨S_, .i32⟩
  | 59 => ⟨S_, .i32⟩
  | 60 => ⟨S1x2x8x64x128, .f32⟩
  | 61 => ⟨S2x8x64x128, .f32⟩
  | 62 => ⟨S_, .i32⟩
  | 63 => ⟨S_, .i32⟩
  | 64 => ⟨S_, .i32⟩
  | 65 => ⟨S_, .i32⟩
  | 66 => ⟨S1x2x8x64x128, .f32⟩
  | 67 => ⟨S2x8x64x128, .f32⟩
  | 68 => ⟨S_, .i32⟩
  | 69 => ⟨S_, .i32⟩
  | 70 => ⟨S_, .i32⟩
  | 71 => ⟨S_, .i32⟩
  | 72 => ⟨S1x2x8x64x128, .f32⟩
  | 73 => ⟨S2x8x64x128, .f32⟩
  | 74 => ⟨S_, .i32⟩
  | 75 => ⟨S_, .i32⟩
  | 76 => ⟨S_, .i32⟩
  | 77 => ⟨S_, .i32⟩
  | 78 => ⟨S1x2x8x1x128, .f32⟩
  | 79 => ⟨S2x8x1x128, .f32⟩
  | 80 => ⟨S2x8x64x128, .f32⟩
  | 81 => ⟨S2x8x64x128, .f32⟩
  | 82 => ⟨S2x8x64x128, .f32⟩
  | 83 => ⟨S2x8x64x128, .f32⟩
  | 84 => ⟨S2x8x64x128, .f32⟩
  | 85 => ⟨S2x8x128x128, .f32⟩
  | 86 => ⟨S2x8x128x128, .f32⟩
  | 87 => ⟨S2x8x128x128, .f32⟩
  | 88 => ⟨S2x8x128x128, .f32⟩
  | 89 => ⟨S1x2x8x64x128, .f32⟩
  | 90 => ⟨S_, .i32⟩
  | 91 => ⟨S_, .i32⟩
  | 92 => ⟨S_, .i32⟩
  | 93 => ⟨S_, .i32⟩
  | 94 => ⟨S64x2x8x64x128, .f32⟩
  | 95 => ⟨S_, .i32⟩
  | 96 => ⟨S_, .i32⟩
  | 97 => ⟨S2x8x64x64x128, .f32⟩
  | 98 => ⟨S2x8x4096x128, .f32⟩
  | 99 => ⟨S2x4096x8x128, .f32⟩
  | 100 => ⟨S8192x1024, .bf16⟩
  | 101 => ⟨S2x4096x8x128, .bf16⟩
  | 102 => ⟨S2x4096x8x128, .f32⟩
  | 103 => ⟨S2x4096x8x128, .f32⟩
  | 104 => ⟨S_, .f32⟩
  | 105 => ⟨S2x4096x8, .f32⟩
  | 106 => ⟨S2x4096x8x1, .f32⟩
  | 107 => ⟨S_, .f32⟩
  | 108 => ⟨S2x4096x8x1, .f32⟩
  | 109 => ⟨S2x4096x8x1, .f32⟩
  | 110 => ⟨S_, .f32⟩
  | 111 => ⟨S2x4096x8x1, .f32⟩
  | 112 => ⟨S2x4096x8x1, .f32⟩
  | 113 => ⟨S2x4096x8x1, .f32⟩
  | 114 => ⟨S2x4096x8x128, .f32⟩
  | 115 => ⟨S2x4096x8x128, .f32⟩
  | 116 => ⟨S128, .f32⟩
  | 117 => ⟨S1x1x1x128, .f32⟩
  | 118 => ⟨S2x4096x8x128, .f32⟩
  | 119 => ⟨S2x4096x8x128, .f32⟩
  | 120 => ⟨S2x4096x8x128, .f32⟩
  | 121 => ⟨S2x4096x8x128, .f32⟩
  | 122 => ⟨S_, .f32⟩
  | 123 => ⟨S2x4096x8x128, .f32⟩
  | 124 => ⟨S2x4096x8x128, .f32⟩
  | 125 => ⟨S_, .f32⟩
  | 126 => ⟨S2x4096x8x128, .f32⟩
  | 127 => ⟨S2x4096x8x128, .f32⟩
  | _ => ⟨S8x128x128x128, .bf16⟩

abbrev hbmTy0_1 (i : Nat) : BufTy := match i % 128 with
  | 0 => ⟨S2x4096x8x128, .f32⟩
  | 1 => ⟨S2x4096x8x128, .f32⟩
  | 2 => ⟨S2x4096x8x128, .bf16⟩
  | 3 => ⟨S2x4096x1024, .bf16⟩
  | _ => ⟨S8x128x128x128, .bf16⟩

abbrev hbmTy (i : Nat) : BufTy := match i / 128 with
  | 0 => hbmTy0_0 i
  | 1 => hbmTy0_1 i
  | _ => ⟨S8x128x128x128, .bf16⟩

abbrev bufTy : (tb : Table) → Fin (tcTables nBuf tb) → BufTy
  | .hbm, ⟨i, _⟩ => hbmTy i
  | _, _ => ⟨S8x128x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_c : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev main_v23_6 : Ref sig .tc := ⟨.hbm, 39, rfl⟩
abbrev main_v23_7 : Ref sig .tc := ⟨.hbm, 40, rfl⟩
abbrev main_v23_8 : Ref sig .tc := ⟨.hbm, 41, rfl⟩
abbrev main_while0c_c_12 : Ref sig .tc := ⟨.hbm, 42, rfl⟩
abbrev main_while0c_v48 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_c_2 : Ref sig .tc := ⟨.hbm, 47, rfl⟩
abbrev main_while0b_call0_v0 : Ref sig .tc := ⟨.hbm, 48, rfl⟩
abbrev main_while0b_v48 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_c_2 : Ref sig .tc := ⟨.hbm, 53, rfl⟩
abbrev main_while0b_call1_v0 : Ref sig .tc := ⟨.hbm, 54, rfl⟩
abbrev main_while0b_v49 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_c_2 : Ref sig .tc := ⟨.hbm, 59, rfl⟩
abbrev main_while0b_call2_v0 : Ref sig .tc := ⟨.hbm, 60, rfl⟩
abbrev main_while0b_v50 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_c_2 : Ref sig .tc := ⟨.hbm, 65, rfl⟩
abbrev main_while0b_call3_v0 : Ref sig .tc := ⟨.hbm, 66, rfl⟩
abbrev main_while0b_v51 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_c_2 : Ref sig .tc := ⟨.hbm, 71, rfl⟩
abbrev main_while0b_call4_v0 : Ref sig .tc := ⟨.hbm, 72, rfl⟩
abbrev main_while0b_v52 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_call5_c_2 : Ref sig .tc := ⟨.hbm, 77, rfl⟩
abbrev main_while0b_call5_v0 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_v60 : Ref sig .tc := ⟨.hbm, 86, rfl⟩
abbrev main_while0b_v61 : Ref sig .tc := ⟨.hbm, 87, rfl⟩
abbrev main_while0b_v62 : Ref sig .tc := ⟨.hbm, 88, rfl⟩
abbrev main_while0b_call6_v0 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_c_2 : Ref sig .tc := ⟨.hbm, 93, rfl⟩
abbrev main_while0b_v63 : Ref sig .tc := ⟨.hbm, 94, rfl⟩
abbrev main_while0b_c_12 : Ref sig .tc := ⟨.hbm, 95, rfl⟩
abbrev main_while0b_v64 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst_1 : Ref sig .tc := ⟨.hbm, 104, rfl⟩
abbrev main_v31 : Ref sig .tc := ⟨.hbm, 105, rfl⟩
abbrev main_v32 : Ref sig .tc := ⟨.hbm, 106, rfl⟩
abbrev main_cst_2 : Ref sig .tc := ⟨.hbm, 107, rfl⟩
abbrev main_v33 : Ref sig .tc := ⟨.hbm, 108, rfl⟩
abbrev main_v34 : Ref sig .tc := ⟨.hbm, 109, rfl⟩
abbrev main_cst_3 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_call7_v0 : Ref sig .tc := ⟨.hbm, 120, rfl⟩
abbrev main_call7_v1 : Ref sig .tc := ⟨.hbm, 121, rfl⟩
abbrev main_call7_cst : Ref sig .tc := ⟨.hbm, 122, rfl⟩
abbrev main_call7_v2 : Ref sig .tc := ⟨.hbm, 123, rfl⟩
abbrev main_call7_v3 : Ref sig .tc := ⟨.hbm, 124, rfl⟩
abbrev main_call7_cst_0 : Ref sig .tc := ⟨.hbm, 125, rfl⟩
abbrev main_call7_v4 : Ref sig .tc := ⟨.hbm, 126, rfl⟩
abbrev main_call7_v5 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩

abbrev nD : Nat := 1
abbrev τ : Topo := Topo.v7x

variable {F : FTy → Type} [FloatOps F]

abbrev main_while0_count : Scf.Loop 32 := ⟨0#32, 64#32, 1#32⟩
-- ==== Out.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Mlp.lean ====
abbrev S8192x2048 : Shape := ⟨2, ![8192, 2048]⟩
abbrev S1x2048 : Shape := ⟨2, ![1, 2048]⟩
abbrev S2048x8192 : Shape := ⟨2, ![2048, 8192]⟩
abbrev S512x2048 : Shape := ⟨2, ![512, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c3_i32_4 : BitVec 32 := 3#32
  let v9 : BitVec 1 := Scalar.cmpi .eq arg1 c3_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8192x2048 : Shape := ⟨2, ![8192, 2048]⟩
abbrev S1x2048 : Shape := ⟨2, ![1, 2048]⟩
abbrev S2048x8192 : Shape := ⟨2, ![2048, 8192]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== In.lean ====
abbrev S8192x2048 : Shape := ⟨2, ![8192, 2048]⟩
abbrev S1x2048 : Shape := ⟨2, ![1, 2048]⟩
abbrev S2048x7184 : Shape := ⟨2, ![2048, 7184]⟩
abbrev S8 : Shape := ⟨1, ![8]⟩
abbrev S7184x2048 : Shape := ⟨2, ![7184, 2048]⟩
abbrev S16x2048 : Shape := ⟨2, ![16, 2048]⟩
abbrev S_ : Shape := ⟨0, ![]⟩
abbrev S128x2048 : Shape := ⟨2, ![128, 2048]⟩
abbrev S128 : Shape := ⟨1, ![128]⟩
abbrev S1x128 : Shape := ⟨2, ![1, 128]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S8192x7168 : Shape := ⟨2, ![8192, 7168]⟩
abbrev S8192x128 : Shape := ⟨2, ![8192, 128]⟩
abbrev S1024x2048 : Shape := ⟨2, ![1024, 2048]⟩
abbrev S1024x128 : Shape := ⟨2, ![1024, 128]⟩
abbrev S1024x1024 : Shape := ⟨2, ![1024, 1024]⟩
abbrev S3x1024x2048 : Shape := ⟨3, ![3, 1024, 2048]⟩
abbrev S3 : Shape := ⟨1, ![3]⟩
abbrev S1 : Shape := ⟨1, ![1]⟩
abbrev S1x1024x2048 : Shape := ⟨3, ![1, 1024, 2048]⟩
abbrev S1024 : Shape := ⟨1, ![1024]⟩
abbrev S1024x1 : Shape := ⟨2, ![1024, 1]⟩
abbrev S512x2048 : Shape := ⟨2, ![512, 2048]⟩
abbrev S1024x512 : Shape := ⟨2, ![1024, 512]⟩

abbrev nBuf : Space → Nat
  | .hbm => 52
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x7184, .f32⟩
  | .hbm, ⟨3, _⟩ => ⟨S8, .f32⟩
  | .hbm, ⟨4, _⟩ => ⟨S8, .f32⟩
  | .hbm, ⟨5, _⟩ => ⟨S7184x2048, .f32⟩
  | .hbm, ⟨6, _⟩ => ⟨S16x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S128x2048, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S1x4096x1x32, .f32⟩
  | .hbm, ⟨41, _⟩ => ⟨S1x4096x4x32, .f32⟩
  | .hbm, ⟨42, _⟩ => ⟨S4096x128, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x64, .f32⟩
  | .hbm, ⟨47, _⟩ => ⟨S1x4096x1x64, .f32⟩
  | .hbm, ⟨48, _⟩ => ⟨S1x4096x2x64, .f32⟩
  | .hbm, ⟨49, _⟩ => ⟨S4096x128, .f32⟩
  | .hbm, ⟨50, _⟩ => ⟨S8192x7168, .bf16⟩
  | .hbm, ⟨51, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S3x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_34 : BitVec 32 := 7#32
  let c0_i32_35 : BitVec 32 := 0#32
  let v67 : BitVec 1 := Scalar.cmpi .eq c7_i32_34 c0_i32_35
  let c1_i32_36 : BitVec 32 := 1#32
  let v68 : BitVec 32 := Scalar.select v67 c1_i32_36 c7_i32_34
  let v69 : BitVec 32 := Scalar.remsi v1 v68
  let c0_i32_38 : BitVec 32 := 0#32
  let v71 : BitVec 1 := Scalar.cmpi .slt v69 c0_i32_38
  let c0_i32_39 : BitVec 32 := 0#32
  let v72 : BitVec 1 := Scalar.cmpi .slt v68 c0_i32_39
  let v73 : BitVec 1 := Scalar.xori v71 v72
  let c0_i32_37 : BitVec 32 := 0#32
  let v70 : BitVec 1 := Scalar.cmpi .ne v69 c0_i32_37
  let v74 : BitVec 1 := Scalar.andi v73 v70
  let v75 : BitVec 32 := Scalar.addi v69 v68
  let v76 : BitVec 32 := Scalar.select v74 v75 v69
  let c1024_i32_40 : BitVec 32 := 1024#32
  let v77 : BitVec 32 := Scalar.muli v76 c1024_i32_40
  v77
def k0_off1 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32_28 : BitVec 32 := 3#32
  let c0_i32_29 : BitVec 32 := 0#32
  let v57 : BitVec 1 := Scalar.cmpi .eq c3_i32_28 c0_i32_29
  let c1_i32_30 : BitVec 32 := 1#32
  let v58 : BitVec 32 := Scalar.select v57 c1_i32_30 c3_i32_28
  let v59 : BitVec 32 := Scalar.remsi v1 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  ![v66.toNat]
def k0_off2 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32_28 : BitVec 32 := 3#32
  let c0_i32_29 : BitVec 32 := 0#32
  let v57 : BitVec 1 := Scalar.cmpi .eq c3_i32_28 c0_i32_29
  let c1_i32_30 : BitVec 32 := 1#32
  let v58 : BitVec 32 := Scalar.select v57 c1_i32_30 c3_i32_28
  let v59 : BitVec 32 := Scalar.remsi v1 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c0_i32_41 : BitVec 32 := 0#32
  let c0_i32_42 : BitVec 32 := 0#32
  ![v66.toNat, 0, 0]
def k0_off3 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_34 : BitVec 32 := 7#32
  let c0_i32_35 : BitVec 32 := 0#32
  let v67 : BitVec 1 := Scalar.cmpi .eq c7_i32_34 c0_i32_35
  let c1_i32_36 : BitVec 32 := 1#32
  let v68 : BitVec 32 := Scalar.select v67 c1_i32_36 c7_i32_34
  let v69 : BitVec 32 := Scalar.remsi v1 v68
  let c0_i32_38 : BitVec 32 := 0#32
  let v71 : BitVec 1 := Scalar.cmpi .slt v69 c0_i32_38
  let c0_i32_39 : BitVec 32 := 0#32
  let v72 : BitVec 1 := Scalar.cmpi .slt v68 c0_i32_39
  let v73 : BitVec 1 := Scalar.xori v71 v72
  let c0_i32_37 : BitVec 32 := 0#32
  let v70 : BitVec 1 := Scalar.cmpi .ne v69 c0_i32_37
  let v74 : BitVec 1 := Scalar.andi v73 v70
  let v75 : BitVec 32 := Scalar.addi v69 v68
  let v76 : BitVec 32 := Scalar.select v74 v75 v69
  let c1024_i32_40 : BitVec 32 := 1024#32
  let v77 : BitVec 32 := Scalar.muli v76 c1024_i32_40
  let v78 : BitVec 32 := v77
  let c0_i32_43 : BitVec 32 := 0#32
  ![v78.toNat, 0]
def k0_mult2 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_44 : BitVec 32 := 1#32
  let v84 : BitVec 32 := Scalar.addi v1 c1_i32_44
  let c7_i32_51 : BitVec 32 := 7#32
  let c0_i32_52 : BitVec 32 := 0#32
  let v95 : BitVec 1 := Scalar.cmpi .eq c7_i32_51 c0_i32_52
  let c1_i32_53 : BitVec 32 := 1#32
  let v96 : BitVec 32 := Scalar.select v95 c1_i32_53 c7_i32_51
  let v97 : BitVec 32 := Scalar.remsi v84 v96
  let c0_i32_55 : BitVec 32 := 0#32
  let v99 : BitVec 1 := Scalar.cmpi .slt v97 c0_i32_55
  let c0_i32_56 : BitVec 32 := 0#32
  let v100 : BitVec 1 := Scalar.cmpi .slt v96 c0_i32_56
  let v101 : BitVec 1 := Scalar.xori v99 v100
  let c0_i32_54 : BitVec 32 := 0#32
  let v98 : BitVec 1 := Scalar.cmpi .ne v97 c0_i32_54
  let v102 : BitVec 1 := Scalar.andi v101 v98
  let v103 : BitVec 32 := Scalar.addi v97 v96
  let v104 : BitVec 32 := Scalar.select v102 v103 v97
  let c1024_i32_57 : BitVec 32 := 1024#32
  let v105 : BitVec 32 := Scalar.muli v104 c1024_i32_57
  v105
def k0_off4 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_44 : BitVec 32 := 1#32
  let v84 : BitVec 32 := Scalar.addi v1 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  ![v94.toNat]
def k0_off5 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_44 : BitVec 32 := 1#32
  let v84 : BitVec 32 := Scalar.addi v1 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c0_i32_58 : BitVec 32 := 0#32
  let c0_i32_59 : BitVec 32 := 0#32
  ![v94.toNat, 0, 0]
def k0_off6 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_44 : BitVec 32 := 1#32
  let v84 : BitVec 32 := Scalar.addi v1 c1_i32_44
  let c7_i32_51 : BitVec 32 := 7#32
  let c0_i32_52 : BitVec 32 := 0#32
  let v95 : BitVec 1 := Scalar.cmpi .eq c7_i32_51 c0_i32_52
  let c1_i32_53 : BitVec 32 := 1#32
  let v96 : BitVec 32 := Scalar.select v95 c1_i32_53 c7_i32_51
  let v97 : BitVec 32 := Scalar.remsi v84 v96
  let c0_i32_55 : BitVec 32 := 0#32
  let v99 : BitVec 1 := Scalar.cmpi .slt v97 c0_i32_55
  let c0_i32_56 : BitVec 32 := 0#32
  let v100 : BitVec 1 := Scalar.cmpi .slt v96 c0_i32_56
  let v101 : BitVec 1 := Scalar.xori v99 v100
  let c0_i32_54 : BitVec 32 := 0#32
  let v98 : BitVec 1 := Scalar.cmpi .ne v97 c0_i32_54
  let v102 : BitVec 1 := Scalar.andi v101 v98
  let v103 : BitVec 32 := Scalar.addi v97 v96
  let v104 : BitVec 32 := Scalar.select v102 v103 v97
  let c1024_i32_57 : BitVec 32 := 1024#32
  let v105 : BitVec 32 := Scalar.muli v104 c1024_i32_57
  let v106 : BitVec 32 := v105
  let c0_i32_60 : BitVec 32 := 0#32
  ![v106.toNat, 0]
def k0_cond2 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v5 : BitVec 32 := Scalar.addi v1 c2_i32
  let c56_i32 : BitVec 32 := 56#32
  let v6 : BitVec 1 := Scalar.cmpi .slt v5 c56_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_28 : BitVec 32 := 2#32
  let v57 : BitVec 32 := Scalar.addi v1 c2_i32_28
  let c7_i32_35 : BitVec 32 := 7#32
  let c0_i32_36 : BitVec 32 := 0#32
  let v68 : BitVec 1 := Scalar.cmpi .eq c7_i32_35 c0_i32_36
  let c1_i32_37 : BitVec 32 := 1#32
  let v69 : BitVec 32 := Scalar.select v68 c1_i32_37 c7_i32_35
  let v70 : BitVec 32 := Scalar.remsi v57 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c1024_i32_41 : BitVec 32 := 1024#32
  let v78 : BitVec 32 := Scalar.muli v77 c1024_i32_41
  v78
def k0_off7 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_28 : BitVec 32 := 2#32
  let v57 : BitVec 32 := Scalar.addi v1 c2_i32_28
  let c3_i32_29 : BitVec 32 := 3#32
  let c0_i32_30 : BitVec 32 := 0#32
  let v58 : BitVec 1 := Scalar.cmpi .eq c3_i32_29 c0_i32_30
  let c1_i32_31 : BitVec 32 := 1#32
  let v59 : BitVec 32 := Scalar.select v58 c1_i32_31 c3_i32_29
  let v60 : BitVec 32 := Scalar.remsi v57 v59
  let c0_i32_33 : BitVec 32 := 0#32
  let v62 : BitVec 1 := Scalar.cmpi .slt v60 c0_i32_33
  let c0_i32_34 : BitVec 32 := 0#32
  let v63 : BitVec 1 := Scalar.cmpi .slt v59 c0_i32_34
  let v64 : BitVec 1 := Scalar.xori v62 v63
  let c0_i32_32 : BitVec 32 := 0#32
  let v61 : BitVec 1 := Scalar.cmpi .ne v60 c0_i32_32
  let v65 : BitVec 1 := Scalar.andi v64 v61
  let v66 : BitVec 32 := Scalar.addi v60 v59
  let v67 : BitVec 32 := Scalar.select v65 v66 v60
  ![v67.toNat]
def k0_off8 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_28 : BitVec 32 := 2#32
  let v57 : BitVec 32 := Scalar.addi v1 c2_i32_28
  let c3_i32_29 : BitVec 32 := 3#32
  let c0_i32_30 : BitVec 32 := 0#32
  let v58 : BitVec 1 := Scalar.cmpi .eq c3_i32_29 c0_i32_30
  let c1_i32_31 : BitVec 32 := 1#32
  let v59 : BitVec 32 := Scalar.select v58 c1_i32_31 c3_i32_29
  let v60 : BitVec 32 := Scalar.remsi v57 v59
  let c0_i32_33 : BitVec 32 := 0#32
  let v62 : BitVec 1 := Scalar.cmpi .slt v60 c0_i32_33
  let c0_i32_34 : BitVec 32 := 0#32
  let v63 : BitVec 1 := Scalar.cmpi .slt v59 c0_i32_34
  let v64 : BitVec 1 := Scalar.xori v62 v63
  let c0_i32_32 : BitVec 32 := 0#32
  let v61 : BitVec 1 := Scalar.cmpi .ne v60 c0_i32_32
  let v65 : BitVec 1 := Scalar.andi v64 v61
  let v66 : BitVec 32 := Scalar.addi v60 v59
  let v67 : BitVec 32 := Scalar.select v65 v66 v60
  let c0_i32_42 : BitVec 32 := 0#32
  let c0_i32_43 : BitVec 32 := 0#32
  ![v67.toNat, 0, 0]
def k0_off9 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_28 : BitVec 32 := 2#32
  let v57 : BitVec 32 := Scalar.addi v1 c2_i32_28
  let c7_i32_35 : BitVec 32 := 7#32
  let c0_i32_36 : BitVec 32 := 0#32
  let v68 : BitVec 1 := Scalar.cmpi .eq c7_i32_35 c0_i32_36
  let c1_i32_37 : BitVec 32 := 1#32
  let v69 : BitVec 32 := Scalar.select v68 c1_i32_37 c7_i32_35
  let v70 : BitVec 32 := Scalar.remsi v57 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c1024_i32_41 : BitVec 32 := 1024#32
  let v78 : BitVec 32 := Scalar.muli v77 c1024_i32_41
  let v79 : BitVec 32 := v78
  let c0_i32_44 : BitVec 32 := 0#32
  ![v79.toNat, 0]
def k0_mult4 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_6 : BitVec 32 := 7#32
  let c0_i32_7 : BitVec 32 := 0#32
  let v19 : BitVec 1 := Scalar.cmpi .eq c7_i32_6 c0_i32_7
  let c1_i32_8 : BitVec 32 := 1#32
  let v20 : BitVec 32 := Scalar.select v19 c1_i32_8 c7_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  v29
def k0_off10 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  ![v18.toNat]
def k0_off11 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi v1 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_12 : BitVec 32 := 0#32
  let c0_i32_13 : BitVec 32 := 0#32
  ![v18.toNat, 0, 0]
def k0_off12 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_6 : BitVec 32 := 7#32
  let c0_i32_7 : BitVec 32 := 0#32
  let v19 : BitVec 1 := Scalar.cmpi .eq c7_i32_6 c0_i32_7
  let c1_i32_8 : BitVec 32 := 1#32
  let v20 : BitVec 32 := Scalar.select v19 c1_i32_8 c7_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := v29
  let c0_i32_14 : BitVec 32 := 0#32
  ![v30.toNat, 0]
def k0_cond3 (i : grid0.Coords) : BitVec 1 :=
  let arg1 : BitVec 32 := BitVec.ofNat 32 (i 1).val
  let c0_i32_21 : BitVec 32 := 0#32
  let v46 : BitVec 1 := Scalar.cmpi .eq arg1 c0_i32_21
  let v47 : BitVec 32 := Scalar.extui v46
  let c0_i32_22 : BitVec 32 := 0#32
  let v48 : BitVec 1 := Scalar.cmpi .ne v47 c0_i32_22
  v48

def k0_off13 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32_15 : BitVec 32 := 3#32
  let c0_i32_16 : BitVec 32 := 0#32
  let v36 : BitVec 1 := Scalar.cmpi .eq c3_i32_15 c0_i32_16
  let c1_i32_17 : BitVec 32 := 1#32
  let v37 : BitVec 32 := Scalar.select v36 c1_i32_17 c3_i32_15
  let v38 : BitVec 32 := Scalar.remsi v1 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c0_i32_62 : BitVec 32 := 0#32
  let c0_i32_63 : BitVec 32 := 0#32
  ![v45.toNat, 0, 0]
def k0_cond4 (i : grid0.Coords) : BitVec 1 :=
  let arg1 : BitVec 32 := BitVec.ofNat 32 (i 1).val
  let c0_i32_23 : BitVec 32 := 0#32
  let v49 : BitVec 1 := Scalar.cmpi .sgt arg1 c0_i32_23
  let c2_i32_24 : BitVec 32 := 2#32
  let v50 : BitVec 1 := Scalar.cmpi .slt arg1 c2_i32_24
  let v51 : BitVec 1 := Scalar.andi v49 v50
  let v52 : BitVec 32 := Scalar.extui v51
  let c0_i32_25 : BitVec 32 := 0#32
  let v53 : BitVec 1 := Scalar.cmpi .ne v52 c0_i32_25
  v53

def k0_off14 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32_15 : BitVec 32 := 3#32
  let c0_i32_16 : BitVec 32 := 0#32
  let v36 : BitVec 1 := Scalar.cmpi .eq c3_i32_15 c0_i32_16
  let c1_i32_17 : BitVec 32 := 1#32
  let v37 : BitVec 32 := Scalar.select v36 c1_i32_17 c3_i32_15
  let v38 : BitVec 32 := Scalar.remsi v1 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c0_i32_40 : BitVec 32 := 0#32
  let c0_i32_41 : BitVec 32 := 0#32
  ![v45.toNat, 0, 0]
def k0_cond5 (i : grid0.Coords) : BitVec 1 :=
  let arg1 : BitVec 32 := BitVec.ofNat 32 (i 1).val
  let c2_i32_26 : BitVec 32 := 2#32
  let v54 : BitVec 1 := Scalar.cmpi .sge arg1 c2_i32_26
  let v55 : BitVec 32 := Scalar.extui v54
  let c0_i32_27 : BitVec 32 := 0#32
  let v56 : BitVec 1 := Scalar.cmpi .ne v55 c0_i32_27
  v56

def k0_off15 (i : grid0.Coords) : Fin 3 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c3_i32_15 : BitVec 32 := 3#32
  let c0_i32_16 : BitVec 32 := 0#32
  let v36 : BitVec 1 := Scalar.cmpi .eq c3_i32_15 c0_i32_16
  let c1_i32_17 : BitVec 32 := 1#32
  let v37 : BitVec 32 := Scalar.select v36 c1_i32_17 c3_i32_15
  let v38 : BitVec 32 := Scalar.remsi v1 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c0_i32_29 : BitVec 32 := 0#32
  let c0_i32_30 : BitVec 32 := 0#32
  ![v45.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InRefIdeal.lean ====
abbrev S8192x2048 : Shape := ⟨2, ![8192, 2048]⟩
abbrev S1x2048 : Shape := ⟨2, ![1, 2048]⟩
abbrev S2048x7184 : Shape := ⟨2, ![2048, 7184]⟩
abbrev S8 : Shape := ⟨1, ![8]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x7184 : Shape := ⟨2, ![8192, 7184]⟩
abbrev S8192x1024 : Shape := ⟨2, ![8192, 1024]⟩
abbrev S2x4096x16x64 : Shape := ⟨4, ![2, 4096, 16, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S8192x8 : Shape := ⟨2, ![8192, 8]⟩
abbrev S1x8 : Shape := ⟨2, ![1, 8]⟩
abbrev S1x1 : Shape := ⟨2, ![1, 1]⟩
abbrev S8192x112 : Shape := ⟨2, ![8192, 112]⟩
abbrev S8192x5120 : Shape := ⟨2, ![8192, 5120]⟩
abbrev S8192x7168 : Shape := ⟨2, ![8192, 7168]⟩
abbrev S8192x128 : Shape := ⟨2, ![8192, 128]⟩

abbrev nBuf : Space → Nat
  | .hbm => 160
  | .vmem => 0
  | .smem => 0
  | _ => 0

abbrev hbmTy0_0 (i : Nat) : BufTy := match i % 128 with
  | 0 => ⟨S8192x2048, .f32⟩
  | 1 => ⟨S1x2048, .f32⟩
  | 2 => ⟨S2048x7184, .f32⟩
  | 3 => ⟨S8, .f32⟩
  | 4 => ⟨S8, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S2048, .f32⟩
  | 19 => ⟨S1x2048, .f32⟩
  | 20 => ⟨S8192x2048, .f32⟩
  | 21 => ⟨S8192x2048, .f32⟩
  | 22 => ⟨S8192x7184, .f32⟩
  | 23 => ⟨S8192x1024, .f32⟩
  | 24 => ⟨S2x4096x16x64, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S4096, .f32⟩
  | 40 => ⟨S4096x1, .f32⟩
  | 41 => ⟨S1x32, .f32⟩
  | 42 => ⟨S4096x32, .f32⟩
  | 43 => ⟨S4096x32, .f32⟩
  | 44 => ⟨S4096x32, .f32⟩
  | 45 => ⟨S4096x32, .f32⟩
  | 46 => ⟨S1x4096x1x32, .f32⟩
  | 47 => ⟨S4096x32, .f32⟩
  | 48 => ⟨S1x4096x1x32, .f32⟩
  | 49 => ⟨S2x4096x16x32, .f32⟩
  | 50 => ⟨S2x4096x16x32, .f32⟩
  | 51 => ⟨S2x4096x16x32, .f32⟩
  | 52 => ⟨S2x4096x16x32, .f32⟩
  | 53 => ⟨S2x4096x16x32, .f32⟩
  | 54 => ⟨S2x4096x16x32, .f32⟩
  | 55 => ⟨S2x4096x16x32, .f32⟩
  | 56 => ⟨S2x4096x16x32, .f32⟩
  | 57 => ⟨S2x4096x16x32, .f32⟩
  | 58 => ⟨S2x4096x16x32, .f32⟩
  | 59 => ⟨S2x4096x16x32, .f32⟩
  | 60 => ⟨S2x4096x16x32, .f32⟩
  | 61 => ⟨S2x4096x16x64, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S2x4096x16x64, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4096, .f32⟩
  | 83 => ⟨S4096x1, .f32⟩
  | 84 => ⟨S1x32, .f32⟩
  | 85 => ⟨S4096x32, .f32⟩
  | 86 => ⟨S4096x32, .f32⟩
  | 87 => ⟨S4096x32, .f32⟩
  | 88 => ⟨S4096x32, .f32⟩
  | 89 => ⟨S1x4096x1x32, .f32⟩
  | 90 => ⟨S4096x32, .f32⟩
  | 91 => ⟨S1x4096x1x32, .f32⟩
  | 92 => ⟨S2x4096x16x32, .f32⟩
  | 93 => ⟨S2x4096x16x32, .f32⟩
  | 94 => ⟨S2x4096x16x32, .f32⟩
  | 95 => ⟨S2x4096x16x32, .f32⟩
  | 96 => ⟨S2x4096x16x32, .f32⟩
  | 97 => ⟨S2x4096x16x32, .f32⟩
  | 98 => ⟨S2x4096x16x32, .f32⟩
  | 99 => ⟨S2x4096x16x32, .f32⟩
  | 100 => ⟨S2x4096x16x32, .f32⟩
  | 101 => ⟨S2x4096x16x32, .f32⟩
  | 102 => ⟨S2x4096x16x32, .f32⟩
  | 103 => ⟨S2x4096x16x32, .f32⟩
  | 104 => ⟨S2x4096x16x64, .f32⟩
  | 105 => ⟨S8192x1024, .f32⟩
  | 106 => ⟨S8192x8, .f32⟩
  | 107 => ⟨S8192x8, .f32⟩
  | 108 => ⟨S8192x8, .f32⟩
  | 109 => ⟨S_, .f32⟩
  | 110 => ⟨S8192x8, .f32⟩
  | 111 => ⟨S8192x8, .f32⟩
  | 112 => ⟨S_, .f32⟩
  | 113 => ⟨S8192x8, .f32⟩
  | 114 => ⟨S8192x8, .f32⟩
  | 115 => ⟨S8, .f32⟩
  | 116 => ⟨S8, .f32⟩
  | 117 => ⟨S8192x8, .f32⟩
  | 118 => ⟨S1x8, .f32⟩
  | 119 => ⟨S8192x8, .f32⟩
  | 120 => ⟨S8192x8, .f32⟩
  | 121 => ⟨S_, .f32⟩
  | 122 => ⟨S8192x8, .f32⟩
  | 123 => ⟨S8192x8, .f32⟩
  | 124 => ⟨S8192x8, .f32⟩
  | 125 => ⟨S8192x8, .f32⟩
  | 126 => ⟨S8192x8, .i1⟩
  | 127 => ⟨S8192x8, .f32⟩
  | _ => ⟨S8192x2048, .f32⟩

abbrev hbmTy0_1 (i : Nat) : BufTy := match i % 128 with
  | 0 => ⟨S8192x8, .f32⟩
  | 1 => ⟨S8192x8, .f32⟩
  | 2 => ⟨S8192x8, .f32⟩
  | 3 => ⟨S8192x8, .f32⟩
  | 4 => ⟨S8192x8, .f32⟩
  | 5 => ⟨S8192x8, .f32⟩
  | 6 => ⟨S8192x8, .f32⟩
  | 7 => ⟨S1x8, .f32⟩
  | 8 => ⟨S8192x8, .f32⟩
  | 9 => ⟨S8192x8, .f32⟩
  | 10 => ⟨S_, .f32⟩
  | 11 => ⟨S1x1, .f32⟩
  | 12 => ⟨S_, .f32⟩
  | 13 => ⟨S1x1, .f32⟩
  | 14 => ⟨S1x1, .f32⟩
  | 15 => ⟨S1x1, .f32⟩
  | 16 => ⟨S1x1, .f32⟩
  | 17 => ⟨S1x1, .i1⟩
  | 18 => ⟨S1x1, .f32⟩
  | 19 => ⟨S1x1, .f32⟩
  | 20 => ⟨S1x1, .f32⟩
  | 21 => ⟨S1x1, .f32⟩
  | 22 => ⟨S1x1, .f32⟩
  | 23 => ⟨S1x1, .f32⟩
  | 24 => ⟨S1x1, .f32⟩
  | 25 => ⟨S1x1, .f32⟩
  | 26 => ⟨S1x1, .f32⟩
  | 27 => ⟨S8192x112, .f32⟩
  | 28 => ⟨S8192x5120, .f32⟩
  | 29 => ⟨S8192x7168, .f32⟩
  | 30 => ⟨S8192x7168, .bf16⟩
  | 31 => ⟨S8192x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_11 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_call0_cst : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_call0_v5 : Ref sig .tc := ⟨.hbm, 127, rfl⟩
abbrev main_call0_v6 : Ref sig .tc := ⟨.hbm, 128, rfl⟩
abbrev main_call0_v7 : Ref sig .tc := ⟨.hbm, 129, rfl⟩
abbrev main_call0_v8 : Ref sig .tc := ⟨.hbm, 130, rfl⟩
abbrev main_call0_v9 : Ref sig .tc := ⟨.hbm, 131, rfl⟩
abbrev main_call0_v10 : Ref sig .tc := ⟨.hbm, 132, rfl⟩
abbrev main_call0_v11 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_13 : Ref sig .tc := ⟨.hbm, 138, rfl⟩
abbrev main_v106 : Ref sig .tc := ⟨.hbm, 139, rfl⟩
abbrev main_call1_cst : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_call1_v11 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩

abbrev nD : Nat := 1
abbrev τ : Topo := Topo.v7x

variable {F : FTy → Type} [FloatOps F]
-- ==== Proof.Scan.Run.lean ====
module

public import proofs.«01_k».proof.Proof.Gen.ScanIdeal.Frame.Runs

@[expose] public section

set_option maxRecDepth 16384

noncomputable section

namespace Cert.ScanProof

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S8x2x8x128x128 .bf16) (harg1 : arg1.IsWhole)
  (arg2 : Memref sig .tc .vmem S8x2x8x64x128 .bf16) (harg2 : arg2.IsWhole)
  (arg3 : Memref sig .tc .vmem S8x2x8x64x128 .bf16) (harg3 : arg3.IsWhole)
  (arg4 : Memref sig .tc .vmem S8x2x8x64x64 .bf16) (harg4 : arg4.IsWhole)
  (arg5 : Memref sig .tc .vmem S8x2x8x1x128 .f32) (harg5 : arg5.IsWhole)
  (arg6 : Memref sig .tc .vmem S2x512x1024 .bf16) (harg6 : arg6.IsWhole)
  (arg7 : Memref sig .tc .vmem S1x128 .f32) (harg7 : arg7.IsWhole)
  (arg8 : Memref sig .tc .vmem S2x512x1024 .bf16) (harg8 : arg8.IsWhole)
  (arg9 : Memref sig .tc .vmem S2x8x128x128 .f32) (harg9 : arg9.IsWhole)
  (v3 : Vec F S1x128 .f32)
  (X1 : BufTy.Contents (Elt F) arg1.view.ty) (X2 : BufTy.Contents (Elt F) arg2.view.ty)
  (X3 : BufTy.Contents (Elt F) arg3.view.ty) (X4 : BufTy.Contents (Elt F) arg4.view.ty)
  (X5 : BufTy.Contents (Elt F) arg5.view.ty) (X6 : BufTy.Contents (Elt F) arg6.view.ty)

/-- The two lists of stores of the chunks before `n`, from what the output block and the state held. -/
abbrev stores (G8 : BufTy.Contents (Elt F) arg8.view.ty) (G9 : BufTy.Contents (Elt F) arg9.view.ty) (n : ℕ) :=
  pb_k0_t1 (F := F) Variants.none c none i arg1 harg1 arg2 harg2 arg3 harg3 arg4 harg4 arg5 harg5 arg6 harg6 arg7 harg7
    arg8 harg8 arg9 harg9 v3 X1 X2 X3 X4 X5 X6 G8 G9 n

/-- The two lists of stores of one chunk. -/
abbrev chunkStores (k : Fin k0_t1_loop.trips) (f8 : BufTy.Contents (Elt F) arg8.view.ty)
    (f9 : BufTy.Contents (Elt F) arg9.view.ty) :=
  tripL_k0_t1 (F := F) Variants.none c none i arg1 harg1 arg2 harg2 arg3 harg3 arg4 harg4 arg5 harg5 arg6 harg6 arg7 harg7
    arg8 harg8 arg9 harg9 v3 X1 X2 X3 X4 X5 X6 k f8 f9

/-- One chunk's stores do not depend on what the output block held. -/
theorem chunkStores_free (k : Fin k0_t1_loop.trips) (f8 f8' : BufTy.Contents (Elt F) arg8.view.ty)
    (f9 : BufTy.Contents (Elt F) arg9.view.ty) :
    chunkStores c i arg1 harg1 arg2 harg2 arg3 harg3 arg4 harg4 arg5 harg5 arg6 harg6 arg7 harg7 arg8 harg8 arg9 harg9
        v3 X1 X2 X3 X4 X5 X6 k f8 f9
      = chunkStores c i arg1 harg1 arg2 harg2 arg3 harg3 arg4 harg4 arg5 harg5 arg6 harg6 arg7 harg7 arg8 harg8 arg9 harg9
        v3 X1 X2 X3 X4 X5 X6 k f8' f9 := by
  unfold chunkStores tripL_k0_t1 trip_k0_t1
  rfl

/-- Nor do the stores of the chunks before `n`. -/
theorem stores_free (G8 G8' : BufTy.Contents (Elt F) arg8.view.ty) (G9 : BufTy.Contents (Elt F) arg9.view.ty) (n : ℕ) :
    stores c i arg1 harg1 arg2 harg2 arg3 harg3 arg4 harg4 arg5 harg5 arg6 harg6 arg7 harg7 arg8 harg8 arg9 harg9
        v3 X1 X2 X3 X4 X5 X6 G8 G9 n
      = stores c i arg1 harg1 arg2 harg2 arg3 harg3 arg4 harg4 arg5 harg5 arg6 harg6 arg7 harg7 arg8 harg8 arg9 harg9
        v3 X1 X2 X3 X4 X5 X6 G8' G9 n := by
  induction n with
  | zero => rfl
  | succ n ih =>
    by_cases h : n < k0_t1_loop.trips
    · refine (pb_k0_t1_succ Variants.none c none i arg1 harg1 arg2 harg2 arg3 harg3 arg4 harg4 arg5 harg5 arg6 harg6 arg7
        harg7 arg8 harg8 arg9 harg9 v3 X1 X2 X3 X4 X5 X6 G8 G9 ⟨n, h⟩).trans (Eq.trans ?_
        (pb_k0_t1_succ Variants.none c none i arg1 harg1 arg2 harg2 arg3 harg3 arg4 harg4 arg5 harg5 arg6 harg6 arg7
        harg7 arg8 harg8 arg9 harg9 v3 X1 X2 X3 X4 X5 X6 G8' G9 ⟨n, h⟩).symm)
      have e := fun f8 f8' f9 => chunkStores_free c i arg1 harg1 arg2 harg2 arg3 harg3 arg4 harg4 arg5 harg5 arg6 harg6 arg7 harg7
        arg8 harg8 arg9 harg9 v3 X1 X2 X3 X4 X5 X6 ⟨n, h⟩ f8 f8' f9
      dsimp only [stores] at ih ⊢
      rw [ih]
      exact Prod.ext (congrArg (· ++ _) (congrArg Prod.fst (e _ _ _))) (congrArg (· ++ _) (congrArg Prod.snd (e _ _ _)))
    · have hs : ∀ G, stores c i arg1 harg1 arg2 harg2 arg3 harg3 arg4 harg4 arg5 harg5 arg6 harg6 arg7 harg7
          arg8 harg8 arg9 harg9 v3 X1 X2 X3 X4 X5 X6 G G9 (n + 1) = stores c i arg1 harg1 arg2 harg2 arg3 harg3 arg4 harg4 arg5 harg5 arg6 harg6 arg7 harg7
          arg8 harg8 arg9 harg9 v3 X1 X2 X3 X4 X5 X6 G G9 n := fun G => by
        unfold stores; rw [pb_k0_t1.eq_2]; unfold pb_k0_t1Step; exact dif_neg h
      exact (hs G8).trans (ih.trans (hs G8').symm)

/-- The scale vector as the body loads it. -/
abbrev scale (x6 : Vec F S1x128 .f32) : Vec F S1x128 .f32 :=
  View.readAt (Elt F) arg7.view (Rect.unit (s := S1x128) ![0, 0] S1x128.size inb_S1x128_S1x128_0_0).toLoadRect (harg7.unread x6)

variable (x0 : Vec F S8x2x8x128x128 .bf16) (x1 : Vec F S8x2x8x64x128 .bf16) (x2 : Vec F S8x2x8x64x128 .bf16)
  (x3 : Vec F S8x2x8x64x64 .bf16) (x4 : Vec F S8x2x8x1x128 .f32) (x5 : Vec F S2x512x1024 .bf16) (x6 : Vec F S1x128 .f32)

/-- The stores of all the chunks of one grid point, whose state starts at `st`. -/
abbrev pointStores (G8 : BufTy.Contents (Elt F) arg8.view.ty) (st : Vec F S2x8x128x128 .f32) :=
  stores c i arg1 harg1 arg2 harg2 arg3 harg3 arg4 harg4 arg5 harg5 arg6 harg6 arg7 harg7 arg8 harg8 arg9 harg9
    (scale arg7 harg7 x6) (harg1.unread x0) (harg2.unread x1) (harg3.unread x2) (harg4.unread x3) (harg5.unread x4)
    (harg6.unread x5) G8 (harg9.unread st) k0_t1_loop.trips

/-- What one grid point leaves in the output block, its state starting at `st`. -/
def outBlock (st : Vec F S2x8x128x128 .f32) : Vec F S2x512x1024 .bf16 :=
  arg8.view.read (Elt F) (arg8.view.writes (Elt F) arg8.view.junk
    (pointStores c i arg1 harg1 arg2 harg2 arg3 harg3 arg4 harg4 arg5 harg5 arg6 harg6 arg7 harg7 arg8 harg8 arg9 harg9
      x0 x1 x2 x3 x4 x5 x6 arg8.view.junk st).1)

/-- What one grid point leaves in the state, which starts at `st`. -/
def stateBlock (st : Vec F S2x8x128x128 .f32) : Vec F S2x8x128x128 .f32 :=
  arg9.view.read (Elt F) (arg9.view.writes (Elt F) (harg9.unread st)
    (pointStores c i arg1 harg1 arg2 harg2 arg3 harg3 arg4 harg4 arg5 harg5 arg6 harg6 arg7 harg7 arg8 harg8 arg9 harg9
      x0 x1 x2 x3 x4 x5 x6 arg8.view.junk st).2)

/-- The stores of one grid point cover the output block. -/
theorem cover_out (G8 : BufTy.Contents (Elt F) arg8.view.ty) (st : Vec F S2x8x128x128 .f32) (y : S2x512x1024.Idx) :
    ∃ p ∈ (pointStores c i arg1 harg1 arg2 harg2 arg3 harg3 arg4 harg4 arg5 harg5 arg6 harg6 arg7 harg7 arg8 harg8 arg9 harg9
      x0 x1 x2 x3 x4 x5 x6 G8 st).1, y ∈ p.1.set :=
  View.cover_of_tiledL (pointStores c i arg1 harg1 arg2 harg2 arg3 harg3 arg4 harg4 arg5 harg5 arg6 harg6 arg7 harg7 arg8 harg8
    arg9 harg9 x0 x1 x2 x3 x4 x5 x6 G8 st).1 S1x64x128.size (by sl_kernel_rfl) y

/-- What the output block reads after the stores of one grid point, whatever it held. -/
theorem outBlock_eq (f : BufTy.Contents (Elt F) arg8.view.ty) (st : Vec F S2x8x128x128 .f32) :
    arg8.view.read (Elt F) (arg8.view.writes (Elt F) f
      (pointStores c i arg1 harg1 arg2 harg2 arg3 harg3 arg4 harg4 arg5 harg5 arg6 harg6 arg7 harg7 arg8 harg8 arg9 harg9
        x0 x1 x2 x3 x4 x5 x6 f st).1)
      = outBlock c i arg1 harg1 arg2 harg2 arg3 harg3 arg4 harg4 arg5 harg5 arg6 harg6 arg7 harg7 arg8 harg8 arg9 harg9
        x0 x1 x2 x3 x4 x5 x6 st :=
  (congrArg (fun L => arg8.view.read (Elt F) (arg8.view.writes (Elt F) f (Prod.fst L)))
    (stores_free c i arg1 harg1 arg2 harg2 arg3 harg3 arg4 harg4 arg5 harg5 arg6 harg6 arg7 harg7 arg8 harg8 arg9 harg9
      _ _ _ _ _ _ _ f arg8.view.junk _ _)).trans
    (View.read_writes_of_cover arg8.view f arg8.view arg8.view.junk _
      (cover_out c i arg1 harg1 arg2 harg2 arg3 harg3 arg4 harg4 arg5 harg5 arg6 harg6 arg7 harg7 arg8 harg8 arg9 harg9
        x0 x1 x2 x3 x4 x5 x6 arg8.view.junk st))

/-- What the state reads after the stores of one grid point, whatever the output block held. -/
theorem stateBlock_eq (f : BufTy.Contents (Elt F) arg8.view.ty) (st : Vec F S2x8x128x128 .f32) :
    arg9.view.read (Elt F) (arg9.view.writes (Elt F) (harg9.unread st)
      (pointStores c i arg1 harg1 arg2 harg2 arg3 harg3 arg4 harg4 arg5 harg5 arg6 harg6 arg7 harg7 arg8 harg8 arg9 harg9
        x0 x1 x2 x3 x4 x5 x6 f st).2)
      = stateBlock c i arg1 harg1 arg2 harg2 arg3 harg3 arg4 harg4 arg5 harg5 arg6 harg6 arg7 harg7 arg8 harg8 arg9 harg9
        x0 x1 x2 x3 x4 x5 x6 st :=
  congrArg (fun L => arg9.view.read (Elt F) (arg9.view.writes (Elt F) (harg9.unread st) (Prod.snd L)))
    (stores_free c i arg1 harg1 arg2 harg2 arg3 harg3 arg4 harg4 arg5 harg5 arg6 harg6 arg7 harg7 arg8 harg8 arg9 harg9
      _ _ _ _ _ _ _ f arg8.view.junk _ _)

/-- A state filled with zeros reads as zeros. -/
theorem zeroed (f : BufTy.Contents (Elt F) arg9.view.ty) :
    arg9.view.writes (Elt F) f [⟨Rect.unit (s := S2x8x128x128) ![0, 0, 0, 0] S2x8x128x128.size
        inb_S2x8x128x128_S2x8x128x128_0_0_0_0, k0_pay1 (F := F)⟩] = harg9.unread (k0_pay1 (F := F)) :=
  harg9.eq_unread (by
    funext y
    have e : (Rect.unit (s := S2x8x128x128) ![0, 0, 0, 0] S2x8x128x128.size inb_S2x8x128x128_S2x8x128x128_0_0_0_0).emb y = y :=
      funext fun a => Fin.ext (by
        show ![0, 0, 0, 0] a + 1 * (y a).val = (y a).val
        fin_cases a <;> simp)
    exact (congrArg _ e.symm).trans (View.read_writes_cons_emb _ _ _ _ _ _))

set_option maxHeartbeats 4000000 in
/-- The body at the first grid point: the state is filled with zeros, whatever it held. -/
theorem body_first (hc0 : cond0_0 i) (E : Set ℕ) (K : PUnit → sProp 𝕄) :
    iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare x4 ∗ owns (c : Thread nD τ) arg6 fullShare x5
      ∗ owns (c : Thread nD τ) arg7 fullShare x6 ∗ (∃ d, owns (c : Thread nD τ) arg8 fullShare d)
      ∗ (∃ d, owns (c : Thread nD τ) arg9 fullShare d)
      ∗ (iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6
          ∗ owns (c : Thread nD τ) arg8 fullShare (outBlock c i arg1 harg1 arg2 harg2 arg3 harg3 arg4 harg4 arg5 harg5
              arg6 harg6 arg7 harg7 arg8 harg8 arg9 harg9 x0 x1 x2 x3 x4 x5 x6 (k0_pay1 (F := F)))
          ∗ owns (c : Thread nD τ) arg9 fullShare (stateBlock c i arg1 harg1 arg2 harg2 arg3 harg3 arg4 harg4 arg5 harg5
              arg6 harg6 arg7 harg7 arg8 harg8 arg9 harg9 x0 x1 x2 x3 x4 x5 x6 (k0_pay1 (F := F)))) -∗ K ⟨⟩))
      ⊢ wp frame (wpE (defs₀ (F := F)) Variants.none c none) E (cc0_gdn_scan i arg1 harg1 arg2 harg2 arg3 harg3 arg4 harg4
          arg5 harg5 arg6 harg6 arg7 harg7 arg8 harg8 arg9 harg9) K := by
  simp only [cc0_gdn_scan_eq_skeleton]; unfold cc0_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | sl_exact hc0)
  sl_step
  have hz := zeroed (F := F) arg9 harg9 arg9.view.junk
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; exact (congrArg (fun G => arg8.view.read (Elt F) (arg8.view.writes (Elt F) f7 (Prod.fst (stores (F := F) c i arg1 harg1 arg2 harg2 arg3 harg3 arg4 harg4 arg5 harg5 arg6 harg6 arg7 harg7
      arg8 harg8 arg9 harg9 _ _ _ _ _ _ _ f7 G _)))) hz).trans (outBlock_eq c i arg1 harg1 arg2 harg2 arg3 harg3 arg4 harg4 arg5 harg5 arg6 harg6 arg7 harg7 arg8 harg8 arg9 harg9 x0 x1 x2 x3 x4 x5 x6 f7 _)
  iexists _; isplitr
  swap; · iexact H8
  ipureintro; exact (congrArg (arg9.view.read (Elt F)) (View.writes_append _ _ _ _)).trans ((congrArg (fun G => arg9.view.read (Elt F) (arg9.view.writes (Elt F) G (Prod.snd (stores (F := F) c i arg1 harg1 arg2 harg2 arg3 harg3 arg4 harg4 arg5 harg5 arg6 harg6 arg7 harg7
      arg8 harg8 arg9 harg9 _ _ _ _ _ _ _ f7 G _)))) hz).trans (stateBlock_eq c i arg1 harg1 arg2 harg2 arg3 harg3 arg4 harg4 arg5 harg5 arg6 harg6 arg7 harg7 arg8 harg8 arg9 harg9 x0 x1 x2 x3 x4 x5 x6 f7 _))

set_option maxHeartbeats 4000000 in
/-- The body at a later grid point: the state goes on from what it held. -/
theorem body_next (hc0 : ¬cond0_0 i) (st : Vec F S2x8x128x128 .f32) (E : Set ℕ) (K : PUnit → sProp 𝕄) :
    iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare x4 ∗ owns (c : Thread nD τ) arg6 fullShare x5
      ∗ owns (c : Thread nD τ) arg7 fullShare x6 ∗ (∃ d, owns (c : Thread nD τ) arg8 fullShare d)
      ∗ owns (c : Thread nD τ) arg9 fullShare st
      ∗ (iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6
          ∗ owns (c : Thread nD τ) arg8 fullShare (outBlock c i arg1 harg1 arg2 harg2 arg3 harg3 arg4 harg4 arg5 harg5
              arg6 harg6 arg7 harg7 arg8 harg8 arg9 harg9 x0 x1 x2 x3 x4 x5 x6 st)
          ∗ owns (c : Thread nD τ) arg9 fullShare (stateBlock c i arg1 harg1 arg2 harg2 arg3 harg3 arg4 harg4 arg5 harg5
              arg6 harg6 arg7 harg7 arg8 harg8 arg9 harg9 x0 x1 x2 x3 x4 x5 x6 st)) -∗ K ⟨⟩))
      ⊢ wp frame (wpE (defs₀ (F := F)) Variants.none c none) E (cc0_gdn_scan i arg1 harg1 arg2 harg2 arg3 harg3 arg4 harg4
          arg5 harg5 arg6 harg6 arg7 harg7 arg8 harg8 arg9 harg9) K := by
  simp only [cc0_gdn_scan_eq_skeleton]; unfold cc0_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; exact outBlock_eq c i arg1 harg1 arg2 harg2 arg3 harg3 arg4 harg4 arg5 harg5 arg6 harg6 arg7 harg7 arg8 harg8 arg9 harg9 x0 x1 x2 x3 x4 x5 x6 f7 st
  iexists _; isplitr
  swap; · iexact H8
  ipureintro; exact stateBlock_eq c i arg1 harg1 arg2 harg2 arg3 harg3 arg4 harg4 arg5 harg5 arg6 harg6 arg7 harg7 arg8 harg8 arg9 harg9 x0 x1 x2 x3 x4 x5 x6 f7 st

end Cert.ScanProof

end
-- ==== Proof.Scan.Frame.lean ====
module

public import proofs.«01_k».proof.Proof.Scan.Run
public import proofs.«01_k».proof.Defs
public import Idealize.ShloMosaic.Lib.Pipeline.FrameBody
public import Idealize.ShloMosaic.Lib.Claim
public import Idealize.ShloMosaic.Lib.Quiescent

@[expose] public section

set_option maxRecDepth 16384

noncomputable section

namespace Cert.ScanProof

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the point `t` leaves in the state, which starts at `st`. -/
abbrev statePt (c : Dev nD) (t : Fin cfg0.N) (st : Vec F S2x8x128x128 .f32) : Vec F S2x8x128x128 .f32 :=
  stateBlock c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t) st

/-- What the point `t` leaves in the output block, the state starting at `st`. -/
abbrev outPt (c : Dev nD) (t : Fin cfg0.N) (st : Vec F S2x8x128x128 .f32) : Vec F S2x512x1024 .bf16 :=
  outBlock c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t) st

/-- The state that the point `n` starts from: zeros, then what the point before left. -/
def stAt (c : Dev nD) : (n : ℕ) → n ≤ cfg0.N → Vec F S2x8x128x128 .f32
  | 0, _ => k0_pay1 (F := F)
  | n + 1, h => statePt m c ⟨n, h⟩ (stAt c n (Nat.le_of_lt h))

/-- What is held before point `n`: the state's buffer at anything at first, then at what the point before left. -/
def held (c : Dev nD) : (n : ℕ) → n ≤ cfg0.N → sProp 𝕄
  | 0, _ => Pipeline.ΦA spec0 c
  | n + 1, h => iprop(iprop(owns (c : Thread nD τ) scM0_0 fullShare (stAt m c (n + 1) h)) ∗ (∃ r, prngReg c r))

theorem held_pos (c : Dev nD) (n : ℕ) (h : n ≤ cfg0.N) (hn : n ≠ 0) :
    held m c n h = iprop(iprop(owns (c : Thread nD τ) scM0_0 fullShare (stAt m c n h)) ∗ (∃ r, prngReg c r)) := by
  cases n with
  | zero => exact absurd rfl hn
  | succ n => rfl

/-- The proof data: the arrays at entry, each window's block after each point, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outPt m c t (stAt m c t.val (Nat.le_of_lt t.isLt))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_7 (c : Dev nD) (t : Fin cfg0.N) :
    (dats m 0 c).after 7 t = outPt m c t (stAt m c t.val (Nat.le_of_lt t.isLt)) := by dsimp only [dats]

/-- The read windows' blocks are found, and left, as the arrays hold them. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) :=
  ⟨before0_0_of m (dats m 0 c) (A_eq m c 0) (fun t => by dsimp only [dats]) t,
   before0_1_of m (dats m 0 c) (A_eq m c 1) (fun t => by dsimp only [dats]) t,
   before0_2_of m (dats m 0 c) (A_eq m c 2) (fun t => by dsimp only [dats]) t,
   before0_3_of m (dats m 0 c) (A_eq m c 3) (fun t => by dsimp only [dats]) t,
   before0_4_of m (dats m 0 c) (A_eq m c 4) (fun t => by dsimp only [dats]) t,
   before0_5_of m (dats m 0 c) (A_eq m c 5) (fun t => by dsimp only [dats]) t,
   before0_6_of m (dats m 0 c) (A_eq m c 6) (fun t => by dsimp only [dats]) t⟩

/-- What the body finds at a point. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body leaves at a point. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The state that the first point starts from is zeros. -/
theorem stAt_first (c : Dev nD) (n : ℕ) (h : n ≤ cfg0.N) (hn : n = 0) : stAt m c n h = k0_pay1 (F := F) := by
  subst hn; rfl

theorem held_first (c : Dev nD) (n : ℕ) (h : n ≤ cfg0.N) (hn : n = 0) : held m c n h = Pipeline.ΦA spec0 c := by
  subst hn; rfl

set_option maxHeartbeats 8000000 in
/-- The body, at any point, takes what it finds to what it leaves. -/
theorem body_point (c : Dev nD) (t : Fin cfg0.N) :
    pre m c t ⊢ wp frame (wpE (defs₀ (F := F)) Variants.none c none) Set.univ (bodyAt0 t) (fun _ => post m c t) := by
  obtain ⟨b0, b1, b2, b3, b4, b5, b6⟩ := before_in m c t
  have hN : t.val < 8 := lt_of_lt_of_eq t.isLt (show cfg0.N = 8 from N_0)
  have hΦ : (dats m 0 c).Φ t.castSucc = held m c t.val (Nat.le_of_lt t.isLt) := by
    dsimp only [dats]; exact Pipeline.Dat.Φ_castSucc (held m c) t
  have hΦ' : (dats m 0 c).Φ t.succ = iprop(iprop(owns (c : Thread nD τ) scM0_0 fullShare
      (statePt m c t (stAt m c t.val (Nat.le_of_lt t.isLt)))) ∗ (∃ r, prngReg c r)) := rfl
  have ho : (dats m 0 c).owesAt () t.succ = (dats m 0 c).owesAt () t.castSucc := rfl
  unfold pre post bodyAt0
  rw [hΦ, hΦ', ho, after_7, show (dats m 0 c).after 0 t = iblk m c 0 t from by dsimp only [dats],
    show (dats m 0 c).after 1 t = iblk m c 1 t from by dsimp only [dats], show (dats m 0 c).after 2 t = iblk m c 2 t from by dsimp only [dats],
    show (dats m 0 c).after 3 t = iblk m c 3 t from by dsimp only [dats], show (dats m 0 c).after 4 t = iblk m c 4 t from by dsimp only [dats],
    show (dats m 0 c).after 5 t = iblk m c 5 t from by dsimp only [dats], show (dats m 0 c).after 6 t = iblk m c 6 t from by dsimp only [dats]]
  by_cases hz : t.val = 0
  · have hc0 : cond0_0 (grid0.coords t) := (hcond0_0 t).mpr (by rw [hz])
    rw [held_first m c _ _ hz, PhiA0_eq, stAt_first m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [b0 d0, b1 d1, b2 d2, b3 d3, b4 d4, b5 d5, b6 d6]
    iapply (body_first c (grid0.coords t) _ _ _ _ _ _ _ _ _ _ _ _ _ _ _ _ _ _ (iblk m c 0 t) (iblk m c 1 t)
      (iblk m c 2 t) (iblk m c 3 t) (iblk m c 4 t) (iblk m c 5 t) (iblk m c 6 t) hc0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · have hc0 : ¬cond0_0 (grid0.coords t) := fun h => by have := (hcond0_0 t).mp h; omega
    rw [held_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [b0 d0, b1 d1, b2 d2, b3 d3, b4 d4, b5 d5, b6 d6]
    iapply (body_next c (grid0.coords t) _ _ _ _ _ _ _ _ _ _ _ _ _ _ _ _ _ _ (iblk m c 0 t) (iblk m c 1 t)
      (iblk m c 2 t) (iblk m c 3 t) (iblk m c 4 t) (iblk m c 5 t) (iblk m c 6 t) hc0 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's body table at a point is the kernel's body on the point's blocks. -/
theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_point m c t) rfl .rfl fun _ => .rfl

theorem held_in (c : Dev nD) : Pipeline.ΦA spec0 c ⊢ (dats m 0 c).Φ 0 := Idealize.SL.BI.Entails.refl _

theorem held_out (c : Dev nD) : (dats m 0 c).Φ (Fin.last cfg0.N) ⊢ Pipeline.ΦA spec0 c := by
  have hN : cfg0.N = 8 := N_0
  rw [show (dats m 0 c).Φ (Fin.last cfg0.N) = held m c (Fin.last cfg0.N).val (Nat.le_of_lt_succ (Fin.last cfg0.N).isLt) from rfl,
    held_pos m c _ _ (by rw [Fin.val_last]; omega), PhiA0_eq]
  iintro ⟨HS, Hg⟩
  isplitl [HS]
  · iexists _; iexact HS
  iexact Hg

set_option backward.isDefEq.respectTransparency.types false in
/-- The whole program runs, leaves the arrays at what the proof data say, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := held_in m) (hout := held_out m)

/-- The program runs, keeps its arguments and leaves every counter at zero, over any scalars. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The idealized kernel's frame. -/
theorem frame_ideal : Cert.quiescent_ScanIdeal := fun m ρ _ => frame_any m ρ

end Cert.ScanProof

end
-- ==== Proof.Scan.Raw.lean ====
module

public import proofs.«01_k».proof.Proof.Scan.Frame
public import proofs.«01_k».proof.Proof.Gen.Scan.Launch

@[expose] public section

set_option maxRecDepth 65536

noncomputable section

namespace Cert.ScanProof
open Idealize.ShloMosaic

variable [Cert.Scan.Facts]

set_option maxHeartbeats 4000000 in
/-- The compiled kernel's body table is the idealized kernel's. -/
theorem bodies_same : Cert.Scan.defs₀ (F := Bits) = Cert.ScanIdeal.defs₀ (F := Bits) := by
  unfold Cert.Scan.defs₀ Cert.ScanIdeal.defs₀
  refine congrArg (Defs.onTc (nD := Cert.ScanIdeal.nD) (τ := Cert.ScanIdeal.τ) (sig := Cert.ScanIdeal.sig) (Val := Elt Bits)
    (Λ := Cert.ScanIdeal.Λ₀)) (funext fun ℓ => ?_)
  match ℓ with
  | ⟨0, _⟩ => exact funext fun ⟨t, s⟩ => rfl
  | ⟨_ + 1, h⟩ => exact absurd h (Nat.not_lt.2 (Nat.le_add_left _ _))

set_option maxHeartbeats 4000000 in
/-- And so is the table with the pipeline's own rows. -/
theorem tables_same : Cert.Scan.defs (F := Bits) = Cert.ScanIdeal.defs (F := Bits) := by
  unfold Cert.Scan.defs Cert.ScanIdeal.defs
  exact congrArg (Pipeline.defs (Cert.ScanIdeal.pcfgs (F := Bits))) bodies_same

set_option maxHeartbeats 4000000 in
/-- The kernel as compiled runs, keeps its arguments and leaves every counter at zero: its text is the idealized kernel's. -/
theorem frame_kernel : Cert.quiescent_Scan := fun m ρ _ => by
  rw [tables_same]
  exact frame_any (F := Bits) m ρ

end Cert.ScanProof

end
-- ==== Proof.Scan.Chain.lean ====
/- One chain of the scan: what one chunk does to a state of 128 × 128 numbers, and that the kernel's values are those. -/
module

public import proofs.«01_k».proof.Proof.Gen.ScanIdeal.Skeleton
public import Idealize.ShloMosaic.Lib.Pipeline.ValueKit

@[expose] public section

set_option maxRecDepth 16384

noncomputable section

namespace Cert.ScanProof

open Cert.ScanIdeal Cert.ScanIdeal.Gen Idealize.ShloMosaic Idealize.ShloMosaic.TcCoe Idealize.SL.Sem

/-- A chunk's corrected values: what the values `u` exceed the state's reading at the keys `w` by. -/
def fresh (w u : Fin 64 → Fin 128 → EReal) (S : Fin 128 → Fin 128 → EReal) (r : Fin 64) (e : Fin 128) : EReal :=
  u r e - ∑ j : Fin 128, w r j * S j e

/-- The state after a chunk: the decayed state plus the outer products of the chunk's keys and corrected values. -/
def nextState (ke : Fin 64 → Fin 128 → EReal) (gl : Fin 128 → EReal) (S : Fin 128 → Fin 128 → EReal)
    (v : Fin 64 → Fin 128 → EReal) (d e : Fin 128) : EReal :=
  S d e * gl e + ∑ r : Fin 64, ke r d * v r e

/-- What a chunk's queries read: the state before the chunk, and the chunk's own corrected values. -/
def reading (q : Fin 64 → Fin 128 → EReal) (qk : Fin 64 → Fin 64 → EReal) (S : Fin 128 → Fin 128 → EReal)
    (v : Fin 64 → Fin 128 → EReal) (r : Fin 64) (e : Fin 128) : EReal :=
  ∑ j : Fin 128, q r j * S j e + ∑ i : Fin 64, qk r i * v i e

/-- A row normalised by its root mean square, times the norm's weight. -/
def normed (o nw : Fin 128 → EReal) (e : Fin 128) : EReal :=
  o e * Ideal.rsqrt (Ideal.div (∑ l : Fin 128, o l * o l) (Ideal.ofBits .f32 0x43000000#32)
    + Ideal.ofBits .f32 0x358637BD#32) * nw e

/-- The gate as the kernel computes it, through the hyperbolic tangent of half its argument. -/
def halfGate (z : EReal) : EReal :=
  Ideal.ofBits .f32 0x3F000000#32 * z + Ideal.ofBits .f32 0x3F000000#32 * z * Ideal.tanh (Ideal.ofBits .f32 0x3F000000#32 * z)

variable (stv : FVec Ideal S1x1x128x128 .f32) (wqv : FVec Ideal S1x1x1x128x128 .bf16) (uv kev : FVec Ideal S1x1x1x64x128 .bf16)
  (qkv : FVec Ideal S1x1x1x64x64 .bf16) (glv : FVec Ideal S1x1x1x1x128 .f32) (nwv : FVec Ideal S1x128 .f32) (zv : FVec Ideal S1x64x128 .bf16)

/-- The corrected values of one chain, as the kernel computes them from what it loads. -/
def chainFresh : FVec Ideal S64x128 .bf16 := k0_pay34 (k0_pay18 (k0_pay2 stv) wqv) uv

/-- The state one chain stores. -/
def chainState : FVec Ideal S1x1x128x128 .f32 := k0_pay89 (k0_pay2 stv) (k0_pay51 (chainFresh stv wqv uv) kev) glv

/-- The output rows one chain stores. -/
def chainOut : FVec Ideal S1x64x128 .bf16 :=
  k0_pay107 nwv (k0_pay68 (k0_pay18 (k0_pay2 stv) wqv) (chainFresh stv wqv uv) qkv) zv

/-- The corrected values at an index. -/
theorem chainFresh_apply (y) : chainFresh stv wqv uv y
    = fresh (fun r j => wqv (ix5 0 0 0 ⟨r.val, by omega⟩ j)) (fun r e => uv (ix5 0 0 0 r e)) (fun d e => stv (ix4 0 0 d e)) (y 0) (y 1) := by
  pointwise [chainFresh, k0_pay34, k0_pay18, k0_pay2, fresh]

/-- An index of a one-chain state block, by its last two coordinates. -/
theorem eq_state_idx (y : S1x1x128x128.Idx) : y = ix4 0 0 (y 2) (y 3) := by
  funext i; fin_cases i
  · exact Subsingleton.elim (α := Fin 1) _ _
  · exact Subsingleton.elim (α := Fin 1) _ _
  · rfl
  · rfl

/-- An index of a block of output rows, by its last two coordinates. -/
theorem eq_out_idx (y : S1x64x128.Idx) : y = ix3 0 (y 1) (y 2) := by
  funext i; fin_cases i
  · exact Subsingleton.elim (α := Fin 1) _ _
  · rfl
  · rfl

/-- The stored state at an index. -/
theorem chainState_apply (y) : chainState stv wqv uv kev glv y
    = nextState (fun r d => kev (ix5 0 0 0 r d)) (fun e => glv (ix5 0 0 0 0 e)) (fun d e => stv (ix4 0 0 d e))
        (fresh (fun r j => wqv (ix5 0 0 0 ⟨r.val, by omega⟩ j)) (fun r e => uv (ix5 0 0 0 r e)) (fun d e => stv (ix4 0 0 d e)))
        (y 2) (y 3) := by
  pointwise [chainState, k0_pay89, k0_pay51, k0_pay2, nextState]
  simp only [chainFresh_apply]
  exact congrArg (fun t => stv t * _ + _) (eq_state_idx y)

/-- What the queries of one chain read, at an index. -/
theorem chainReading_apply (y) : k0_pay68 (k0_pay18 (k0_pay2 stv) wqv) (chainFresh stv wqv uv) qkv y
    = reading (fun r j => wqv (ix5 0 0 0 ⟨64 + r.val, by omega⟩ j)) (fun r i => qkv (ix5 0 0 0 r i)) (fun d e => stv (ix4 0 0 d e))
        (fresh (fun r j => wqv (ix5 0 0 0 ⟨r.val, by omega⟩ j)) (fun r e => uv (ix5 0 0 0 r e)) (fun d e => stv (ix4 0 0 d e)))
        (y 0) (y 1) := by
  pointwise [k0_pay68, k0_pay18, k0_pay2, reading]
  simp only [chainFresh_apply]
  rfl

/-- The stored output rows at an index. -/
theorem chainOut_apply (y) : chainOut stv wqv uv qkv nwv zv y
    = normed (reading (fun r j => wqv (ix5 0 0 0 ⟨64 + r.val, by omega⟩ j)) (fun r i => qkv (ix5 0 0 0 r i)) (fun d e => stv (ix4 0 0 d e))
        (fresh (fun r j => wqv (ix5 0 0 0 ⟨r.val, by omega⟩ j)) (fun r e => uv (ix5 0 0 0 r e)) (fun d e => stv (ix4 0 0 d e))) (y 1))
        (fun e => nwv (ix2 0 e)) (y 2) * halfGate (zv (ix3 0 (y 1) (y 2))) := by
  pointwise [chainOut, k0_pay107, normed, halfGate]
  simp only [chainReading_apply]
  exact congrArg (fun t => _ * (_ * zv t + _ * zv t * Ideal.tanh (_ * zv t))) (eq_out_idx y)

end Cert.ScanProof

end
-- ==== Proof.Scan.Whole.lean ====
/- The whole scan as mathematics of its arguments. -/
module

public import proofs.«01_k».proof.Proof.Scan.Chain

@[expose] public section

set_option maxRecDepth 16384

noncomputable section

namespace Cert.ScanProof

open Cert.ScanIdeal Cert.ScanIdeal.Gen Idealize.ShloMosaic Idealize.ShloMosaic.TcCoe Idealize.SL.Sem

section
variable (a0 : FVec Ideal S8x128x128x128 .bf16) (a1 a2 : FVec Ideal S8x128x64x128 .bf16) (a3 : FVec Ideal S8x128x64x64 .bf16)
  (a4 : FVec Ideal S8x128x1x128 .f32) (a5 : FVec Ideal S8192x7168 .bf16) (a6 : FVec Ideal S1x128 .f32)

/-- Where chunk `n` of batch `b` lies among the 128 chunks of a head. -/
def cell (b : Fin 2) (n : ℕ) : Fin 128 := ⟨(64 * b.val + n) % 128, Nat.mod_lt _ (by decide)⟩

/-- The corrected values of chunk `n` of batch `b` and head `h`, from the state before it. -/
def freshAt (b : Fin 2) (h : Fin 8) (n : ℕ) (S : Fin 128 → Fin 128 → EReal) : Fin 64 → Fin 128 → EReal :=
  fresh (fun r j => a0 (ix4 h (cell b n) ⟨r.val, by omega⟩ j)) (fun r e => a1 (ix4 h (cell b n) r e)) S

/-- The state of batch `b` and head `h` before chunk `n`: zero before the first. -/
def stateAt (b : Fin 2) (h : Fin 8) : ℕ → Fin 128 → Fin 128 → EReal
  | 0 => fun _ _ => 0
  | n + 1 => nextState (fun r d => a2 (ix4 h (cell b n) r d)) (fun e => a4 (ix4 h (cell b n) 0 e)) (stateAt b h n)
      (freshAt a0 a1 b h n (stateAt b h n))

/-- What the queries of chunk `n` of batch `b` and head `h` read. -/
def readAt (b : Fin 2) (h : Fin 8) (n : ℕ) : Fin 64 → Fin 128 → EReal :=
  reading (fun r j => a0 (ix4 h (cell b n) ⟨64 + r.val, by omega⟩ j)) (fun r i => a3 (ix4 h (cell b n) r i))
    (stateAt a0 a1 a2 a4 b h n) (freshAt a0 a1 b h n (stateAt a0 a1 a2 a4 b h n))

/-- The gate's argument at row `s` of batch `b` and column `e` of head `h`. -/
def gateAt (b : Fin 2) (s : Fin 4096) (h : Fin 8) (e : Fin 128) : EReal :=
  a5 (ix2 ⟨4096 * b.val + s.val, by omega⟩ ⟨6144 + (128 * h.val + e.val), by omega⟩)

/-- The scan's output at row `s` of batch `b` and column `e` of head `h`, with the gate's function given. -/
def outAt (gate : EReal → EReal) (b : Fin 2) (s : Fin 4096) (h : Fin 8) (e : Fin 128) : EReal :=
  normed (readAt a0 a1 a2 a3 a4 b h (s.val / 64) ⟨s.val % 64, by omega⟩) (fun e => a6 (ix2 0 e)) e * gate (gateAt a5 b s h e)

/-- The scan's output array. -/
def res (gate : EReal → EReal) (i : S2x4096x1024.Idx) : EReal :=
  outAt a0 a1 a2 a3 a4 a5 a6 gate (i 0) (i 1) ⟨(i 2).val / 128, by have : (i 2).val < 1024 := (i 2).isLt; omega⟩
    ⟨(i 2).val % 128, by omega⟩
end

end Cert.ScanProof

end
-- ==== Proof.Scan.Load.lean ====
/- One chunk of one grid point: the sixteen chains' stores, as one function of the index. -/
module

public import proofs.«01_k».proof.Proof.Scan.Run
public import proofs.«01_k».proof.Proof.Scan.Chain

@[expose] public section

set_option maxRecDepth 16384

noncomputable section

namespace Cert.ScanProof

open Cert.ScanIdeal Cert.ScanIdeal.Gen Idealize.ShloMosaic Idealize.ShloMosaic.TcCoe Idealize.SL.Sem

variable (x0 : Vec Ideal S8x2x8x128x128 .bf16) (x1 : Vec Ideal S8x2x8x64x128 .bf16) (x2 : Vec Ideal S8x2x8x64x128 .bf16)
  (x3 : Vec Ideal S8x2x8x64x64 .bf16) (x4 : Vec Ideal S8x2x8x1x128 .f32) (x5 : Vec Ideal S2x512x1024 .bf16)
  (v3 : Vec Ideal S1x128 .f32)

/-- The corrected values of chunk `k` for batch `b` and head `h`, from the chain's state. -/
def blkFresh (k : Fin 8) (b : Fin 2) (h : Fin 8) (S : Fin 128 → Fin 128 → EReal) : Fin 64 → Fin 128 → EReal :=
  fresh (fun r j => x0 (ix5 h b k ⟨r.val, by omega⟩ j)) (fun r e => x1 (ix5 h b k r e)) S

/-- The state of batch `b` and head `h` after chunk `k`. -/
def blkNext (k : Fin 8) (b : Fin 2) (h : Fin 8) (S : Fin 128 → Fin 128 → EReal) : Fin 128 → Fin 128 → EReal :=
  nextState (fun r d => x2 (ix5 h b k r d)) (fun e => x4 (ix5 h b k 0 e)) S (blkFresh x0 x1 k b h S)

/-- The output row `r` of chunk `k` for batch `b` and head `h`. -/
def blkOut (k : Fin 8) (b : Fin 2) (h : Fin 8) (S : Fin 128 → Fin 128 → EReal) (r : Fin 64) (e : Fin 128) : EReal :=
  normed (reading (fun r j => x0 (ix5 h b k ⟨64 + r.val, by omega⟩ j)) (fun r i => x3 (ix5 h b k r i)) S (blkFresh x0 x1 k b h S) r)
    (fun e => v3 (ix2 0 e)) e
    * halfGate (x5 (ix3 b ⟨64 * k.val + r.val, by omega⟩ ⟨128 * h.val + e.val, by omega⟩))

/-- The state block after chunk `k`, all chains together. -/
def stateAfter (k : Fin 8) (st : Vec Ideal S2x8x128x128 .f32) (y : S2x8x128x128.Idx) : EReal :=
  blkNext x0 x1 x2 x4 k (y 0) (y 1) (fun d e => st (ix4 (y 0) (y 1) d e)) (y 2) (y 3)

/-- The head a column of the output block belongs to. -/
def headOf (y : S2x512x1024.Idx) : Fin 8 := ⟨(y 2).val / 128, by have : (y 2).val < 1024 := (y 2).isLt; omega⟩
/-- The column within its head. -/
def colOf (y : S2x512x1024.Idx) : Fin 128 := ⟨(y 2).val % 128, by omega⟩
/-- The row within its chunk. -/
def rowOf (y : S2x512x1024.Idx) : Fin 64 := ⟨(y 1).val % 64, by omega⟩

/-- The output rows chunk `k` stores, all chains together. -/
def outOf (k : Fin 8) (st : Vec Ideal S2x8x128x128 .f32) (y : S2x512x1024.Idx) : EReal :=
  blkOut x0 x1 x3 x5 v3 k (y 0) (headOf y) (fun d e => st (ix4 (y 0) (headOf y) d e)) (rowOf y) (colOf y)

variable (arg1 : Memref sig .tc .vmem S8x2x8x128x128 .bf16) (harg1 : arg1.IsWhole)
  (arg2 : Memref sig .tc .vmem S8x2x8x64x128 .bf16) (harg2 : arg2.IsWhole)
  (arg3 : Memref sig .tc .vmem S8x2x8x64x128 .bf16) (harg3 : arg3.IsWhole)
  (arg4 : Memref sig .tc .vmem S8x2x8x64x64 .bf16) (harg4 : arg4.IsWhole)
  (arg5 : Memref sig .tc .vmem S8x2x8x1x128 .f32) (harg5 : arg5.IsWhole)
  (arg6 : Memref sig .tc .vmem S2x512x1024 .bf16) (harg6 : arg6.IsWhole)
  (arg9 : Memref sig .tc .vmem S2x8x128x128 .f32) (f9 : BufTy.Contents (Elt Ideal) arg9.view.ty)

/-- A unit-stride load of a whole array's contents reads the array at the offset plus the index. -/
theorem load_at {s : Shape} {e : EltTy} {sp : Space} (a : Memref sig .tc sp s e) (ha : a.IsWhole) (X : Vec Ideal s e)
    (off size : Fin s.rank → Nat) (inb) (z : (Rect.unit off size inb).shape.Idx) (j : s.Idx) (hj : ∀ d, (j d : Nat) = off d + z d) :
    View.readAt (Elt Ideal) a.view (Rect.unit off size inb).toLoadRect (ha.unread X) z = X j :=
  (View.readAt_apply _ _ _).trans ((congrFun (ha.read_unread X) _).trans
    (congrArg X (funext fun d => Fin.ext ((Rect.idx_unit_val off size inb z d).trans (hj d).symm))))

section
variable (k : Fin 8) (b : Fin 2) (h : Fin 8)
  (o1 : Fin 5 → Nat) (n1) (h1 : o1 = ![h.val, b.val, k.val, 0, 0])
  (o2 : Fin 5 → Nat) (n2) (n3) (h2 : o2 = ![h.val, b.val, k.val, 0, 0])
  (o4 : Fin 5 → Nat) (n4) (h4 : o4 = ![h.val, b.val, k.val, 0, 0])
  (o5 : Fin 5 → Nat) (n5) (h5 : o5 = ![h.val, b.val, k.val, 0, 0])
  (o6 : Fin 3 → Nat) (n6) (n8) (h6 : o6 = ![b.val, 64 * k.val, 128 * h.val])
  (o9 : Fin 4 → Nat) (n9) (h9 : o9 = ![b.val, h.val, 0, 0])

/-- The state chain `(b, h)` loads. -/
abbrev ldSt := View.readAt (Elt Ideal) arg9.view (Rect.unit (s := S2x8x128x128) o9 S1x1x128x128.size n9).toLoadRect f9
/-- The keys and queries chain `(b, h)` loads. -/
abbrev ldWq := View.readAt (Elt Ideal) arg1.view (Rect.unit (s := S8x2x8x128x128) o1 S1x1x1x128x128.size n1).toLoadRect (harg1.unread x0)
/-- The values chain `(b, h)` loads. -/
abbrev ldU := View.readAt (Elt Ideal) arg2.view (Rect.unit (s := S8x2x8x64x128) o2 S1x1x1x64x128.size n2).toLoadRect (harg2.unread x1)
/-- The keys of the update chain `(b, h)` loads. -/
abbrev ldKe := View.readAt (Elt Ideal) arg3.view (Rect.unit (s := S8x2x8x64x128) o2 S1x1x1x64x128.size n3).toLoadRect (harg3.unread x2)
/-- The products of queries and keys chain `(b, h)` loads. -/
abbrev ldQk := View.readAt (Elt Ideal) arg4.view (Rect.unit (s := S8x2x8x64x64) o4 S1x1x1x64x64.size n4).toLoadRect (harg4.unread x3)
/-- The decay chain `(b, h)` loads. -/
abbrev ldGl := View.readAt (Elt Ideal) arg5.view (Rect.unit (s := S8x2x8x1x128) o5 S1x1x1x1x128.size n5).toLoadRect (harg5.unread x4)
/-- The gate's rows chain `(b, h)` loads. -/
abbrev ldZ := View.readAt (Elt Ideal) arg6.view (Rect.unit (s := S2x512x1024) o6 S1x64x128.size n6).toLoadRect (harg6.unread x5)

include h9 in
/-- The state loaded, at an index. -/
theorem ldSt_apply (d e : Fin 128) : ldSt arg9 f9 o9 n9 (ix4 0 0 d e) = arg9.view.read (Elt Ideal) f9 (ix4 b h d e) := by
  subst h9
  refine (View.readAt_apply _ _ _).trans (congrArg (arg9.view.read (Elt Ideal) f9) (funext fun a => Fin.ext ?_))
  refine (Rect.idx_unit_val _ _ _ _ a).trans ?_
  fin_cases a <;> simp [ix4]

include h1 in
/-- The keys and queries loaded, at an index. -/
theorem ldWq_apply (r j : Fin 128) : ldWq x0 arg1 harg1 o1 n1 (ix5 0 0 0 r j) = x0 (ix5 h b k r j) := by
  subst h1
  exact load_at arg1 harg1 x0 _ _ _ _ _ fun a => by fin_cases a <;> simp [ix5]
include h2 in
/-- The values loaded, at an index. -/
theorem ldU_apply (r : Fin 64) (j : Fin 128) : ldU x1 arg2 harg2 o2 n2 (ix5 0 0 0 r j) = x1 (ix5 h b k r j) := by
  subst h2
  exact load_at arg2 harg2 x1 _ _ _ _ _ fun a => by fin_cases a <;> simp [ix5]
include h2 in
/-- The keys of the update loaded, at an index. -/
theorem ldKe_apply (r : Fin 64) (j : Fin 128) : ldKe x2 arg3 harg3 o2 n3 (ix5 0 0 0 r j) = x2 (ix5 h b k r j) := by
  subst h2
  exact load_at arg3 harg3 x2 _ _ _ _ _ fun a => by fin_cases a <;> simp [ix5]
include h4 in
/-- The products of queries and keys loaded, at an index. -/
theorem ldQk_apply (r j : Fin 64) : ldQk x3 arg4 harg4 o4 n4 (ix5 0 0 0 r j) = x3 (ix5 h b k r j) := by
  subst h4
  exact load_at arg4 harg4 x3 _ _ _ _ _ fun a => by fin_cases a <;> simp [ix5]
include h5 in
/-- The decay loaded, at an index. -/
theorem ldGl_apply (j : Fin 128) : ldGl x4 arg5 harg5 o5 n5 (ix5 0 0 0 0 j) = x4 (ix5 h b k 0 j) := by
  subst h5
  exact load_at arg5 harg5 x4 _ _ _ _ _ fun a => by fin_cases a <;> simp [ix5]
include h6 in
/-- The gate's rows loaded, at an index. -/
theorem ldZ_apply (r : Fin 64) (e : Fin 128) : ldZ x5 arg6 harg6 o6 n6 (ix3 0 r e)
    = x5 (ix3 b ⟨64 * k.val + r.val, by omega⟩ ⟨128 * h.val + e.val, by omega⟩) := by
  subst h6
  exact load_at arg6 harg6 x5 _ _ _ _ _ fun a => by fin_cases a <;> simp [ix3]

include h1 h2 h5 h9 in
/-- What chain `(b, h)` stores into the state is the state block after the chunk, there. -/
theorem statePiece (z : S1x1x128x128.Idx) :
    chainState (ldSt arg9 f9 o9 n9) (ldWq x0 arg1 harg1 o1 n1) (ldU x1 arg2 harg2 o2 n2) (ldKe x2 arg3 harg3 o2 n3)
      (ldGl x4 arg5 harg5 o5 n5) z
    = stateAfter x0 x1 x2 x4 k (arg9.view.read (Elt Ideal) f9) ((Rect.unit (s := S2x8x128x128) o9 S1x1x128x128.size n9).emb z) := by
  have hy : (Rect.unit (s := S2x8x128x128) o9 S1x1x128x128.size n9).emb z = ix4 b h (z 2) (z 3) := by
    subst h9
    refine funext fun a => Fin.ext (Eq.trans (Rect.idx_unit_val (s := S2x8x128x128) ![b.val, h.val, 0, 0] S1x1x128x128.size n9 z a) ?_)
    have e0 : (z 0).val = 0 := by have : (z 0).val < 1 := (z 0).isLt; omega
    have e1 : (z 1).val = 0 := by have : (z 1).val < 1 := (z 1).isLt; omega
    fin_cases a <;> simp [ix4, e0, e1]
  rw [chainState_apply, hy]
  simp only [ldSt_apply arg9 f9 b h o9 n9 h9, ldWq_apply x0 arg1 harg1 k b h o1 n1 h1, ldU_apply x1 arg2 harg2 k b h o2 n2 h2,
    ldKe_apply x2 arg3 harg3 k b h o2 n3 h2, ldGl_apply x4 arg5 harg5 k b h o5 n5 h5]
  rfl

include h1 h2 h4 h6 h9 in
/-- What chain `(b, h)` stores into the output block is the chunk's output rows, there. -/
theorem outPiece (z : S1x64x128.Idx) :
    chainOut (ldSt arg9 f9 o9 n9) (ldWq x0 arg1 harg1 o1 n1) (ldU x1 arg2 harg2 o2 n2) (ldQk x3 arg4 harg4 o4 n4) v3
      (ldZ x5 arg6 harg6 o6 n6) z
    = outOf x0 x1 x3 x5 v3 k (arg9.view.read (Elt Ideal) f9) ((Rect.unit (s := S2x512x1024) o6 S1x64x128.size n8).emb z) := by
  have hz1 : (z 1).val < 64 := (z 1).isLt
  have hz2 : (z 2).val < 128 := (z 2).isLt
  have hy : (Rect.unit (s := S2x512x1024) o6 S1x64x128.size n8).emb z
      = ix3 b ⟨64 * k.val + (z 1).val, by omega⟩ ⟨128 * h.val + (z 2).val, by omega⟩ := by
    subst h6
    refine funext fun a => Fin.ext (Eq.trans (Rect.idx_unit_val (s := S2x512x1024) ![b.val, 64 * k.val, 128 * h.val] S1x64x128.size n8 z a) ?_)
    have e0 : (z 0).val = 0 := by have : (z 0).val < 1 := (z 0).isLt; omega
    fin_cases a <;> simp [ix3, e0]
  rw [chainOut_apply, hy]
  simp only [ldSt_apply arg9 f9 b h o9 n9 h9, ldWq_apply x0 arg1 harg1 k b h o1 n1 h1, ldU_apply x1 arg2 harg2 k b h o2 n2 h2,
    ldQk_apply x3 arg4 harg4 k b h o4 n4 h4]
  have eh : headOf (ix3 b ⟨64 * k.val + (z 1).val, by omega⟩ ⟨128 * h.val + (z 2).val, by omega⟩ : S2x512x1024.Idx) = h :=
    Fin.ext (show (128 * h.val + (z 2).val) / 128 = h.val by omega)
  have ec : colOf (ix3 b ⟨64 * k.val + (z 1).val, by omega⟩ ⟨128 * h.val + (z 2).val, by omega⟩ : S2x512x1024.Idx) = z 2 :=
    Fin.ext (show (128 * h.val + (z 2).val) % 128 = (z 2).val by omega)
  have er : rowOf (ix3 b ⟨64 * k.val + (z 1).val, by omega⟩ ⟨128 * h.val + (z 2).val, by omega⟩ : S2x512x1024.Idx) = z 1 :=
    Fin.ext (show (64 * k.val + (z 1).val) % 64 = (z 1).val by omega)
  unfold outOf
  rw [eh, ec, er]
  exact congrArg (fun t => _ * halfGate t) (ldZ_apply x5 arg6 harg6 k b h o6 n6 h6 (z 1) (z 2))

end

end Cert.ScanProof

end
-- ==== Proof.Scan.Chunk.lean ====
/- One chunk of one grid point: every store of the sixteen chains is the same function of the index. -/
module

public import proofs.«01_k».proof.Proof.Scan.Load

@[expose] public section

set_option maxRecDepth 16384

noncomputable section

namespace Cert.ScanProof

open Cert.ScanIdeal Cert.ScanIdeal.Gen Idealize.ShloMosaic Idealize.ShloMosaic.TcCoe Idealize.SL.Sem

variable (c : Dev nD) (i : grid0.Coords)
  (arg1 : Memref sig .tc .vmem S8x2x8x128x128 .bf16) (harg1 : arg1.IsWhole)
  (arg2 : Memref sig .tc .vmem S8x2x8x64x128 .bf16) (harg2 : arg2.IsWhole)
  (arg3 : Memref sig .tc .vmem S8x2x8x64x128 .bf16) (harg3 : arg3.IsWhole)
  (arg4 : Memref sig .tc .vmem S8x2x8x64x64 .bf16) (harg4 : arg4.IsWhole)
  (arg5 : Memref sig .tc .vmem S8x2x8x1x128 .f32) (harg5 : arg5.IsWhole)
  (arg6 : Memref sig .tc .vmem S2x512x1024 .bf16) (harg6 : arg6.IsWhole)
  (arg7 : Memref sig .tc .vmem S1x128 .f32) (harg7 : arg7.IsWhole)
  (arg8 : Memref sig .tc .vmem S2x512x1024 .bf16) (harg8 : arg8.IsWhole)
  (arg9 : Memref sig .tc .vmem S2x8x128x128 .f32) (harg9 : arg9.IsWhole)
  (v3 : Vec Ideal S1x128 .f32)
  (x0 : Vec Ideal S8x2x8x128x128 .bf16) (x1 : Vec Ideal S8x2x8x64x128 .bf16) (x2 : Vec Ideal S8x2x8x64x128 .bf16)
  (x3 : Vec Ideal S8x2x8x64x64 .bf16) (x4 : Vec Ideal S8x2x8x1x128 .f32) (x5 : Vec Ideal S2x512x1024 .bf16)

/-- A trip's number as a chunk within the block. -/
abbrev trip (k : Fin k0_t1_loop.trips) : Fin 8 := ⟨k.val, Nat.lt_of_lt_of_le k.isLt k0_t1_abs.2.1⟩

/-- The stores of one chunk from the contents of whole buffers holding the blocks. -/
abbrev chunk (k : Fin k0_t1_loop.trips) (f8 : BufTy.Contents (Elt Ideal) arg8.view.ty) (f9 : BufTy.Contents (Elt Ideal) arg9.view.ty) :=
  chunkStores (F := Ideal) c i arg1 harg1 arg2 harg2 arg3 harg3 arg4 harg4 arg5 harg5 arg6 harg6 arg7 harg7 arg8 harg8 arg9 harg9
    v3 (harg1.unread x0) (harg2.unread x1) (harg3.unread x2) (harg4.unread x3) (harg5.unread x4) (harg6.unread x5) k f8 f9

/-! The offsets of the loads and stores: head, batch and chunk, or batch, row and column. -/
theorem off1 : ∀ k : Fin k0_t1_loop.trips, k0_off1 k = ![(⟨0, by decide⟩ : Fin 8).val, (⟨0, by decide⟩ : Fin 2).val, (trip k).val, 0, 0] := by decide +kernel
theorem off17 : ∀ k : Fin k0_t1_loop.trips, k0_off17 k = ![(⟨0, by decide⟩ : Fin 8).val, (⟨0, by decide⟩ : Fin 2).val, (trip k).val, 0, 0] := by decide +kernel
theorem off33 : ∀ k : Fin k0_t1_loop.trips, k0_off33 k = ![(⟨0, by decide⟩ : Fin 8).val, (⟨0, by decide⟩ : Fin 2).val, (trip k).val, 0, 0] := by decide +kernel
theorem off49 : ∀ k : Fin k0_t1_loop.trips, k0_off49 k = ![(⟨0, by decide⟩ : Fin 8).val, (⟨0, by decide⟩ : Fin 2).val, (trip k).val, 0, 0] := by decide +kernel
theorem off65 : ∀ k : Fin k0_t1_loop.trips, k0_off65 k = ![(⟨0, by decide⟩ : Fin 2).val, 64 * (trip k).val, 128 * (⟨0, by decide⟩ : Fin 8).val] := by decide +kernel
theorem off2 : ∀ k : Fin k0_t1_loop.trips, k0_off2 k = ![(⟨1, by decide⟩ : Fin 8).val, (⟨0, by decide⟩ : Fin 2).val, (trip k).val, 0, 0] := by decide +kernel
theorem off18 : ∀ k : Fin k0_t1_loop.trips, k0_off18 k = ![(⟨1, by decide⟩ : Fin 8).val, (⟨0, by decide⟩ : Fin 2).val, (trip k).val, 0, 0] := by decide +kernel
theorem off34 : ∀ k : Fin k0_t1_loop.trips, k0_off34 k = ![(⟨1, by decide⟩ : Fin 8).val, (⟨0, by decide⟩ : Fin 2).val, (trip k).val, 0, 0] := by decide +kernel
theorem off50 : ∀ k : Fin k0_t1_loop.trips, k0_off50 k = ![(⟨1, by decide⟩ : Fin 8).val, (⟨0, by decide⟩ : Fin 2).val, (trip k).val, 0, 0] := by decide +kernel
theorem off66 : ∀ k : Fin k0_t1_loop.trips, k0_off66 k = ![(⟨0, by decide⟩ : Fin 2).val, 64 * (trip k).val, 128 * (⟨1, by decide⟩ : Fin 8).val] := by decide +kernel
theorem off3 : ∀ k : Fin k0_t1_loop.trips, k0_off3 k = ![(⟨2, by decide⟩ : Fin 8).val, (⟨0, by decide⟩ : Fin 2).val, (trip k).val, 0, 0] := by decide +kernel
theorem off19 : ∀ k : Fin k0_t1_loop.trips, k0_off19 k = ![(⟨2, by decide⟩ : Fin 8).val, (⟨0, by decide⟩ : Fin 2).val, (trip k).val, 0, 0] := by decide +kernel
theorem off35 : ∀ k : Fin k0_t1_loop.trips, k0_off35 k = ![(⟨2, by decide⟩ : Fin 8).val, (⟨0, by decide⟩ : Fin 2).val, (trip k).val, 0, 0] := by decide +kernel
theorem off51 : ∀ k : Fin k0_t1_loop.trips, k0_off51 k = ![(⟨2, by decide⟩ : Fin 8).val, (⟨0, by decide⟩ : Fin 2).val, (trip k).val, 0, 0] := by decide +kernel
theorem off67 : ∀ k : Fin k0_t1_loop.trips, k0_off67 k = ![(⟨0, by decide⟩ : Fin 2).val, 64 * (trip k).val, 128 * (⟨2, by decide⟩ : Fin 8).val] := by decide +kernel
theorem off4 : ∀ k : Fin k0_t1_loop.trips, k0_off4 k = ![(⟨3, by decide⟩ : Fin 8).val, (⟨0, by decide⟩ : Fin 2).val, (trip k).val, 0, 0] := by decide +kernel
theorem off20 : ∀ k : Fin k0_t1_loop.trips, k0_off20 k = ![(⟨3, by decide⟩ : Fin 8).val, (⟨0, by decide⟩ : Fin 2).val, (trip k).val, 0, 0] := by decide +kernel
theorem off36 : ∀ k : Fin k0_t1_loop.trips, k0_off36 k = ![(⟨3, by decide⟩ : Fin 8).val, (⟨0, by decide⟩ : Fin 2).val, (trip k).val, 0, 0] := by decide +kernel
theorem off52 : ∀ k : Fin k0_t1_loop.trips, k0_off52 k = ![(⟨3, by decide⟩ : Fin 8).val, (⟨0, by decide⟩ : Fin 2).val, (trip k).val, 0, 0] := by decide +kernel
theorem off68 : ∀ k : Fin k0_t1_loop.trips, k0_off68 k = ![(⟨0, by decide⟩ : Fin 2).val, 64 * (trip k).val, 128 * (⟨3, by decide⟩ : Fin 8).val] := by decide +kernel
theorem off5 : ∀ k : Fin k0_t1_loop.trips, k0_off5 k = ![(⟨4, by decide⟩ : Fin 8).val, (⟨0, by decide⟩ : Fin 2).val, (trip k).val, 0, 0] := by decide +kernel
theorem off21 : ∀ k : Fin k0_t1_loop.trips, k0_off21 k = ![(⟨4, by decide⟩ : Fin 8).val, (⟨0, by decide⟩ : Fin 2).val, (trip k).val, 0, 0] := by decide +kernel
theorem off37 : ∀ k : Fin k0_t1_loop.trips, k0_off37 k = ![(⟨4, by decide⟩ : Fin 8).val, (⟨0, by decide⟩ : Fin 2).val, (trip k).val, 0, 0] := by decide +kernel
theorem off53 : ∀ k : Fin k0_t1_loop.trips, k0_off53 k = ![(⟨4, by decide⟩ : Fin 8).val, (⟨0, by decide⟩ : Fin 2).val, (trip k).val, 0, 0] := by decide +kernel
theorem off69 : ∀ k : Fin k0_t1_loop.trips, k0_off69 k = ![(⟨0, by decide⟩ : Fin 2).val, 64 * (trip k).val, 128 * (⟨4, by decide⟩ : Fin 8).val] := by decide +kernel
theorem off6 : ∀ k : Fin k0_t1_loop.trips, k0_off6 k = ![(⟨5, by decide⟩ : Fin 8).val, (⟨0, by decide⟩ : Fin 2).val, (trip k).val, 0, 0] := by decide +kernel
theorem off22 : ∀ k : Fin k0_t1_loop.trips, k0_off22 k = ![(⟨5, by decide⟩ : Fin 8).val, (⟨0, by decide⟩ : Fin 2).val, (trip k).val, 0, 0] := by decide +kernel
theorem off38 : ∀ k : Fin k0_t1_loop.trips, k0_off38 k = ![(⟨5, by decide⟩ : Fin 8).val, (⟨0, by decide⟩ : Fin 2).val, (trip k).val, 0, 0] := by decide +kernel
theorem off54 : ∀ k : Fin k0_t1_loop.trips, k0_off54 k = ![(⟨5, by decide⟩ : Fin 8).val, (⟨0, by decide⟩ : Fin 2).val, (trip k).val, 0, 0] := by decide +kernel
theorem off70 : ∀ k : Fin k0_t1_loop.trips, k0_off70 k = ![(⟨0, by decide⟩ : Fin 2).val, 64 * (trip k).val, 128 * (⟨5, by decide⟩ : Fin 8).val] := by decide +kernel
theorem off7 : ∀ k : Fin k0_t1_loop.trips, k0_off7 k = ![(⟨6, by decide⟩ : Fin 8).val, (⟨0, by decide⟩ : Fin 2).val, (trip k).val, 0, 0] := by decide +kernel
theorem off23 : ∀ k : Fin k0_t1_loop.trips, k0_off23 k = ![(⟨6, by decide⟩ : Fin 8).val, (⟨0, by decide⟩ : Fin 2).val, (trip k).val, 0, 0] := by decide +kernel
theorem off39 : ∀ k : Fin k0_t1_loop.trips, k0_off39 k = ![(⟨6, by decide⟩ : Fin 8).val, (⟨0, by decide⟩ : Fin 2).val, (trip k).val, 0, 0] := by decide +kernel
theorem off55 : ∀ k : Fin k0_t1_loop.trips, k0_off55 k = ![(⟨6, by decide⟩ : Fin 8).val, (⟨0, by decide⟩ : Fin 2).val, (trip k).val, 0, 0] := by decide +kernel
theorem off71 : ∀ k : Fin k0_t1_loop.trips, k0_off71 k = ![(⟨0, by decide⟩ : Fin 2).val, 64 * (trip k).val, 128 * (⟨6, by decide⟩ : Fin 8).val] := by decide +kernel
theorem off8 : ∀ k : Fin k0_t1_loop.trips, k0_off8 k = ![(⟨7, by decide⟩ : Fin 8).val, (⟨0, by decide⟩ : Fin 2).val, (trip k).val, 0, 0] := by decide +kernel
theorem off24 : ∀ k : Fin k0_t1_loop.trips, k0_off24 k = ![(⟨7, by decide⟩ : Fin 8).val, (⟨0, by decide⟩ : Fin 2).val, (trip k).val, 0, 0] := by decide +kernel
theorem off40 : ∀ k : Fin k0_t1_loop.trips, k0_off40 k = ![(⟨7, by decide⟩ : Fin 8).val, (⟨0, by decide⟩ : Fin 2).val, (trip k).val, 0, 0] := by decide +kernel
theorem off56 : ∀ k : Fin k0_t1_loop.trips, k0_off56 k = ![(⟨7, by decide⟩ : Fin 8).val, (⟨0, by decide⟩ : Fin 2).val, (trip k).val, 0, 0] := by decide +kernel
theorem off72 : ∀ k : Fin k0_t1_loop.trips, k0_off72 k = ![(⟨0, by decide⟩ : Fin 2).val, 64 * (trip k).val, 128 * (⟨7, by decide⟩ : Fin 8).val] := by decide +kernel
theorem off9 : ∀ k : Fin k0_t1_loop.trips, k0_off9 k = ![(⟨0, by decide⟩ : Fin 8).val, (⟨1, by decide⟩ : Fin 2).val, (trip k).val, 0, 0] := by decide +kernel
theorem off25 : ∀ k : Fin k0_t1_loop.trips, k0_off25 k = ![(⟨0, by decide⟩ : Fin 8).val, (⟨1, by decide⟩ : Fin 2).val, (trip k).val, 0, 0] := by decide +kernel
theorem off41 : ∀ k : Fin k0_t1_loop.trips, k0_off41 k = ![(⟨0, by decide⟩ : Fin 8).val, (⟨1, by decide⟩ : Fin 2).val, (trip k).val, 0, 0] := by decide +kernel
theorem off57 : ∀ k : Fin k0_t1_loop.trips, k0_off57 k = ![(⟨0, by decide⟩ : Fin 8).val, (⟨1, by decide⟩ : Fin 2).val, (trip k).val, 0, 0] := by decide +kernel
theorem off73 : ∀ k : Fin k0_t1_loop.trips, k0_off73 k = ![(⟨1, by decide⟩ : Fin 2).val, 64 * (trip k).val, 128 * (⟨0, by decide⟩ : Fin 8).val] := by decide +kernel
theorem off10 : ∀ k : Fin k0_t1_loop.trips, k0_off10 k = ![(⟨1, by decide⟩ : Fin 8).val, (⟨1, by decide⟩ : Fin 2).val, (trip k).val, 0, 0] := by decide +kernel
theorem off26 : ∀ k : Fin k0_t1_loop.trips, k0_off26 k = ![(⟨1, by decide⟩ : Fin 8).val, (⟨1, by decide⟩ : Fin 2).val, (trip k).val, 0, 0] := by decide +kernel
theorem off42 : ∀ k : Fin k0_t1_loop.trips, k0_off42 k = ![(⟨1, by decide⟩ : Fin 8).val, (⟨1, by decide⟩ : Fin 2).val, (trip k).val, 0, 0] := by decide +kernel
theorem off58 : ∀ k : Fin k0_t1_loop.trips, k0_off58 k = ![(⟨1, by decide⟩ : Fin 8).val, (⟨1, by decide⟩ : Fin 2).val, (trip k).val, 0, 0] := by decide +kernel
theorem off74 : ∀ k : Fin k0_t1_loop.trips, k0_off74 k = ![(⟨1, by decide⟩ : Fin 2).val, 64 * (trip k).val, 128 * (⟨1, by decide⟩ : Fin 8).val] := by decide +kernel
theorem off11 : ∀ k : Fin k0_t1_loop.trips, k0_off11 k = ![(⟨2, by decide⟩ : Fin 8).val, (⟨1, by decide⟩ : Fin 2).val, (trip k).val, 0, 0] := by decide +kernel
theorem off27 : ∀ k : Fin k0_t1_loop.trips, k0_off27 k = ![(⟨2, by decide⟩ : Fin 8).val, (⟨1, by decide⟩ : Fin 2).val, (trip k).val, 0, 0] := by decide +kernel
theorem off43 : ∀ k : Fin k0_t1_loop.trips, k0_off43 k = ![(⟨2, by decide⟩ : Fin 8).val, (⟨1, by decide⟩ : Fin 2).val, (trip k).val, 0, 0] := by decide +kernel
theorem off59 : ∀ k : Fin k0_t1_loop.trips, k0_off59 k = ![(⟨2, by decide⟩ : Fin 8).val, (⟨1, by decide⟩ : Fin 2).val, (trip k).val, 0, 0] := by decide +kernel
theorem off75 : ∀ k : Fin k0_t1_loop.trips, k0_off75 k = ![(⟨1, by decide⟩ : Fin 2).val, 64 * (trip k).val, 128 * (⟨2, by decide⟩ : Fin 8).val] := by decide +kernel
theorem off12 : ∀ k : Fin k0_t1_loop.trips, k0_off12 k = ![(⟨3, by decide⟩ : Fin 8).val, (⟨1, by decide⟩ : Fin 2).val, (trip k).val, 0, 0] := by decide +kernel
theorem off28 : ∀ k : Fin k0_t1_loop.trips, k0_off28 k = ![(⟨3, by decide⟩ : Fin 8).val, (⟨1, by decide⟩ : Fin 2).val, (trip k).val, 0, 0] := by decide +kernel
theorem off44 : ∀ k : Fin k0_t1_loop.trips, k0_off44 k = ![(⟨3, by decide⟩ : Fin 8).val, (⟨1, by decide⟩ : Fin 2).val, (trip k).val, 0, 0] := by decide +kernel
theorem off60 : ∀ k : Fin k0_t1_loop.trips, k0_off60 k = ![(⟨3, by decide⟩ : Fin 8).val, (⟨1, by decide⟩ : Fin 2).val, (trip k).val, 0, 0] := by decide +kernel
theorem off76 : ∀ k : Fin k0_t1_loop.trips, k0_off76 k = ![(⟨1, by decide⟩ : Fin 2).val, 64 * (trip k).val, 128 * (⟨3, by decide⟩ : Fin 8).val] := by decide +kernel
theorem off13 : ∀ k : Fin k0_t1_loop.trips, k0_off13 k = ![(⟨4, by decide⟩ : Fin 8).val, (⟨1, by decide⟩ : Fin 2).val, (trip k).val, 0, 0] := by decide +kernel
theorem off29 : ∀ k : Fin k0_t1_loop.trips, k0_off29 k = ![(⟨4, by decide⟩ : Fin 8).val, (⟨1, by decide⟩ : Fin 2).val, (trip k).val, 0, 0] := by decide +kernel
theorem off45 : ∀ k : Fin k0_t1_loop.trips, k0_off45 k = ![(⟨4, by decide⟩ : Fin 8).val, (⟨1, by decide⟩ : Fin 2).val, (trip k).val, 0, 0] := by decide +kernel
theorem off61 : ∀ k : Fin k0_t1_loop.trips, k0_off61 k = ![(⟨4, by decide⟩ : Fin 8).val, (⟨1, by decide⟩ : Fin 2).val, (trip k).val, 0, 0] := by decide +kernel
theorem off77 : ∀ k : Fin k0_t1_loop.trips, k0_off77 k = ![(⟨1, by decide⟩ : Fin 2).val, 64 * (trip k).val, 128 * (⟨4, by decide⟩ : Fin 8).val] := by decide +kernel
theorem off14 : ∀ k : Fin k0_t1_loop.trips, k0_off14 k = ![(⟨5, by decide⟩ : Fin 8).val, (⟨1, by decide⟩ : Fin 2).val, (trip k).val, 0, 0] := by decide +kernel
theorem off30 : ∀ k : Fin k0_t1_loop.trips, k0_off30 k = ![(⟨5, by decide⟩ : Fin 8).val, (⟨1, by decide⟩ : Fin 2).val, (trip k).val, 0, 0] := by decide +kernel
theorem off46 : ∀ k : Fin k0_t1_loop.trips, k0_off46 k = ![(⟨5, by decide⟩ : Fin 8).val, (⟨1, by decide⟩ : Fin 2).val, (trip k).val, 0, 0] := by decide +kernel
theorem off62 : ∀ k : Fin k0_t1_loop.trips, k0_off62 k = ![(⟨5, by decide⟩ : Fin 8).val, (⟨1, by decide⟩ : Fin 2).val, (trip k).val, 0, 0] := by decide +kernel
theorem off78 : ∀ k : Fin k0_t1_loop.trips, k0_off78 k = ![(⟨1, by decide⟩ : Fin 2).val, 64 * (trip k).val, 128 * (⟨5, by decide⟩ : Fin 8).val] := by decide +kernel
theorem off15 : ∀ k : Fin k0_t1_loop.trips, k0_off15 k = ![(⟨6, by decide⟩ : Fin 8).val, (⟨1, by decide⟩ : Fin 2).val, (trip k).val, 0, 0] := by decide +kernel
theorem off31 : ∀ k : Fin k0_t1_loop.trips, k0_off31 k = ![(⟨6, by decide⟩ : Fin 8).val, (⟨1, by decide⟩ : Fin 2).val, (trip k).val, 0, 0] := by decide +kernel
theorem off47 : ∀ k : Fin k0_t1_loop.trips, k0_off47 k = ![(⟨6, by decide⟩ : Fin 8).val, (⟨1, by decide⟩ : Fin 2).val, (trip k).val, 0, 0] := by decide +kernel
theorem off63 : ∀ k : Fin k0_t1_loop.trips, k0_off63 k = ![(⟨6, by decide⟩ : Fin 8).val, (⟨1, by decide⟩ : Fin 2).val, (trip k).val, 0, 0] := by decide +kernel
theorem off79 : ∀ k : Fin k0_t1_loop.trips, k0_off79 k = ![(⟨1, by decide⟩ : Fin 2).val, 64 * (trip k).val, 128 * (⟨6, by decide⟩ : Fin 8).val] := by decide +kernel
theorem off16 : ∀ k : Fin k0_t1_loop.trips, k0_off16 k = ![(⟨7, by decide⟩ : Fin 8).val, (⟨1, by decide⟩ : Fin 2).val, (trip k).val, 0, 0] := by decide +kernel
theorem off32 : ∀ k : Fin k0_t1_loop.trips, k0_off32 k = ![(⟨7, by decide⟩ : Fin 8).val, (⟨1, by decide⟩ : Fin 2).val, (trip k).val, 0, 0] := by decide +kernel
theorem off48 : ∀ k : Fin k0_t1_loop.trips, k0_off48 k = ![(⟨7, by decide⟩ : Fin 8).val, (⟨1, by decide⟩ : Fin 2).val, (trip k).val, 0, 0] := by decide +kernel
theorem off64 : ∀ k : Fin k0_t1_loop.trips, k0_off64 k = ![(⟨7, by decide⟩ : Fin 8).val, (⟨1, by decide⟩ : Fin 2).val, (trip k).val, 0, 0] := by decide +kernel
theorem off80 : ∀ k : Fin k0_t1_loop.trips, k0_off80 k = ![(⟨1, by decide⟩ : Fin 2).val, 64 * (trip k).val, 128 * (⟨7, by decide⟩ : Fin 8).val] := by decide +kernel

/-- Every store of a chunk into the state holds the state block after the chunk, where it stores. -/
theorem state_pieces (k : Fin k0_t1_loop.trips) (f8) (f9) :
    ∀ p ∈ (chunk c i arg1 harg1 arg2 harg2 arg3 harg3 arg4 harg4 arg5 harg5 arg6 harg6 arg7 harg7 arg8 harg8 arg9 harg9
      v3 x0 x1 x2 x3 x4 x5 k f8 f9).2, ∀ z, p.2 z = stateAfter x0 x1 x2 x4 (trip k) (arg9.view.read (Elt Ideal) f9) (p.1.emb z) := by
  unfold chunk chunkStores tripL_k0_t1 trip_k0_t1
  dsimp only
  refine List.forall_mem_cons.2 ⟨fun z => statePiece x0 x1 x2 x4 arg1 harg1 arg2 harg2 arg3 harg3 arg5 harg5 arg9 f9 (trip k) ⟨1, by decide⟩ ⟨7, by decide⟩
    (k0_off16 k) (k0_off16_inb k) (off16 k) (k0_off32 k) (k0_off32_inb k) (k0_off32_inb k) (off32 k)
    (k0_off64 k) (k0_off64_inb k) (off64 k) ![1, 7, 0, 0] inb_S2x8x128x128_S1x1x128x128_1_7_0_0 rfl z, ?_⟩
  refine List.forall_mem_cons.2 ⟨fun z => statePiece x0 x1 x2 x4 arg1 harg1 arg2 harg2 arg3 harg3 arg5 harg5 arg9 f9 (trip k) ⟨1, by decide⟩ ⟨6, by decide⟩
    (k0_off15 k) (k0_off15_inb k) (off15 k) (k0_off31 k) (k0_off31_inb k) (k0_off31_inb k) (off31 k)
    (k0_off63 k) (k0_off63_inb k) (off63 k) ![1, 6, 0, 0] inb_S2x8x128x128_S1x1x128x128_1_6_0_0 rfl z, ?_⟩
  refine List.forall_mem_cons.2 ⟨fun z => statePiece x0 x1 x2 x4 arg1 harg1 arg2 harg2 arg3 harg3 arg5 harg5 arg9 f9 (trip k) ⟨1, by decide⟩ ⟨5, by decide⟩
    (k0_off14 k) (k0_off14_inb k) (off14 k) (k0_off30 k) (k0_off30_inb k) (k0_off30_inb k) (off30 k)
    (k0_off62 k) (k0_off62_inb k) (off62 k) ![1, 5, 0, 0] inb_S2x8x128x128_S1x1x128x128_1_5_0_0 rfl z, ?_⟩
  refine List.forall_mem_cons.2 ⟨fun z => statePiece x0 x1 x2 x4 arg1 harg1 arg2 harg2 arg3 harg3 arg5 harg5 arg9 f9 (trip k) ⟨1, by decide⟩ ⟨4, by decide⟩
    (k0_off13 k) (k0_off13_inb k) (off13 k) (k0_off29 k) (k0_off29_inb k) (k0_off29_inb k) (off29 k)
    (k0_off61 k) (k0_off61_inb k) (off61 k) ![1, 4, 0, 0] inb_S2x8x128x128_S1x1x128x128_1_4_0_0 rfl z, ?_⟩
  refine List.forall_mem_cons.2 ⟨fun z => statePiece x0 x1 x2 x4 arg1 harg1 arg2 harg2 arg3 harg3 arg5 harg5 arg9 f9 (trip k) ⟨1, by decide⟩ ⟨3, by decide⟩
    (k0_off12 k) (k0_off12_inb k) (off12 k) (k0_off28 k) (k0_off28_inb k) (k0_off28_inb k) (off28 k)
    (k0_off60 k) (k0_off60_inb k) (off60 k) ![1, 3, 0, 0] inb_S2x8x128x128_S1x1x128x128_1_3_0_0 rfl z, ?_⟩
  refine List.forall_mem_cons.2 ⟨fun z => statePiece x0 x1 x2 x4 arg1 harg1 arg2 harg2 arg3 harg3 arg5 harg5 arg9 f9 (trip k) ⟨1, by decide⟩ ⟨2, by decide⟩
    (k0_off11 k) (k0_off11_inb k) (off11 k) (k0_off27 k) (k0_off27_inb k) (k0_off27_inb k) (off27 k)
    (k0_off59 k) (k0_off59_inb k) (off59 k) ![1, 2, 0, 0] inb_S2x8x128x128_S1x1x128x128_1_2_0_0 rfl z, ?_⟩
  refine List.forall_mem_cons.2 ⟨fun z => statePiece x0 x1 x2 x4 arg1 harg1 arg2 harg2 arg3 harg3 arg5 harg5 arg9 f9 (trip k) ⟨1, by decide⟩ ⟨1, by decide⟩
    (k0_off10 k) (k0_off10_inb k) (off10 k) (k0_off26 k) (k0_off26_inb k) (k0_off26_inb k) (off26 k)
    (k0_off58 k) (k0_off58_inb k) (off58 k) ![1, 1, 0, 0] inb_S2x8x128x128_S1x1x128x128_1_1_0_0 rfl z, ?_⟩
  refine List.forall_mem_cons.2 ⟨fun z => statePiece x0 x1 x2 x4 arg1 harg1 arg2 harg2 arg3 harg3 arg5 harg5 arg9 f9 (trip k) ⟨1, by decide⟩ ⟨0, by decide⟩
    (k0_off9 k) (k0_off9_inb k) (off9 k) (k0_off25 k) (k0_off25_inb k) (k0_off25_inb k) (off25 k)
    (k0_off57 k) (k0_off57_inb k) (off57 k) ![1, 0, 0, 0] inb_S2x8x128x128_S1x1x128x128_1_0_0_0 rfl z, ?_⟩
  refine List.forall_mem_cons.2 ⟨fun z => statePiece x0 x1 x2 x4 arg1 harg1 arg2 harg2 arg3 harg3 arg5 harg5 arg9 f9 (trip k) ⟨0, by decide⟩ ⟨7, by decide⟩
    (k0_off8 k) (k0_off8_inb k) (off8 k) (k0_off24 k) (k0_off24_inb k) (k0_off24_inb k) (off24 k)
    (k0_off56 k) (k0_off56_inb k) (off56 k) ![0, 7, 0, 0] inb_S2x8x128x128_S1x1x128x128_0_7_0_0 rfl z, ?_⟩
  refine List.forall_mem_cons.2 ⟨fun z => statePiece x0 x1 x2 x4 arg1 harg1 arg2 harg2 arg3 harg3 arg5 harg5 arg9 f9 (trip k) ⟨0, by decide⟩ ⟨6, by decide⟩
    (k0_off7 k) (k0_off7_inb k) (off7 k) (k0_off23 k) (k0_off23_inb k) (k0_off23_inb k) (off23 k)
    (k0_off55 k) (k0_off55_inb k) (off55 k) ![0, 6, 0, 0] inb_S2x8x128x128_S1x1x128x128_0_6_0_0 rfl z, ?_⟩
  refine List.forall_mem_cons.2 ⟨fun z => statePiece x0 x1 x2 x4 arg1 harg1 arg2 harg2 arg3 harg3 arg5 harg5 arg9 f9 (trip k) ⟨0, by decide⟩ ⟨5, by decide⟩
    (k0_off6 k) (k0_off6_inb k) (off6 k) (k0_off22 k) (k0_off22_inb k) (k0_off22_inb k) (off22 k)
    (k0_off54 k) (k0_off54_inb k) (off54 k) ![0, 5, 0, 0] inb_S2x8x128x128_S1x1x128x128_0_5_0_0 rfl z, ?_⟩
  refine List.forall_mem_cons.2 ⟨fun z => statePiece x0 x1 x2 x4 arg1 harg1 arg2 harg2 arg3 harg3 arg5 harg5 arg9 f9 (trip k) ⟨0, by decide⟩ ⟨4, by decide⟩
    (k0_off5 k) (k0_off5_inb k) (off5 k) (k0_off21 k) (k0_off21_inb k) (k0_off21_inb k) (off21 k)
    (k0_off53 k) (k0_off53_inb k) (off53 k) ![0, 4, 0, 0] inb_S2x8x128x128_S1x1x128x128_0_4_0_0 rfl z, ?_⟩
  refine List.forall_mem_cons.2 ⟨fun z => statePiece x0 x1 x2 x4 arg1 harg1 arg2 harg2 arg3 harg3 arg5 harg5 arg9 f9 (trip k) ⟨0, by decide⟩ ⟨3, by decide⟩
    (k0_off4 k) (k0_off4_inb k) (off4 k) (k0_off20 k) (k0_off20_inb k) (k0_off20_inb k) (off20 k)
    (k0_off52 k) (k0_off52_inb k) (off52 k) ![0, 3, 0, 0] inb_S2x8x128x128_S1x1x128x128_0_3_0_0 rfl z, ?_⟩
  refine List.forall_mem_cons.2 ⟨fun z => statePiece x0 x1 x2 x4 arg1 harg1 arg2 harg2 arg3 harg3 arg5 harg5 arg9 f9 (trip k) ⟨0, by decide⟩ ⟨2, by decide⟩
    (k0_off3 k) (k0_off3_inb k) (off3 k) (k0_off19 k) (k0_off19_inb k) (k0_off19_inb k) (off19 k)
    (k0_off51 k) (k0_off51_inb k) (off51 k) ![0, 2, 0, 0] inb_S2x8x128x128_S1x1x128x128_0_2_0_0 rfl z, ?_⟩
  refine List.forall_mem_cons.2 ⟨fun z => statePiece x0 x1 x2 x4 arg1 harg1 arg2 harg2 arg3 harg3 arg5 harg5 arg9 f9 (trip k) ⟨0, by decide⟩ ⟨1, by decide⟩
    (k0_off2 k) (k0_off2_inb k) (off2 k) (k0_off18 k) (k0_off18_inb k) (k0_off18_inb k) (off18 k)
    (k0_off50 k) (k0_off50_inb k) (off50 k) ![0, 1, 0, 0] inb_S2x8x128x128_S1x1x128x128_0_1_0_0 rfl z, ?_⟩
  refine List.forall_mem_cons.2 ⟨fun z => statePiece x0 x1 x2 x4 arg1 harg1 arg2 harg2 arg3 harg3 arg5 harg5 arg9 f9 (trip k) ⟨0, by decide⟩ ⟨0, by decide⟩
    (k0_off1 k) (k0_off1_inb k) (off1 k) (k0_off17 k) (k0_off17_inb k) (k0_off17_inb k) (off17 k)
    (k0_off49 k) (k0_off49_inb k) (off49 k) ![0, 0, 0, 0] inb_S2x8x128x128_S1x1x128x128_0_0_0_0 rfl z, ?_⟩
  exact fun p hp => absurd hp List.not_mem_nil

/-- Every store of a chunk into the output block holds the chunk's output rows, where it stores. -/
theorem out_pieces (k : Fin k0_t1_loop.trips) (f8) (f9) :
    ∀ p ∈ (chunk c i arg1 harg1 arg2 harg2 arg3 harg3 arg4 harg4 arg5 harg5 arg6 harg6 arg7 harg7 arg8 harg8 arg9 harg9
      v3 x0 x1 x2 x3 x4 x5 k f8 f9).1, ∀ z, p.2 z = outOf x0 x1 x3 x5 v3 (trip k) (arg9.view.read (Elt Ideal) f9) (p.1.emb z) := by
  unfold chunk chunkStores tripL_k0_t1 trip_k0_t1
  dsimp only
  refine List.forall_mem_cons.2 ⟨fun z => outPiece x0 x1 x3 x5 v3 arg1 harg1 arg2 harg2 arg4 harg4 arg6 harg6 arg9 f9 (trip k) ⟨1, by decide⟩ ⟨7, by decide⟩
    (k0_off16 k) (k0_off16_inb k) (off16 k) (k0_off32 k) (k0_off32_inb k) (off32 k)
    (k0_off48 k) (k0_off48_inb k) (off48 k) (k0_off80 k) (k0_off80_inb k) (k0_off80_inb k) (off80 k)
    ![1, 7, 0, 0] inb_S2x8x128x128_S1x1x128x128_1_7_0_0 rfl z, ?_⟩
  refine List.forall_mem_cons.2 ⟨fun z => outPiece x0 x1 x3 x5 v3 arg1 harg1 arg2 harg2 arg4 harg4 arg6 harg6 arg9 f9 (trip k) ⟨1, by decide⟩ ⟨6, by decide⟩
    (k0_off15 k) (k0_off15_inb k) (off15 k) (k0_off31 k) (k0_off31_inb k) (off31 k)
    (k0_off47 k) (k0_off47_inb k) (off47 k) (k0_off79 k) (k0_off79_inb k) (k0_off79_inb k) (off79 k)
    ![1, 6, 0, 0] inb_S2x8x128x128_S1x1x128x128_1_6_0_0 rfl z, ?_⟩
  refine List.forall_mem_cons.2 ⟨fun z => outPiece x0 x1 x3 x5 v3 arg1 harg1 arg2 harg2 arg4 harg4 arg6 harg6 arg9 f9 (trip k) ⟨1, by decide⟩ ⟨5, by decide⟩
    (k0_off14 k) (k0_off14_inb k) (off14 k) (k0_off30 k) (k0_off30_inb k) (off30 k)
    (k0_off46 k) (k0_off46_inb k) (off46 k) (k0_off78 k) (k0_off78_inb k) (k0_off78_inb k) (off78 k)
    ![1, 5, 0, 0] inb_S2x8x128x128_S1x1x128x128_1_5_0_0 rfl z, ?_⟩
  refine List.forall_mem_cons.2 ⟨fun z => outPiece x0 x1 x3 x5 v3 arg1 harg1 arg2 harg2 arg4 harg4 arg6 harg6 arg9 f9 (trip k) ⟨1, by decide⟩ ⟨4, by decide⟩
    (k0_off13 k) (k0_off13_inb k) (off13 k) (k0_off29 k) (k0_off29_inb k) (off29 k)
    (k0_off45 k) (k0_off45_inb k) (off45 k) (k0_off77 k) (k0_off77_inb k) (k0_off77_inb k) (off77 k)
    ![1, 4, 0, 0] inb_S2x8x128x128_S1x1x128x128_1_4_0_0 rfl z, ?_⟩
  refine List.forall_mem_cons.2 ⟨fun z => outPiece x0 x1 x3 x5 v3 arg1 harg1 arg2 harg2 arg4 harg4 arg6 harg6 arg9 f9 (trip k) ⟨1, by decide⟩ ⟨3, by decide⟩
    (k0_off12 k) (k0_off12_inb k) (off12 k) (k0_off28 k) (k0_off28_inb k) (off28 k)
    (k0_off44 k) (k0_off44_inb k) (off44 k) (k0_off76 k) (k0_off76_inb k) (k0_off76_inb k) (off76 k)
    ![1, 3, 0, 0] inb_S2x8x128x128_S1x1x128x128_1_3_0_0 rfl z, ?_⟩
  refine List.forall_mem_cons.2 ⟨fun z => outPiece x0 x1 x3 x5 v3 arg1 harg1 arg2 harg2 arg4 harg4 arg6 harg6 arg9 f9 (trip k) ⟨1, by decide⟩ ⟨2, by decide⟩
    (k0_off11 k) (k0_off11_inb k) (off11 k) (k0_off27 k) (k0_off27_inb k) (off27 k)
    (k0_off43 k) (k0_off43_inb k) (off43 k) (k0_off75 k) (k0_off75_inb k) (k0_off75_inb k) (off75 k)
    ![1, 2, 0, 0] inb_S2x8x128x128_S1x1x128x128_1_2_0_0 rfl z, ?_⟩
  refine List.forall_mem_cons.2 ⟨fun z => outPiece x0 x1 x3 x5 v3 arg1 harg1 arg2 harg2 arg4 harg4 arg6 harg6 arg9 f9 (trip k) ⟨1, by decide⟩ ⟨1, by decide⟩
    (k0_off10 k) (k0_off10_inb k) (off10 k) (k0_off26 k) (k0_off26_inb k) (off26 k)
    (k0_off42 k) (k0_off42_inb k) (off42 k) (k0_off74 k) (k0_off74_inb k) (k0_off74_inb k) (off74 k)
    ![1, 1, 0, 0] inb_S2x8x128x128_S1x1x128x128_1_1_0_0 rfl z, ?_⟩
  refine List.forall_mem_cons.2 ⟨fun z => outPiece x0 x1 x3 x5 v3 arg1 harg1 arg2 harg2 arg4 harg4 arg6 harg6 arg9 f9 (trip k) ⟨1, by decide⟩ ⟨0, by decide⟩
    (k0_off9 k) (k0_off9_inb k) (off9 k) (k0_off25 k) (k0_off25_inb k) (off25 k)
    (k0_off41 k) (k0_off41_inb k) (off41 k) (k0_off73 k) (k0_off73_inb k) (k0_off73_inb k) (off73 k)
    ![1, 0, 0, 0] inb_S2x8x128x128_S1x1x128x128_1_0_0_0 rfl z, ?_⟩
  refine List.forall_mem_cons.2 ⟨fun z => outPiece x0 x1 x3 x5 v3 arg1 harg1 arg2 harg2 arg4 harg4 arg6 harg6 arg9 f9 (trip k) ⟨0, by decide⟩ ⟨7, by decide⟩
    (k0_off8 k) (k0_off8_inb k) (off8 k) (k0_off24 k) (k0_off24_inb k) (off24 k)
    (k0_off40 k) (k0_off40_inb k) (off40 k) (k0_off72 k) (k0_off72_inb k) (k0_off72_inb k) (off72 k)
    ![0, 7, 0, 0] inb_S2x8x128x128_S1x1x128x128_0_7_0_0 rfl z, ?_⟩
  refine List.forall_mem_cons.2 ⟨fun z => outPiece x0 x1 x3 x5 v3 arg1 harg1 arg2 harg2 arg4 harg4 arg6 harg6 arg9 f9 (trip k) ⟨0, by decide⟩ ⟨6, by decide⟩
    (k0_off7 k) (k0_off7_inb k) (off7 k) (k0_off23 k) (k0_off23_inb k) (off23 k)
    (k0_off39 k) (k0_off39_inb k) (off39 k) (k0_off71 k) (k0_off71_inb k) (k0_off71_inb k) (off71 k)
    ![0, 6, 0, 0] inb_S2x8x128x128_S1x1x128x128_0_6_0_0 rfl z, ?_⟩
  refine List.forall_mem_cons.2 ⟨fun z => outPiece x0 x1 x3 x5 v3 arg1 harg1 arg2 harg2 arg4 harg4 arg6 harg6 arg9 f9 (trip k) ⟨0, by decide⟩ ⟨5, by decide⟩
    (k0_off6 k) (k0_off6_inb k) (off6 k) (k0_off22 k) (k0_off22_inb k) (off22 k)
    (k0_off38 k) (k0_off38_inb k) (off38 k) (k0_off70 k) (k0_off70_inb k) (k0_off70_inb k) (off70 k)
    ![0, 5, 0, 0] inb_S2x8x128x128_S1x1x128x128_0_5_0_0 rfl z, ?_⟩
  refine List.forall_mem_cons.2 ⟨fun z => outPiece x0 x1 x3 x5 v3 arg1 harg1 arg2 harg2 arg4 harg4 arg6 harg6 arg9 f9 (trip k) ⟨0, by decide⟩ ⟨4, by decide⟩
    (k0_off5 k) (k0_off5_inb k) (off5 k) (k0_off21 k) (k0_off21_inb k) (off21 k)
    (k0_off37 k) (k0_off37_inb k) (off37 k) (k0_off69 k) (k0_off69_inb k) (k0_off69_inb k) (off69 k)
    ![0, 4, 0, 0] inb_S2x8x128x128_S1x1x128x128_0_4_0_0 rfl z, ?_⟩
  refine List.forall_mem_cons.2 ⟨fun z => outPiece x0 x1 x3 x5 v3 arg1 harg1 arg2 harg2 arg4 harg4 arg6 harg6 arg9 f9 (trip k) ⟨0, by decide⟩ ⟨3, by decide⟩
    (k0_off4 k) (k0_off4_inb k) (off4 k) (k0_off20 k) (k0_off20_inb k) (off20 k)
    (k0_off36 k) (k0_off36_inb k) (off36 k) (k0_off68 k) (k0_off68_inb k) (k0_off68_inb k) (off68 k)
    ![0, 3, 0, 0] inb_S2x8x128x128_S1x1x128x128_0_3_0_0 rfl z, ?_⟩
  refine List.forall_mem_cons.2 ⟨fun z => outPiece x0 x1 x3 x5 v3 arg1 harg1 arg2 harg2 arg4 harg4 arg6 harg6 arg9 f9 (trip k) ⟨0, by decide⟩ ⟨2, by decide⟩
    (k0_off3 k) (k0_off3_inb k) (off3 k) (k0_off19 k) (k0_off19_inb k) (off19 k)
    (k0_off35 k) (k0_off35_inb k) (off35 k) (k0_off67 k) (k0_off67_inb k) (k0_off67_inb k) (off67 k)
    ![0, 2, 0, 0] inb_S2x8x128x128_S1x1x128x128_0_2_0_0 rfl z, ?_⟩
  refine List.forall_mem_cons.2 ⟨fun z => outPiece x0 x1 x3 x5 v3 arg1 harg1 arg2 harg2 arg4 harg4 arg6 harg6 arg9 f9 (trip k) ⟨0, by decide⟩ ⟨1, by decide⟩
    (k0_off2 k) (k0_off2_inb k) (off2 k) (k0_off18 k) (k0_off18_inb k) (off18 k)
    (k0_off34 k) (k0_off34_inb k) (off34 k) (k0_off66 k) (k0_off66_inb k) (k0_off66_inb k) (off66 k)
    ![0, 1, 0, 0] inb_S2x8x128x128_S1x1x128x128_0_1_0_0 rfl z, ?_⟩
  refine List.forall_mem_cons.2 ⟨fun z => outPiece x0 x1 x3 x5 v3 arg1 harg1 arg2 harg2 arg4 harg4 arg6 harg6 arg9 f9 (trip k) ⟨0, by decide⟩ ⟨0, by decide⟩
    (k0_off1 k) (k0_off1_inb k) (off1 k) (k0_off17 k) (k0_off17_inb k) (off17 k)
    (k0_off33 k) (k0_off33_inb k) (off33 k) (k0_off65 k) (k0_off65_inb k) (k0_off65_inb k) (off65 k)
    ![0, 0, 0, 0] inb_S2x8x128x128_S1x1x128x128_0_0_0_0 rfl z, ?_⟩
  exact fun p hp => absurd hp List.not_mem_nil

/-- The stores of a chunk into the state cover it. -/
theorem state_cover (k : Fin k0_t1_loop.trips) (f8) (f9) (y : S2x8x128x128.Idx) :
    ∃ p ∈ (chunk c i arg1 harg1 arg2 harg2 arg3 harg3 arg4 harg4 arg5 harg5 arg6 harg6 arg7 harg7 arg8 harg8 arg9 harg9
      v3 x0 x1 x2 x3 x4 x5 k f8 f9).2, y ∈ p.1.set := by
  exact View.cover_of_tiledL (chunk c i arg1 harg1 arg2 harg2 arg3 harg3 arg4 harg4 arg5 harg5 arg6 harg6 arg7 harg7 arg8 harg8
    arg9 harg9 v3 x0 x1 x2 x3 x4 x5 k f8 f9).2 S1x1x128x128.size (by sl_kernel_rfl) y

omit c i in
/-- A row stored at a chunk's row offset is one of the chunk's. -/
theorem row_of (k : Fin k0_t1_loop.trips) (o : Fin 3 → Nat) (n) (ho : o 1 = 64 * (trip k).val) (z : S1x64x128.Idx) :
    (((Rect.unit (s := S2x512x1024) o S1x64x128.size n).emb z) 1).val / 64 = k.val := by
  have hz : (z 1).val < 64 := (z 1).isLt
  have e : (((Rect.unit (s := S2x512x1024) o S1x64x128.size n).emb z) 1).val = o 1 + (z 1).val :=
    Rect.idx_unit_val (s := S2x512x1024) o S1x64x128.size n z 1
  rw [e, ho]
  show (64 * k.val + (z 1).val) / 64 = k.val
  omega

/-- The stores of chunk `k` into the output block lie in the chunk's rows. -/
theorem out_rows (k : Fin k0_t1_loop.trips) (f8) (f9) :
    ∀ p ∈ (chunk c i arg1 harg1 arg2 harg2 arg3 harg3 arg4 harg4 arg5 harg5 arg6 harg6 arg7 harg7 arg8 harg8 arg9 harg9
      v3 x0 x1 x2 x3 x4 x5 k f8 f9).1, ∀ z, ((p.1.emb z) 1).val / 64 = k.val := by
  unfold chunk chunkStores tripL_k0_t1 trip_k0_t1
  dsimp only
  refine List.forall_mem_cons.2 ⟨fun z => row_of k ((k0_off80 k)) (k0_off80_inb k) (congrFun (off80 k) 1) z, ?_⟩
  refine List.forall_mem_cons.2 ⟨fun z => row_of k ((k0_off79 k)) (k0_off79_inb k) (congrFun (off79 k) 1) z, ?_⟩
  refine List.forall_mem_cons.2 ⟨fun z => row_of k ((k0_off78 k)) (k0_off78_inb k) (congrFun (off78 k) 1) z, ?_⟩
  refine List.forall_mem_cons.2 ⟨fun z => row_of k ((k0_off77 k)) (k0_off77_inb k) (congrFun (off77 k) 1) z, ?_⟩
  refine List.forall_mem_cons.2 ⟨fun z => row_of k ((k0_off76 k)) (k0_off76_inb k) (congrFun (off76 k) 1) z, ?_⟩
  refine List.forall_mem_cons.2 ⟨fun z => row_of k ((k0_off75 k)) (k0_off75_inb k) (congrFun (off75 k) 1) z, ?_⟩
  refine List.forall_mem_cons.2 ⟨fun z => row_of k ((k0_off74 k)) (k0_off74_inb k) (congrFun (off74 k) 1) z, ?_⟩
  refine List.forall_mem_cons.2 ⟨fun z => row_of k ((k0_off73 k)) (k0_off73_inb k) (congrFun (off73 k) 1) z, ?_⟩
  refine List.forall_mem_cons.2 ⟨fun z => row_of k ((k0_off72 k)) (k0_off72_inb k) (congrFun (off72 k) 1) z, ?_⟩
  refine List.forall_mem_cons.2 ⟨fun z => row_of k ((k0_off71 k)) (k0_off71_inb k) (congrFun (off71 k) 1) z, ?_⟩
  refine List.forall_mem_cons.2 ⟨fun z => row_of k ((k0_off70 k)) (k0_off70_inb k) (congrFun (off70 k) 1) z, ?_⟩
  refine List.forall_mem_cons.2 ⟨fun z => row_of k ((k0_off69 k)) (k0_off69_inb k) (congrFun (off69 k) 1) z, ?_⟩
  refine List.forall_mem_cons.2 ⟨fun z => row_of k ((k0_off68 k)) (k0_off68_inb k) (congrFun (off68 k) 1) z, ?_⟩
  refine List.forall_mem_cons.2 ⟨fun z => row_of k ((k0_off67 k)) (k0_off67_inb k) (congrFun (off67 k) 1) z, ?_⟩
  refine List.forall_mem_cons.2 ⟨fun z => row_of k ((k0_off66 k)) (k0_off66_inb k) (congrFun (off66 k) 1) z, ?_⟩
  refine List.forall_mem_cons.2 ⟨fun z => row_of k ((k0_off65 k)) (k0_off65_inb k) (congrFun (off65 k) 1) z, ?_⟩
  exact fun p hp => absurd hp List.not_mem_nil

end Cert.ScanProof

end
-- ==== Proof.Scan.Point.lean ====
/- One grid point: its eight chunks one after another. -/
module

public import proofs.«01_k».proof.Proof.Scan.Chunk

@[expose] public section

set_option maxRecDepth 16384

noncomputable section

namespace Cert.ScanProof

open Cert.ScanIdeal Cert.ScanIdeal.Gen Idealize.ShloMosaic Idealize.ShloMosaic.TcCoe Idealize.SL.Sem

variable (c : Dev nD) (i : grid0.Coords)
  (arg1 : Memref sig .tc .vmem S8x2x8x128x128 .bf16) (harg1 : arg1.IsWhole)
  (arg2 : Memref sig .tc .vmem S8x2x8x64x128 .bf16) (harg2 : arg2.IsWhole)
  (arg3 : Memref sig .tc .vmem S8x2x8x64x128 .bf16) (harg3 : arg3.IsWhole)
  (arg4 : Memref sig .tc .vmem S8x2x8x64x64 .bf16) (harg4 : arg4.IsWhole)
  (arg5 : Memref sig .tc .vmem S8x2x8x1x128 .f32) (harg5 : arg5.IsWhole)
  (arg6 : Memref sig .tc .vmem S2x512x1024 .bf16) (harg6 : arg6.IsWhole)
  (arg7 : Memref sig .tc .vmem S1x128 .f32) (harg7 : arg7.IsWhole)
  (arg8 : Memref sig .tc .vmem S2x512x1024 .bf16) (harg8 : arg8.IsWhole)
  (arg9 : Memref sig .tc .vmem S2x8x128x128 .f32) (harg9 : arg9.IsWhole)
  (v3 : Vec Ideal S1x128 .f32)
  (x0 : Vec Ideal S8x2x8x128x128 .bf16) (x1 : Vec Ideal S8x2x8x64x128 .bf16) (x2 : Vec Ideal S8x2x8x64x128 .bf16)
  (x3 : Vec Ideal S8x2x8x64x64 .bf16) (x4 : Vec Ideal S8x2x8x1x128 .f32) (x5 : Vec Ideal S2x512x1024 .bf16)

/-- The state block after the first `n` chunks of a block, from `st`. -/
def stateN (st : Vec Ideal S2x8x128x128 .f32) : ℕ → Vec Ideal S2x8x128x128 .f32
  | 0 => st
  | n + 1 => if h : n < 8 then stateAfter x0 x1 x2 x4 ⟨n, h⟩ (stateN st n) else stateN st n

/-- One more chunk. -/
theorem stateN_succ (st : Vec Ideal S2x8x128x128 .f32) (n : ℕ) (h : n < 8) :
    stateN x0 x1 x2 x4 st (n + 1) = stateAfter x0 x1 x2 x4 ⟨n, h⟩ (stateN x0 x1 x2 x4 st n) := by
  rw [stateN]; exact dif_pos h

/-- The chunk a row of the output block belongs to. -/
def chunkOf (y : S2x512x1024.Idx) : Fin 8 := ⟨(y 1).val / 64, by have : (y 1).val < 512 := (y 1).isLt; omega⟩

/-- The output block of a grid point whose state starts at `st`. -/
def outAll (st : Vec Ideal S2x8x128x128 .f32) (y : S2x512x1024.Idx) : EReal :=
  outOf x0 x1 x3 x5 v3 (chunkOf y) (stateN x0 x1 x2 x4 st (chunkOf y).val) y

/-- The stores of the first `n` chunks, from the contents of whole buffers holding the blocks. -/
abbrev upTo (G8 : BufTy.Contents (Elt Ideal) arg8.view.ty) (st : Vec Ideal S2x8x128x128 .f32) (n : ℕ) :=
  stores (F := Ideal) c i arg1 harg1 arg2 harg2 arg3 harg3 arg4 harg4 arg5 harg5 arg6 harg6 arg7 harg7 arg8 harg8 arg9 harg9
    v3 (harg1.unread x0) (harg2.unread x1) (harg3.unread x2) (harg4.unread x3) (harg5.unread x4) (harg6.unread x5) G8 (harg9.unread st) n

/-- The stores of one more chunk. -/
theorem upTo_succ (G8) (st) (k : Fin k0_t1_loop.trips) :
    upTo c i arg1 harg1 arg2 harg2 arg3 harg3 arg4 harg4 arg5 harg5 arg6 harg6 arg7 harg7 arg8 harg8 arg9 harg9 v3 x0 x1 x2 x3 x4 x5 G8 st (k.val + 1)
    = ((chunk c i arg1 harg1 arg2 harg2 arg3 harg3 arg4 harg4 arg5 harg5 arg6 harg6 arg7 harg7 arg8 harg8 arg9 harg9 v3 x0 x1 x2 x3 x4 x5 k
          (arg8.view.writes (Elt Ideal) G8 (upTo c i arg1 harg1 arg2 harg2 arg3 harg3 arg4 harg4 arg5 harg5 arg6 harg6 arg7 harg7 arg8 harg8 arg9 harg9 v3 x0 x1 x2 x3 x4 x5 G8 st k.val).1)
          (arg9.view.writes (Elt Ideal) (harg9.unread st) (upTo c i arg1 harg1 arg2 harg2 arg3 harg3 arg4 harg4 arg5 harg5 arg6 harg6 arg7 harg7 arg8 harg8 arg9 harg9 v3 x0 x1 x2 x3 x4 x5 G8 st k.val).2)).1
        ++ (upTo c i arg1 harg1 arg2 harg2 arg3 harg3 arg4 harg4 arg5 harg5 arg6 harg6 arg7 harg7 arg8 harg8 arg9 harg9 v3 x0 x1 x2 x3 x4 x5 G8 st k.val).1,
      (chunk c i arg1 harg1 arg2 harg2 arg3 harg3 arg4 harg4 arg5 harg5 arg6 harg6 arg7 harg7 arg8 harg8 arg9 harg9 v3 x0 x1 x2 x3 x4 x5 k
          (arg8.view.writes (Elt Ideal) G8 (upTo c i arg1 harg1 arg2 harg2 arg3 harg3 arg4 harg4 arg5 harg5 arg6 harg6 arg7 harg7 arg8 harg8 arg9 harg9 v3 x0 x1 x2 x3 x4 x5 G8 st k.val).1)
          (arg9.view.writes (Elt Ideal) (harg9.unread st) (upTo c i arg1 harg1 arg2 harg2 arg3 harg3 arg4 harg4 arg5 harg5 arg6 harg6 arg7 harg7 arg8 harg8 arg9 harg9 v3 x0 x1 x2 x3 x4 x5 G8 st k.val).2)).2
        ++ (upTo c i arg1 harg1 arg2 harg2 arg3 harg3 arg4 harg4 arg5 harg5 arg6 harg6 arg7 harg7 arg8 harg8 arg9 harg9 v3 x0 x1 x2 x3 x4 x5 G8 st k.val).2) :=
  pb_k0_t1_succ Variants.none c none i arg1 harg1 arg2 harg2 arg3 harg3 arg4 harg4 arg5 harg5 arg6 harg6 arg7 harg7 arg8 harg8
    arg9 harg9 v3 _ _ _ _ _ _ G8 _ k

/-- The state block reads `stateN` after `n` chunks. -/
theorem state_upTo (G8) (st) : ∀ n, n ≤ k0_t1_loop.trips →
    arg9.view.read (Elt Ideal) (arg9.view.writes (Elt Ideal) (harg9.unread st)
      (upTo c i arg1 harg1 arg2 harg2 arg3 harg3 arg4 harg4 arg5 harg5 arg6 harg6 arg7 harg7 arg8 harg8 arg9 harg9 v3 x0 x1 x2 x3 x4 x5 G8 st n).2) = stateN x0 x1 x2 x4 st n
  | 0, _ => harg9.read_unread st
  | n + 1, h => by
    have ih := state_upTo G8 st n (Nat.le_of_succ_le h)
    have hn : n < 8 := Nat.lt_of_lt_of_le h k0_t1_abs.2.1
    rw [upTo_succ c i arg1 harg1 arg2 harg2 arg3 harg3 arg4 harg4 arg5 harg5 arg6 harg6 arg7 harg7 arg8 harg8 arg9 harg9 v3 x0 x1 x2 x3 x4 x5 G8 st ⟨n, h⟩]
    dsimp only
    rw [View.writes_append]
    refine funext fun y => (View.read_writes_apply_of_pieces _ _ _ _
      (state_pieces c i arg1 harg1 arg2 harg2 arg3 harg3 arg4 harg4 arg5 harg5 arg6 harg6 arg7 harg7 arg8 harg8 arg9 harg9 v3 x0 x1 x2 x3 x4 x5 ⟨n, h⟩ _ _) y
      (state_cover c i arg1 harg1 arg2 harg2 arg3 harg3 arg4 harg4 arg5 harg5 arg6 harg6 arg7 harg7 arg8 harg8 arg9 harg9 v3 x0 x1 x2 x3 x4 x5 ⟨n, h⟩ _ _ y)).trans ?_
    rw [ih]
    exact (congrFun (stateN_succ x0 x1 x2 x4 st n hn) y).symm

/-- Every store of the first `n` chunks into the output block holds its part of `outAll`. -/
theorem out_upTo (G8) (st) : ∀ n, n ≤ k0_t1_loop.trips →
    ∀ p ∈ (upTo c i arg1 harg1 arg2 harg2 arg3 harg3 arg4 harg4 arg5 harg5 arg6 harg6 arg7 harg7 arg8 harg8 arg9 harg9 v3 x0 x1 x2 x3 x4 x5 G8 st n).1,
      ∀ z, p.2 z = outAll v3 x0 x1 x2 x3 x4 x5 st (p.1.emb z)
  | 0, _ => fun p hp => absurd hp List.not_mem_nil
  | n + 1, h => by
    have ih := out_upTo G8 st n (Nat.le_of_succ_le h)
    have hs := state_upTo c i arg1 harg1 arg2 harg2 arg3 harg3 arg4 harg4 arg5 harg5 arg6 harg6 arg7 harg7 arg8 harg8 arg9 harg9 v3 x0 x1 x2 x3 x4 x5 G8 st n (Nat.le_of_succ_le h)
    rw [upTo_succ c i arg1 harg1 arg2 harg2 arg3 harg3 arg4 harg4 arg5 harg5 arg6 harg6 arg7 harg7 arg8 harg8 arg9 harg9 v3 x0 x1 x2 x3 x4 x5 G8 st ⟨n, h⟩]
    dsimp only
    intro p hp z
    rcases List.mem_append.1 hp with hp | hp
    · refine (out_pieces c i arg1 harg1 arg2 harg2 arg3 harg3 arg4 harg4 arg5 harg5 arg6 harg6 arg7 harg7 arg8 harg8 arg9 harg9 v3 x0 x1 x2 x3 x4 x5 ⟨n, h⟩ _ _ p hp z).trans ?_
      have hr := out_rows c i arg1 harg1 arg2 harg2 arg3 harg3 arg4 harg4 arg5 harg5 arg6 harg6 arg7 harg7 arg8 harg8 arg9 harg9 v3 x0 x1 x2 x3 x4 x5 ⟨n, h⟩ _ _ p hp z
      have hc : chunkOf (p.1.emb z) = trip ⟨n, h⟩ := Fin.ext hr
      unfold outAll
      rw [hs, hc]
    · exact ih p hp z

variable (x6 : Vec Ideal S1x128 .f32)

/-- The scale vector is loaded whole. -/
theorem scale_eq : scale arg7 harg7 x6 = x6 :=
  funext fun z => load_at arg7 harg7 x6 _ _ _ z z fun d => by fin_cases d <;> simp

/-- What a grid point leaves in the state. -/
theorem stateBlock_val (st) : stateBlock c i arg1 harg1 arg2 harg2 arg3 harg3 arg4 harg4 arg5 harg5 arg6 harg6 arg7 harg7 arg8 harg8 arg9 harg9 x0 x1 x2 x3 x4 x5 x6 st = stateN x0 x1 x2 x4 st 8 :=
  (state_upTo c i arg1 harg1 arg2 harg2 arg3 harg3 arg4 harg4 arg5 harg5 arg6 harg6 arg7 harg7 arg8 harg8 arg9 harg9 (scale arg7 harg7 x6) x0 x1 x2 x3 x4 x5 arg8.view.junk st _ le_rfl).trans
    (congrArg (stateN x0 x1 x2 x4 st) (show k0_t1_loop.trips = 8 by decide +kernel))

/-- What a grid point leaves in the output block. -/
theorem outBlock_val (st) (y) : outBlock c i arg1 harg1 arg2 harg2 arg3 harg3 arg4 harg4 arg5 harg5 arg6 harg6 arg7 harg7 arg8 harg8 arg9 harg9 x0 x1 x2 x3 x4 x5 x6 st y
    = outAll x6 x0 x1 x2 x3 x4 x5 st y :=
  (View.read_writes_apply_of_pieces _ _ _ _
    (out_upTo c i arg1 harg1 arg2 harg2 arg3 harg3 arg4 harg4 arg5 harg5 arg6 harg6 arg7 harg7 arg8 harg8 arg9 harg9 (scale arg7 harg7 x6) x0 x1 x2 x3 x4 x5 arg8.view.junk st _ le_rfl) y
    (cover_out c i arg1 harg1 arg2 harg2 arg3 harg3 arg4 harg4 arg5 harg5 arg6 harg6 arg7 harg7 arg8 harg8 arg9 harg9 x0 x1 x2 x3 x4 x5 x6 arg8.view.junk st y)).trans
    (congrArg (fun v => outAll v x0 x1 x2 x3 x4 x5 st y) (scale_eq arg7 harg7 x6))

end Cert.ScanProof

end
-- ==== Proof.Scan.Array.lean ====
/- The blocks the kernel's grid points hold, as entries of the arguments. -/
module

public import proofs.«01_k».proof.Proof.Scan.Whole
public import proofs.«01_k».proof.Proof.Scan.Frame
public import proofs.«01_k».proof.Proof.Scan.Point

@[expose] public section

set_option maxRecDepth 16384

noncomputable section

namespace Cert.ScanProof

open Cert.ScanIdeal Cert.ScanIdeal.Gen Idealize.ShloMosaic Idealize.ShloMosaic.TcCoe Idealize.SL.Sem

variable (m : (ℓ : Loc nD τ sig) → Buf (Elt Ideal) ℓ)

/-- Which block of its array each window holds at each grid point. -/
theorem idx : ∀ t : Fin cfg0.N, win0_0.index t = ![0, 0, t.val, 0, 0] ∧ win0_1.index t = ![0, 0, t.val, 0, 0]
    ∧ win0_2.index t = ![0, 0, t.val, 0, 0] ∧ win0_3.index t = ![0, 0, t.val, 0, 0] ∧ win0_4.index t = ![0, 0, t.val, 0, 0]
    ∧ win0_5.index t = ![0, t.val, 6] ∧ win0_6.index t = ![0, 0] ∧ win0_7.index t = ![0, t.val, 0] :=
  (by decide +kernel : ∀ t : Fin grid0.N, _)

/-- Inside a batch's 64 chunks the place of a chunk is plain. -/
theorem place (b : Fin 2) (t k : ℕ) (h : 8 * t + k < 64) : b.val * 64 + (t * 8 + k) = (cell b (8 * t + k)).val := by
  show _ = (64 * b.val + (8 * t + k)) % 128
  omega

/-- The block of keys and queries at point `t`. -/
theorem blk0 (c : Dev nD) (t : Fin cfg0.N) (k : Fin 8) (b : Fin 2) (h : Fin 8) (r j : Fin 128) :
    iblk m c 0 t (ix5 h b k r j) = m ((c : Thread nD τ).loc main_arg0) (ix4 h (cell b (8 * t.val + k.val)) r j) := by
  have ht : t.val < 8 := t.isLt
  blk_point [iblk, V, idx t]
  all_goals exact place b _ _ (by omega)

/-- The block of values at point `t`. -/
theorem blk1 (c : Dev nD) (t : Fin cfg0.N) (k : Fin 8) (b : Fin 2) (h : Fin 8) (r : Fin 64) (j : Fin 128) :
    iblk m c 1 t (ix5 h b k r j) = m ((c : Thread nD τ).loc main_arg1) (ix4 h (cell b (8 * t.val + k.val)) r j) := by
  have ht : t.val < 8 := t.isLt
  blk_point [iblk, V, idx t]
  all_goals exact place b _ _ (by omega)

/-- The block of the update's keys at point `t`. -/
theorem blk2 (c : Dev nD) (t : Fin cfg0.N) (k : Fin 8) (b : Fin 2) (h : Fin 8) (r : Fin 64) (j : Fin 128) :
    iblk m c 2 t (ix5 h b k r j) = m ((c : Thread nD τ).loc main_arg2) (ix4 h (cell b (8 * t.val + k.val)) r j) := by
  have ht : t.val < 8 := t.isLt
  blk_point [iblk, V, idx t]
  all_goals exact place b _ _ (by omega)

/-- The block of products of queries and keys at point `t`. -/
theorem blk3 (c : Dev nD) (t : Fin cfg0.N) (k : Fin 8) (b : Fin 2) (h : Fin 8) (r j : Fin 64) :
    iblk m c 3 t (ix5 h b k r j) = m ((c : Thread nD τ).loc main_arg3) (ix4 h (cell b (8 * t.val + k.val)) r j) := by
  have ht : t.val < 8 := t.isLt
  blk_point [iblk, V, idx t]
  all_goals exact place b _ _ (by omega)

/-- The block of decays at point `t`. -/
theorem blk4 (c : Dev nD) (t : Fin cfg0.N) (k : Fin 8) (b : Fin 2) (h : Fin 8) (j : Fin 128) :
    iblk m c 4 t (ix5 h b k 0 j) = m ((c : Thread nD τ).loc main_arg4) (ix4 h (cell b (8 * t.val + k.val)) 0 j) := by
  have ht : t.val < 8 := t.isLt
  blk_point [iblk, V, idx t]
  all_goals exact place b _ _ (by omega)

/-- The block of the gate's columns at point `t`. -/
theorem blk5 (c : Dev nD) (t : Fin cfg0.N) (b : Fin 2) (s : Fin 512) (e : Fin 1024) :
    iblk m c 5 t (ix3 b s e) = m ((c : Thread nD τ).loc main_arg5) (ix2 ⟨4096 * b.val + (512 * t.val + s.val), by have : t.val < 8 := t.isLt; omega⟩ ⟨6144 + e.val, by omega⟩) := by
  have ht : t.val < 8 := t.isLt
  blk_point [iblk, V, idx t]

/-- The block of the norm's weights at point `t`. -/
theorem blk6 (c : Dev nD) (t : Fin cfg0.N) (e : Fin 128) :
    iblk m c 6 t (ix2 0 e) = m ((c : Thread nD τ).loc main_arg6) (ix2 0 e) := by
  blk_point [iblk, V, idx t]

end Cert.ScanProof

end
-- ==== Proof.Scan.Final.lean ====
/- What the scan's output array holds after the kernel's run. -/
module

public import proofs.«01_k».proof.Proof.Scan.Array

@[expose] public section

set_option maxRecDepth 16384

noncomputable section

namespace Cert.ScanProof

open Cert.ScanIdeal Cert.ScanIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A chain's state before chunk `n`, from the arguments held. -/
abbrev st (c : Dev nD) (b : Fin 2) (h : Fin 8) (n : ℕ) : Fin 128 → Fin 128 → EReal :=
  stateAt (m ((c : Thread nD τ).loc main_arg0)) (m ((c : Thread nD τ).loc main_arg1)) (m ((c : Thread nD τ).loc main_arg2))
    (m ((c : Thread nD τ).loc main_arg4)) b h n

/-- The state of the arguments before chunk `n`, as a block of all chains. -/
def chainsAt (c : Dev nD) (n : ℕ) : Vec Ideal S2x8x128x128 .f32 := fun y => st m c (y 0) (y 1) n (y 2) (y 3)

/-- The corrected values of a point's chunk `k` are those of the whole sequence's chunk `8 t + k`. -/
theorem fresh_pt (c : Dev nD) (t : Fin cfg0.N) (k : Fin 8) (b : Fin 2) (h : Fin 8) (S : Fin 128 → Fin 128 → EReal) :
    blkFresh (iblk m c 0 t) (iblk m c 1 t) k b h S
      = freshAt (m ((c : Thread nD τ).loc main_arg0)) (m ((c : Thread nD τ).loc main_arg1)) b h (8 * t.val + k.val) S := by
  unfold blkFresh freshAt
  simp only [blk0 m c t k b h, blk1 m c t k b h]

/-- One chunk of a point moves a chain on by one chunk of the sequence. -/
theorem next_pt (c : Dev nD) (t : Fin cfg0.N) (k : Fin 8) (b : Fin 2) (h : Fin 8) :
    blkNext (iblk m c 0 t) (iblk m c 1 t) (iblk m c 2 t) (iblk m c 4 t) k b h (st m c b h (8 * t.val + k.val))
      = st m c b h (8 * t.val + k.val + 1) := by
  unfold blkNext
  rw [fresh_pt]
  simp only [blk2 m c t k b h, blk4 m c t k b h]
  rfl

/-- One chunk of a point moves all chains on by one chunk of the sequence. -/
theorem state_pt (c : Dev nD) (t : Fin cfg0.N) (k : Fin 8) :
    stateAfter (iblk m c 0 t) (iblk m c 1 t) (iblk m c 2 t) (iblk m c 4 t) k (chainsAt m c (8 * t.val + k.val))
      = chainsAt m c (8 * t.val + k.val + 1) :=
  funext fun y => congrFun (congrFun (next_pt m c t k (y 0) (y 1)) (y 2)) (y 3)

/-- The chains after `n` chunks of a point. -/
theorem stateN_pt (c : Dev nD) (t : Fin cfg0.N) : ∀ n, n ≤ 8 →
    stateN (iblk m c 0 t) (iblk m c 1 t) (iblk m c 2 t) (iblk m c 4 t) (chainsAt m c (8 * t.val)) n = chainsAt m c (8 * t.val + n)
  | 0, _ => rfl
  | n + 1, h => by
    rw [stateN_succ _ _ _ _ _ n h, stateN_pt c t n (Nat.le_of_succ_le h)]
    exact state_pt m c t ⟨n, h⟩

/-- What the kernel keeps between points is the chains before the point's first chunk. -/
theorem stAt_val (c : Dev nD) : ∀ n h, stAt m c n h = chainsAt m c (8 * n)
  | 0, _ => by
    funext y
    show k0_pay1 (F := Ideal) y = 0
    pointwise [k0_pay1]
  | n + 1, h => by
    show statePt m c ⟨n, h⟩ (stAt m c n (Nat.le_of_lt h)) = _
    rw [stAt_val c n]
    exact (stateBlock_val ..).trans (stateN_pt m c ⟨n, h⟩ 8 le_rfl)

/-- What the output array ends holding. -/
abbrev out (c : Dev nD) : S2x4096x1024.Idx → EReal :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) halfGate

/-- What a point stores of one chunk is the output array's rows of the sequence's chunk. -/
theorem chunk_pt (c : Dev nD) (t : Fin cfg0.N) (k : Fin 8) (b : Fin 2) (h : Fin 8) (r : Fin 64) (e : Fin 128) (s : Fin 4096)
    (hs : s.val = 512 * t.val + (64 * k.val + r.val)) :
    blkOut (iblk m c 0 t) (iblk m c 1 t) (iblk m c 3 t) (iblk m c 5 t) (iblk m c 6 t) k b h (st m c b h (8 * t.val + k.val)) r e
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) halfGate b s h e := by
  have ht : t.val < 8 := t.isLt
  have hn : s.val / 64 = 8 * t.val + k.val := by omega
  have hr : (⟨s.val % 64, by omega⟩ : Fin 64) = r := Fin.ext (by show s.val % 64 = r.val; omega)
  unfold blkOut outAt readAt gateAt
  rw [fresh_pt, hn, hr]
  simp only [blk0 m c t k b h, blk3 m c t k b h, blk5 m c t, blk6 m c t, hs]

/-- The place of point `t`'s block entry in the output array. -/
def spot (t : Fin cfg0.N) (y : S2x512x1024.Idx) : S2x4096x1024.Idx :=
  ix3 (y 0) ⟨512 * t.val + (y 1).val, by have : t.val < 8 := t.isLt; have : (y 1).val < 512 := (y 1).isLt; omega⟩ (y 2)

/-- A point's output block is its block of the output array. -/
theorem out_pt (c : Dev nD) (t : Fin cfg0.N) (y : S2x512x1024.Idx) :
    outPt m c t (stAt m c t.val (Nat.le_of_lt t.isLt)) y = out m c (spot t y) := by
  rw [stAt_val]
  refine (outBlock_val ..).trans ?_
  unfold outAll
  rw [stateN_pt m c t _ (Nat.le_of_lt (chunkOf y).isLt)]
  refine chunk_pt m c t (chunkOf y) (y 0) (headOf y) (rowOf y) (colOf y) _ ?_
  have h1 : (y 1).val < 512 := (y 1).isLt
  show 512 * t.val + (y 1).val = 512 * t.val + (64 * ((y 1).val / 64) + (y 1).val % 64)
  omega

/-- The output array after the run. -/
theorem final (c : Dev nD) : (dats m 0 c).arrAt 7 (cfgs 0).N = out m c := by
  refine (dats m 0 c).arrAt_eq_of_covers 7 _ (by decide +kernel) fun t _ y => ?_
  have hi := (idx t).2.2.2.2.2.2.2
  have hl : ((cfg0.win 7).blk t).view.emb y = spot t ((cfg0.win 7).xinj (grid0.coords t) y) := by
    funext a; apply Fin.ext
    have hy1 : (y 1).val < 512 := (y 1).isLt
    match a with
    | ⟨0, _⟩ => show win0_7.index t (0 : Fin 3) * 2 + 1 * (y 0).val = (y 0).val; rw [hi]; show 0 * 2 + _ = _; omega
    | ⟨1, _⟩ => show win0_7.index t (1 : Fin 3) * 512 + 1 * (y 1).val = 512 * t.val + (y 1).val; rw [hi]; show t.val * 512 + _ = _; omega
    | ⟨2, _⟩ => show win0_7.index t (2 : Fin 3) * 1024 + 1 * (y 2).val = (y 2).val; rw [hi]; show 0 * 1024 + _ = _; omega
  show (dats m 0 c).after 7 t ((cfg0.win 7).xinj (grid0.coords t) y) = out m c (((cfg0.win 7).blk t).view.emb y)
  rw [after_7, hl]
  exact out_pt m c t _

/-- Every run ends with the scan's output in the result array and the arguments as they were. -/
theorem run_out : θ_run defs (onTc (τ := τ) (main (F := Ideal))) ⟨m, fun _ => 0, ρ⟩ fun r => ∀ c : Dev nD,
      r.2.mem ((c : Thread nD τ).loc main_v6) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r hr c => ?_) (run_all m ρ)
  have h := hr.1 c
  exact ⟨(h.1 7).trans (final m c),
    (h.2 main_arg0 (Pipeline.mem_restRefs_of main_arg0 (by decide) (by decide))).trans (V_main_arg0 m c),
    (h.2 main_arg1 (Pipeline.mem_restRefs_of main_arg1 (by decide) (by decide))).trans (V_main_arg1 m c),
    (h.2 main_arg2 (Pipeline.mem_restRefs_of main_arg2 (by decide) (by decide))).trans (V_main_arg2 m c),
    (h.2 main_arg3 (Pipeline.mem_restRefs_of main_arg3 (by decide) (by decide))).trans (V_main_arg3 m c),
    (h.2 main_arg4 (Pipeline.mem_restRefs_of main_arg4 (by decide) (by decide))).trans (V_main_arg4 m c),
    (h.2 main_arg5 (Pipeline.mem_restRefs_of main_arg5 (by decide) (by decide))).trans (V_main_arg5 m c),
    (h.1 6).trans (((dats m 0 c).arrAt_in 6 rfl _).trans ((A_eq m c 6).trans (V_main_arg6 m c)))⟩

end Cert.ScanProof

end
-- ==== Proof.Scan.Trip.lean ====
/- One trip of the reference's loop, at an index. -/
module

public import proofs.«01_k».proof.Proof.Scan.Whole
public import proofs.«01_k».proof.Proof.Gen.ScanRefIdeal.Step
public import Idealize.ShloMosaic.Lib.DynamicIndex

@[expose] public section

set_option maxRecDepth 16384

noncomputable section

namespace Cert.ScanProof

open Cert.ScanRefIdeal Cert.ScanRefIdeal.Gen Cert.ScanRefIdeal.Step Idealize.ShloMosaic Idealize.ShloMosaic.TcCoe Idealize.SL.Sem Idealize.ShloMosaic.StableHlo

/-- Where a trip's slices start: at its own number on the first axis. -/
abbrev starts (n : ℕ) : Fin 5 → Int := fun k =>
  (((![constantI S_ 32 (BitVec.ofNat 32 n), constantI S_ 32 0#32, constantI S_ 32 0#32, constantI S_ 32 0#32, constantI S_ 32 0#32] : Fin 5 → (⟨S_, .i32⟩ : BufTy).Contents (Elt Ideal))) k (Shape.Idx.first h_S_)).toInt

/-- Those starts as numbers. -/
theorem starts_val (n : ℕ) (hn : n < 64) (a : Fin 5) : starts n a = ((![n, 0, 0, 0, 0] : Fin 5 → ℕ) a : ℕ) := by
  have h : (BitVec.ofNat 32 n).toInt = n := by
    exact toInt_ofNat_of_lt (by omega)
  fin_cases a
  · exact h
  all_goals rfl

variable {n : ℕ} (hn : n < 64)
include hn

/-- A trip's slice of 64 rows of 128, at an index. -/
theorem cut128 (x : FVec Ideal S64x2x8x64x128 .f32) (hs : S64x2x8x64x128.Slices (fun _ => 0) S1x2x8x64x128) (hc : S1x2x8x64x128.ShapeCasts S2x8x64x128) :
    shapeCast S2x8x64x128 (Host.dynamicSlice S1x2x8x64x128 x (starts n) hs) hc
    = fun y : S2x8x64x128.Idx => x (ix5 ⟨n, hn⟩ (y 0) (y 1) (y 2) (y 3)) := by
  rw [Host.dynamicSlice_eq_extractStridedSlice _ x (starts n) ![n, 0, 0, 0, 0] hs
    ⟨rfl, by intro a; fin_cases a <;> simp <;> omega⟩ (starts_val n hn)]
  funext y
  pointwise

/-- A trip's slice of 64 rows of 64, at an index. -/
theorem cut64 (x : FVec Ideal S64x2x8x64x64 .f32) (hs : S64x2x8x64x64.Slices (fun _ => 0) S1x2x8x64x64) (hc : S1x2x8x64x64.ShapeCasts S2x8x64x64) :
    shapeCast S2x8x64x64 (Host.dynamicSlice S1x2x8x64x64 x (starts n) hs) hc
    = fun y : S2x8x64x64.Idx => x (ix5 ⟨n, hn⟩ (y 0) (y 1) (y 2) (y 3)) := by
  rw [Host.dynamicSlice_eq_extractStridedSlice _ x (starts n) ![n, 0, 0, 0, 0] hs
    ⟨rfl, by intro a; fin_cases a <;> simp <;> omega⟩ (starts_val n hn)]
  funext y
  pointwise

/-- A trip's slice of one row of 128, at an index. -/
theorem cut1 (x : FVec Ideal S64x2x8x1x128 .f32) (hs : S64x2x8x1x128.Slices (fun _ => 0) S1x2x8x1x128) (hc : S1x2x8x1x128.ShapeCasts S2x8x1x128) :
    shapeCast S2x8x1x128 (Host.dynamicSlice S1x2x8x1x128 x (starts n) hs) hc
    = fun y : S2x8x1x128.Idx => x (ix5 ⟨n, hn⟩ (y 0) (y 1) 0 (y 3)) := by
  rw [Host.dynamicSlice_eq_extractStridedSlice _ x (starts n) ![n, 0, 0, 0, 0] hs
    ⟨rfl, by intro a; fin_cases a <;> simp <;> omega⟩ (starts_val n hn)]
  funext y
  pointwise

/-- A trip's update of its own slice, at an index. -/
theorem put_apply (x : FVec Ideal S64x2x8x64x128 .f32) (u : FVec Ideal S1x2x8x64x128 .f32) (hs : S64x2x8x64x128.Slices (fun _ => 0) S1x2x8x64x128)
    (k : Fin 64) (b : Fin 2) (h : Fin 8) (r : Fin 64) (e : Fin 128) :
    Host.dynamicUpdateSlice x u (starts n) hs (ix5 k b h r e) = if k.val = n then u (ix5 0 b h r e) else x (ix5 k b h r e) := by
  have hh : S64x2x8x64x128.Slices ![n, 0, 0, 0, 0] S1x2x8x64x128 := ⟨rfl, by intro a; fin_cases a <;> simp <;> omega⟩
  have hcl : ∀ a, Host.clampedStart S64x2x8x64x128 S1x2x8x64x128 hs.1 (starts n) a = (![n, 0, 0, 0, 0] : Fin 5 → ℕ) a :=
    fun a => Host.clampedStart_of_le hs.1 _ a _ (starts_val n hn a) (hh.2 a)
  rw [Host.dynamicUpdateSlice_apply]
  split_ifs with h1 h2 h2
  · refine congrArg u ((Shape.Idx.norm_def _).trans (funext fun a => Fin.ext ?_))
    show (ix5 k b h r e (a.cast hs.1)).val - Host.clampedStart S64x2x8x64x128 S1x2x8x64x128 hs.1 (starts n) (a.cast hs.1) = _
    rw [hcl]
    fin_cases a
    · show k.val - n = 0
      omega
    all_goals rfl
  · have h0 := h1 (0 : Fin 5)
    rw [hcl] at h0
    have h3 : n ≤ k.val ∧ k.val < n + 1 := h0
    omega
  · refine absurd (fun a => ?_) h1
    rw [hcl]
    fin_cases a
    · show n ≤ k.val ∧ k.val < n + 1
      omega
    · exact ⟨Nat.zero_le _, (by show b.val < 0 + 2; omega)⟩
    · exact ⟨Nat.zero_le _, (by show h.val < 0 + 8; omega)⟩
    · exact ⟨Nat.zero_le _, (by show r.val < 0 + 64; omega)⟩
    · exact ⟨Nat.zero_le _, (by show e.val < 0 + 128; omega)⟩
  · rfl

variable (s : State Ideal)

/-- The values a trip corrects, at an index. -/
theorem trip_fresh (b : Fin 2) (h : Fin 8) (r : Fin 64) (e : Fin 128) : b37 n s (ix4 b h r e)
    = fresh (fun r j => s.main_v23_3 (ix5 ⟨n, hn⟩ b h r j)) (fun r e => s.main_v23_2 (ix5 ⟨n, hn⟩ b h r e)) (fun d e => s.main_v23_7 (ix4 b h d e)) r e := by
  have h1 := cut128 hn s.main_v23_2
  have h2 := cut128 hn s.main_v23_3
  unfold b37 b36 b17 b16 b23 b22 b12 b13 b14 b15 b18 b19 b20 b21 fresh
  rw [h1, h2]
  pointwise

/-- The state a trip leaves, at an index. -/
theorem trip_state (b : Fin 2) (h : Fin 8) (d e : Fin 128) : b44 n s (ix4 b h d e)
    = nextState (fun r d => s.main_v23_4 (ix5 ⟨n, hn⟩ b h r d)) (fun e => s.main_v23_5 (ix5 ⟨n, hn⟩ b h 0 e)) (fun d e => s.main_v23_7 (ix4 b h d e))
        (fun r e => b37 n s (ix4 b h r e)) d e := by
  have h1 := cut128 hn s.main_v23_4
  have h2 := cut1 hn s.main_v23_5
  unfold b44 b43 b42 b41 b35 b34 b29 b28 b24 b25 b26 b27 b30 b31 b32 b33 nextState
  rw [h1, h2]
  generalize b37 n s = v
  pointwise

/-- What a trip's queries read, at an index. -/
theorem trip_read (b : Fin 2) (h : Fin 8) (r : Fin 64) (e : Fin 128) : b40 n s (ix4 b h r e)
    = reading (fun r j => s.main_v23_0 (ix5 ⟨n, hn⟩ b h r j)) (fun r i => s.main_v23_1 (ix5 ⟨n, hn⟩ b h r i)) (fun d e => s.main_v23_7 (ix4 b h d e))
        (fun r e => b37 n s (ix4 b h r e)) r e := by
  have h1 := cut128 hn s.main_v23_0
  have h2 := cut64 hn s.main_v23_1
  unfold b40 b39 b38 b11 b10 b5 b4 b0 b1 b2 b3 b6 b7 b8 b9 reading
  rw [h1, h2]
  generalize b37 n s = v
  pointwise

/-- The stacked outputs a trip leaves, at an index. -/
theorem trip_out (k : Fin 64) (b : Fin 2) (h : Fin 8) (r : Fin 64) (e : Fin 128) : b50 n s (ix5 k b h r e)
    = if k.val = n then b40 n s (ix4 b h r e) else s.main_v23_8 (ix5 k b h r e) := by
  unfold b50 b46 b47 b48 b49
  refine (put_apply hn _ _ _ k b h r e).trans ?_
  unfold b45
  generalize b40 n s = v
  pointwise

end Cert.ScanProof

end
-- ==== Proof.Scan.Loop.lean ====
/- The reference's loop: what it carries after each trip. -/
module

public import proofs.«01_k».proof.Proof.Scan.Trip
public import proofs.«01_k».proof.Proof.Gen.ScanRefIdeal.Run

@[expose] public section

set_option maxRecDepth 16384

noncomputable section

namespace Cert.ScanProof

open Cert.ScanRefIdeal Cert.ScanRefIdeal.Gen Cert.ScanRefIdeal.Value Idealize.ShloMosaic Idealize.ShloMosaic.TcCoe Idealize.SL.Sem Idealize.ShloMosaic.StableHlo
open Cert.ScanRefIdeal.Step (State step init b37 b40 b44 b50 R_main_v47)

/-- What the loop's buffers hold. -/
def carried (V : Valuation τ sig (Elt Ideal)) : State Ideal where
  main_v23_7 := V (Proc.devRef .tc main_v23_7)
  main_v23_8 := V (Proc.devRef .tc main_v23_8)
  main_v23_0 := V (Proc.devRef .tc main_v23_0)
  main_v23_1 := V (Proc.devRef .tc main_v23_1)
  main_v23_2 := V (Proc.devRef .tc main_v23_2)
  main_v23_3 := V (Proc.devRef .tc main_v23_3)
  main_v23_4 := V (Proc.devRef .tc main_v23_4)
  main_v23_5 := V (Proc.devRef .tc main_v23_5)

/-- The loop's counter is `n`. -/
abbrev Counts (V : Valuation τ sig (Elt Ideal)) (n : ℕ) : Prop :=
  V (Proc.devRef .tc main_v23_6) = constantI S_ 32 (BitVec.ofNat 32 n)

/-- A trip counts on. -/
theorem counts_step (V : Valuation τ sig (Elt Ideal)) (n : ℕ) (hc : Counts V n) : Counts (STEP V) (n + 1) := by
  refine (STEP_main_v23_6 V).trans ?_
  unfold step_main_v23_6
  rw [show V (Proc.devRef .tc main_v23_6) = constantI S_ 32 (BitVec.ofNat 32 n) from hc]
  funext i
  show BitVec.ofNat 32 n + 1#32 = BitVec.ofNat 32 (n + 1)
  rw [BitVec.ofNat_add]

/-- A trip's new state. -/
theorem state_step (V : Valuation τ sig (Elt Ideal)) (n : ℕ) (hc : Counts V n) : step_main_v23_7 V = b44 n (carried V) := by
  unfold step_main_v23_7 res_main_while0b_v55
  rw [show V (Proc.devRef .tc main_v23_6) = constantI S_ 32 (BitVec.ofNat 32 n) from hc]
  rfl

/-- A trip's new outputs. -/
theorem out_step (V : Valuation τ sig (Elt Ideal)) (n : ℕ) (hc : Counts V n) : step_main_v23_8 V = b50 n (carried V) := by
  unfold step_main_v23_8 res_main_while0b_v55
  rw [show V (Proc.devRef .tc main_v23_6) = constantI S_ 32 (BitVec.ofNat 32 n) from hc]
  rfl

/-- A trip is one step of what the loop carries. -/
theorem carried_step (V : Valuation τ sig (Elt Ideal)) (n : ℕ) (hc : Counts V n) : carried (STEP V) = step n (carried V) := by
  unfold step
  rw [← state_step V n hc, ← out_step V n hc]
  unfold carried
  rw [STEP_main_v23_7 V, STEP_main_v23_8 V, STEP_main_v23_0 V, STEP_main_v23_1 V, STEP_main_v23_2 V, STEP_main_v23_3 V, STEP_main_v23_4 V, STEP_main_v23_5 V]

variable (m : (ℓ : Loc nD τ sig) → Buf (Elt Ideal) ℓ) (c : Dev nD)

/-- What the loop carries before trip `n`. -/
def trips : ℕ → State Ideal
  | 0 => init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  | n + 1 => step n (trips n)

set_option maxRecDepth 65536 in
set_option maxHeartbeats 400000 in
/-- What the loop starts from. -/
theorem entry_carried : carried (entryContents preI m c) = trips m c 0 := by
  unfold carried trips init
  congr 1 <;> (simp only [entryContents, afterL_cons, afterL_nil]; after_reads_simp) <;> rfl

set_option maxRecDepth 65536 in
/-- The counter starts from zero. -/
theorem entry_counts : Counts (entryContents preI m c) 0 := by
  show entryContents preI m c (Proc.devRef .tc main_v23_6) = _
  simp only [entryContents, afterL_cons, afterL_nil]; after_reads_simp <;> rfl

/-- What the loop carries and counts after `n` trips. -/
theorem iter_carried : ∀ n, carried (STEP^[n] (entryContents preI m c)) = trips m c n ∧ Counts (STEP^[n] (entryContents preI m c)) n
  | 0 => ⟨entry_carried m c, entry_counts m c⟩
  | n + 1 => by
    obtain ⟨h, hc⟩ := iter_carried n
    rw [Function.iterate_succ_apply']
    exact ⟨(carried_step _ n hc).trans (congrArg (step n) h), counts_step _ n hc⟩

/-- What the loop carries before trip `n`, in the words of the scan's mathematics. -/
structure Holds (n : ℕ) (s : State Ideal) : Prop where
  q : ∀ k b h r j, s.main_v23_0 (ix5 k b h r j) = m ((c.tc : Thread nD τ).loc main_arg0) (ix4 h (cell b k.val) ⟨64 + r.val, by omega⟩ j)
  qk : ∀ k b h r i, s.main_v23_1 (ix5 k b h r i) = m ((c.tc : Thread nD τ).loc main_arg3) (ix4 h (cell b k.val) r i)
  u : ∀ k b h r e, s.main_v23_2 (ix5 k b h r e) = m ((c.tc : Thread nD τ).loc main_arg1) (ix4 h (cell b k.val) r e)
  w : ∀ k b h r j, s.main_v23_3 (ix5 k b h r j) = m ((c.tc : Thread nD τ).loc main_arg0) (ix4 h (cell b k.val) ⟨r.val, by omega⟩ j)
  ke : ∀ k b h r d, s.main_v23_4 (ix5 k b h r d) = m ((c.tc : Thread nD τ).loc main_arg2) (ix4 h (cell b k.val) r d)
  gl : ∀ k b h e, s.main_v23_5 (ix5 k b h 0 e) = m ((c.tc : Thread nD τ).loc main_arg4) (ix4 h (cell b k.val) 0 e)
  st : ∀ b h d e, s.main_v23_7 (ix4 b h d e) = stateAt (m ((c.tc : Thread nD τ).loc main_arg0)) (m ((c.tc : Thread nD τ).loc main_arg1)) (m ((c.tc : Thread nD τ).loc main_arg2)) (m ((c.tc : Thread nD τ).loc main_arg4)) b h n d e
  out : ∀ k b h r e, k.val < n → s.main_v23_8 (ix5 k b h r e)
    = readAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b h k.val r e

/-- A chunk's place among the chunks of both batches. -/
theorem cell_val (b : Fin 2) (k : Fin 64) : (cell b k.val).val = 64 * b.val + k.val := by
  show (64 * b.val + k.val) % 128 = _
  omega

section
variable (a0 : FVec Ideal S8x128x128x128 .bf16) (a1 a2 : FVec Ideal S8x128x64x128 .bf16) (a3 : FVec Ideal S8x128x64x64 .bf16)
  (a4 : FVec Ideal S8x128x1x128 .f32)

/-- The decayed queries, at an index. -/
theorem first_q (k : Fin 64) (b : Fin 2) (h : Fin 8) (r : Fin 64) (j : Fin 128) : Step.A_main_v20 (F := Ideal) a0 a1 a2 a3 a4 (ix5 k b h r j) = a0 (ix4 h (cell b k.val) ⟨64 + r.val, by omega⟩ j) := by
  have := cell_val b k
  unfold Step.A_main_v20 Step.A_main_v3 Step.A_main_v2 Step.A_main_v1 Step.A_main_v0
  rw [show cell b k.val = ⟨b.val * 64 + k.val, by omega⟩ from Fin.ext (by show _ = b.val * 64 + k.val; omega)]
  pointwise

/-- The keys of the correction, at an index. -/
theorem first_w (k : Fin 64) (b : Fin 2) (h : Fin 8) (r : Fin 64) (j : Fin 128) : Step.A_main_v19 (F := Ideal) a0 a1 a2 a3 a4 (ix5 k b h r j) = a0 (ix4 h (cell b k.val) ⟨r.val, by omega⟩ j) := by
  have := cell_val b k
  unfold Step.A_main_v19 Step.A_main_v3 Step.A_main_v2 Step.A_main_v1 Step.A_main_v0
  rw [show cell b k.val = ⟨b.val * 64 + k.val, by omega⟩ from Fin.ext (by show _ = b.val * 64 + k.val; omega)]
  pointwise

/-- The values, at an index. -/
theorem first_u (k : Fin 64) (b : Fin 2) (h : Fin 8) (r : Fin 64) (e : Fin 128) : Step.A_main_v7 (F := Ideal) a0 a1 a2 a3 a4 (ix5 k b h r e) = a1 (ix4 h (cell b k.val) r e) := by
  have := cell_val b k
  unfold Step.A_main_v7 Step.A_main_v6 Step.A_main_v5 Step.A_main_v4
  rw [show cell b k.val = ⟨b.val * 64 + k.val, by omega⟩ from Fin.ext (by show _ = b.val * 64 + k.val; omega)]
  pointwise

/-- The update's keys, at an index. -/
theorem first_ke (k : Fin 64) (b : Fin 2) (h : Fin 8) (r : Fin 64) (d : Fin 128) : Step.A_main_v11 (F := Ideal) a0 a1 a2 a3 a4 (ix5 k b h r d) = a2 (ix4 h (cell b k.val) r d) := by
  have := cell_val b k
  unfold Step.A_main_v11 Step.A_main_v10 Step.A_main_v9 Step.A_main_v8
  rw [show cell b k.val = ⟨b.val * 64 + k.val, by omega⟩ from Fin.ext (by show _ = b.val * 64 + k.val; omega)]
  pointwise

/-- The products of queries and keys, at an index. -/
theorem first_qk (k : Fin 64) (b : Fin 2) (h : Fin 8) (r i : Fin 64) : Step.A_main_v15 (F := Ideal) a0 a1 a2 a3 a4 (ix5 k b h r i) = a3 (ix4 h (cell b k.val) r i) := by
  have := cell_val b k
  unfold Step.A_main_v15 Step.A_main_v14 Step.A_main_v13 Step.A_main_v12
  rw [show cell b k.val = ⟨b.val * 64 + k.val, by omega⟩ from Fin.ext (by show _ = b.val * 64 + k.val; omega)]
  pointwise

/-- The decays, at an index. -/
theorem first_gl (k : Fin 64) (b : Fin 2) (h : Fin 8) (e : Fin 128) : Step.A_main_v18 (F := Ideal) a0 a1 a2 a3 a4 (ix5 k b h 0 e) = a4 (ix4 h (cell b k.val) 0 e) := by
  have := cell_val b k
  unfold Step.A_main_v18 Step.A_main_v17 Step.A_main_v16
  rw [show cell b k.val = ⟨b.val * 64 + k.val, by omega⟩ from Fin.ext (by show _ = b.val * 64 + k.val; omega)]
  pointwise

/-- The first state. -/
theorem first_st (y : S2x8x128x128.Idx) : Step.K_main_v21 (F := Ideal) y = 0 := by
  unfold Step.K_main_v21 Step.K_main_cst
  pointwise
end

/-- The loop starts with the arguments' chunks and a zero state. -/
theorem holds_first : Holds m c 0 (trips m c 0) where
  q := first_q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  qk := first_qk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  u := first_u (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  w := first_w (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  ke := first_ke (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  gl := first_gl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  st b h d e := first_st (ix4 b h d e)
  out k b h r e hk := absurd hk (Nat.not_lt_zero _)

/-- A trip keeps all of this, one chunk on. -/
theorem holds_next (n : ℕ) (hn : n < 64) (s : State Ideal) (H : Holds m c n s) : Holds m c (n + 1) (step n s) := by
  have hf : ∀ b h, (fun r e => b37 n s (ix4 b h r e)) = freshAt (m ((c.tc : Thread nD τ).loc main_arg0)) (m ((c.tc : Thread nD τ).loc main_arg1)) b h n
      (stateAt (m ((c.tc : Thread nD τ).loc main_arg0)) (m ((c.tc : Thread nD τ).loc main_arg1)) (m ((c.tc : Thread nD τ).loc main_arg2)) (m ((c.tc : Thread nD τ).loc main_arg4)) b h n) := by
    intro b h
    funext r e
    rw [trip_fresh hn]
    unfold freshAt
    simp only [H.w, H.u, H.st]
  refine ⟨H.q, H.qk, H.u, H.w, H.ke, H.gl, fun b h d e => ?_, fun k b h r e hk => ?_⟩
  · refine (trip_state hn s b h d e).trans ?_
    rw [hf]
    simp only [H.ke, H.gl, H.st]
    rfl
  · refine (trip_out hn s k b h r e).trans ?_
    split_ifs with h1
    · rw [trip_read hn, hf]
      subst h1
      unfold readAt
      simp only [H.q, H.qk, H.st]
    · exact H.out k b h r e (by omega)

/-- After all trips. -/
theorem holds_trips : ∀ n, n ≤ 64 → Holds m c n (trips m c n)
  | 0, _ => holds_first m c
  | n + 1, h => holds_next m c n h _ (holds_trips n (Nat.le_of_succ_le h))

end Cert.ScanProof

end
-- ==== Proof.Scan.Gate.lean ====
/- The gate: half the argument, plus half of it times the hyperbolic tangent of half of it, is the argument times its logistic. -/
module

public import proofs.«01_k».proof.Proof.Scan.Chain
public import Idealize.ShloMosaic.Lib.IdealHost

@[expose] public section

noncomputable section

namespace Cert.ScanProof

open Idealize.ShloMosaic

/-- The gate as the reference takes it: the argument times its logistic. -/
def silu (z : EReal) : EReal := z * Ideal.div 1 (1 + Ideal.exp (-z))

/-- The constant one half. -/
theorem half_const : Ideal.ofBits .f32 0x3F000000#32 = ((1 / 2 : ℝ) : EReal) := by
  simp [Ideal.ofBits, Ideal.ieee, -EReal.coe_mul]
  norm_num

/-- The identity on the real numbers. -/
theorem half_gate_real (r : ℝ) : 1 / 2 * r + 1 / 2 * r * Real.tanh (1 / 2 * r) = r * (1 + Real.exp (-r))⁻¹ := by
  have hp : 0 < Real.exp (1 / 2 * r) := Real.exp_pos _
  have hq : 0 < Real.exp (-(1 / 2 * r)) := Real.exp_pos _
  have he : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, he]
  generalize Real.exp (1 / 2 * r) = p at *
  generalize Real.exp (-(1 / 2 * r)) = q at *
  have hs : 0 < p + q := by positivity
  have h2 : (1 + q * q) = q * (p + q) := by linarith [h1, mul_comm p q, mul_add q p q]
  rw [h2]
  field_simp
  linear_combination (2 * r) * h1

/-- Above minus infinity the kernel's gate is the reference's. -/
theorem halfGate_eq (z : EReal) (hz : ⊥ < z) : halfGate z = silu z := by
  unfold halfGate silu
  rw [half_const]
  induction z using EReal.rec with
  | bot => exact absurd hz (lt_irrefl _)
  | top =>
    have h0 : (0 : ℝ) < 1 / 2 := by norm_num
    rw [EReal.coe_mul_top_of_pos h0]
    simp [Ideal.div]
  | coe r =>
    have h1 : (1 : ℝ) + Real.exp (-r) ≠ 0 := by positivity
    have e1 : Ideal.exp (-(r : EReal)) = ((Real.exp (-r) : ℝ) : EReal) := by rw [← EReal.coe_neg]; rfl
    have e2 : Ideal.div 1 (1 + ((Real.exp (-r) : ℝ) : EReal)) = (((1 + Real.exp (-r))⁻¹ : ℝ) : EReal) := by
      have e3 : (1 : EReal) + ((Real.exp (-r) : ℝ) : EReal) = ((1 + Real.exp (-r) : ℝ) : EReal) := by rw [EReal.coe_add]; rfl
      rw [e3]
      unfold Ideal.div
      rw [if_neg (by exact_mod_cast h1), one_mul, ← EReal.coe_inv]
    rw [e1, e2, ← EReal.coe_mul, Ideal.tanh_coe, ← EReal.coe_mul, ← EReal.coe_add, ← EReal.coe_mul, half_gate_real]

end Cert.ScanProof

end
-- ==== Proof.Scan.Tail.lean ====
/- What the reference does after its loop, at an index. -/
module

public import proofs.«01_k».proof.Proof.Scan.Whole
public import proofs.«01_k».proof.Proof.Scan.Gate
public import proofs.«01_k».proof.Proof.Gen.ScanRefIdeal.Step

@[expose] public section

set_option maxRecDepth 16384

noncomputable section

namespace Cert.ScanProof

open Cert.ScanRefIdeal Cert.ScanRefIdeal.Gen Idealize.ShloMosaic Idealize.ShloMosaic.TcCoe Idealize.SL.Sem
open Cert.ScanRefIdeal.Step (State R_main_v47)

/-- The reference's result, at an index, where its stacked outputs hold what the chunks' queries read. -/
theorem tail_apply (s : State Ideal) (a0 : FVec Ideal S8x128x128x128 .bf16) (a1 a2 : FVec Ideal S8x128x64x128 .bf16)
    (a3 : FVec Ideal S8x128x64x64 .bf16) (a4 : FVec Ideal S8x128x1x128 .f32) (a5 : FVec Ideal S8192x7168 .bf16) (a6 : FVec Ideal S1x128 .f32)
    (ho : ∀ k b h r e, s.main_v23_8 (ix5 k b h r e) = readAt a0 a1 a2 a3 a4 b h k.val r e) (i : S2x4096x1024.Idx) :
    R_main_v47 (F := Ideal) s a5 a6 i = res a0 a1 a2 a3 a4 a5 a6 silu i := by
  have h2 : (i 2).val < 1024 := (i 2).isLt
  have h1 : (i 1).val < 4096 := (i 1).isLt
  have hcol : 6144 + (128 * ((i 2).val / 128) + (i 2).val % 128) = 6144 + (i 2).val := by omega
  unfold R_main_v47 res outAt gateAt normed silu
  simp only [hcol, mul_comm 4096]
  generalize s.main_v23_8 = o at ho
  have e : ∀ x, o (ix5 ⟨(i 1).val / 64, by omega⟩ (i 0) ⟨(i 2).val / 128, by omega⟩ ⟨(i 1).val % 64, by omega⟩ x)
      = readAt a0 a1 a2 a3 a4 (i 0) ⟨(i 2).val / 128, by omega⟩ ((i 1).val / 64) ⟨(i 1).val % 64, by omega⟩ x := fun x => ho _ (i 0) _ _ x
  simp only [← e]
  pointwise

end Cert.ScanProof

end
-- ==== Proof.Scan.Equal.lean ====
/- The scan's claims: the reference's run, the equation of the two results, and the frames. -/
module

public import proofs.«01_k».proof.Defs
public import proofs.«01_k».proof.Proof.Scan.Final
public import proofs.«01_k».proof.Proof.Scan.Loop
public import proofs.«01_k».proof.Proof.Scan.Tail
public import proofs.«01_k».proof.Proof.Gen.ScanRefIdeal
public import proofs.«01_k».proof.Proof.Gen.ScanIdeal
public import Idealize.ShloMosaic.Lib.Quiescent

@[expose] public section

set_option maxRecDepth 16384

noncomputable section

namespace Cert.ScanProof

open Idealize.ShloMosaic Idealize.ShloMosaic.TcCoe Idealize.SL.Sem

/-- The precondition at an index: the gate's argument is above minus infinity. -/
theorem gate_above [hP : Cert.Pre_gate_above_minus_infinity.Facts] (m : (ℓ : Loc Cert.ScanIdeal.nD Cert.ScanIdeal.τ Cert.ScanIdeal.sig) → Buf (Elt Ideal) ℓ)
    (h : Cert.Pre_ScanIdeal_gate_above_minus_infinity m) (c : Dev Cert.ScanIdeal.nD) (r : Fin 8192) (j : Fin 1024) :
    (⊥ : EReal) < m ((c : Thread Cert.ScanIdeal.nD Cert.ScanIdeal.τ).loc Cert.ScanIdeal.main_arg5) (ix2 r ⟨6144 + j.val, by omega⟩) := by
  have h1 := congrFun (h c) (ix2 r j)
  unfold Cert.Pre_gate_above_minus_infinity.fn at h1
  generalize m ((c : Thread Cert.ScanIdeal.nD Cert.ScanIdeal.τ).loc Cert.ScanIdeal.main_arg5) = a at *
  revert h1
  pointwise
  intro h1
  refine lt_of_le_of_lt bot_le (b := Ideal.ofBits .f32 0xFF800000#32) ?_
  by_contra hn
  rw [decide_eq_false hn] at h1
  exact absurd h1 (by decide)

/-- The reference's result is the scan's output of its arguments, with its own gate. -/
theorem ref_result (m : (ℓ : Loc Cert.ScanRefIdeal.nD Cert.ScanRefIdeal.τ Cert.ScanRefIdeal.sig) → Buf (Elt Ideal) ℓ) (c : Dev Cert.ScanRefIdeal.nD) :
    Cert.ScanRefIdeal.Value.out_main_v47 (Cert.ScanRefIdeal.Value.STEP^[64] (Idealize.ShloMosaic.StableHlo.entryContents Cert.ScanRefIdeal.Value.preI m c))
    = res (m ((c : Thread Cert.ScanRefIdeal.nD Cert.ScanRefIdeal.τ).loc Cert.ScanRefIdeal.main_arg0))
        (m ((c : Thread Cert.ScanRefIdeal.nD Cert.ScanRefIdeal.τ).loc Cert.ScanRefIdeal.main_arg1))
        (m ((c : Thread Cert.ScanRefIdeal.nD Cert.ScanRefIdeal.τ).loc Cert.ScanRefIdeal.main_arg2))
        (m ((c : Thread Cert.ScanRefIdeal.nD Cert.ScanRefIdeal.τ).loc Cert.ScanRefIdeal.main_arg3))
        (m ((c : Thread Cert.ScanRefIdeal.nD Cert.ScanRefIdeal.τ).loc Cert.ScanRefIdeal.main_arg4))
        (m ((c : Thread Cert.ScanRefIdeal.nD Cert.ScanRefIdeal.τ).loc Cert.ScanRefIdeal.main_arg5))
        (m ((c : Thread Cert.ScanRefIdeal.nD Cert.ScanRefIdeal.τ).loc Cert.ScanRefIdeal.main_arg6)) silu := by
  have h5 := Cert.ScanRefIdeal.Value.iter_main_arg5 m c 64
  have h6 := Cert.ScanRefIdeal.Value.iter_main_arg6 m c 64
  have hc := (iter_carried m c 64).1
  generalize Cert.ScanRefIdeal.Value.STEP^[64] (Idealize.ShloMosaic.StableHlo.entryContents Cert.ScanRefIdeal.Value.preI m c) = V at *
  have e : Cert.ScanRefIdeal.Value.out_main_v47 V = Cert.ScanRefIdeal.Step.R_main_v47 (F := Ideal) (carried V)
      (V (Proc.devRef .tc Cert.ScanRefIdeal.main_arg5)) (V (Proc.devRef .tc Cert.ScanRefIdeal.main_arg6)) := by
    unfold Cert.ScanRefIdeal.Value.out_main_v47 Cert.ScanRefIdeal.Step.R_main_v47 carried
    rfl
  rw [e, h5, h6, hc]
  funext i
  exact tail_apply (trips m c 64) _ _ _ _ _ _ _ (fun k b h r e => (holds_trips m c 64 le_rfl).out k b h r e k.isLt) i

/-- The kernel's result is the reference's, where the gate's argument is above minus infinity. -/
theorem equal [hP : Cert.Pre_gate_above_minus_infinity.Facts] : Cert.algebraic_ScanIdeal_ScanRefIdeal_pre_gate_above_minus_infinity := by
  intro m ρ m' ρ' hp hag
  refine ⟨fun c => out m c, (θ_run _ _ _).mono (fun r h c => h c) (run_out m ρ), ?_⟩
  refine (θ_run _ _ _).mono (fun r h c => ⟨(h c).1.trans ?_, (h c).2⟩) (Cert.ScanRefIdeal.Value.run m' ρ')
  obtain ⟨h0, h1, h2, h3, h4, h5, h6⟩ := hag c
  refine (ref_result m' c).trans ?_
  rw [h0, h1, h2, h3, h4, h5, h6]
  funext i
  unfold out res outAt
  refine congrArg (fun t => _ * t) (halfGate_eq _ ?_).symm
  have b0 : (i 0).val < 2 := (i 0).isLt
  have b1 : (i 1).val < 4096 := (i 1).isLt
  have b2 : (i 2).val < 1024 := (i 2).isLt
  exact gate_above m hp c ⟨4096 * (i 0).val + (i 1).val, by omega⟩ ⟨128 * ((i 2).val / 128) + (i 2).val % 128, by omega⟩

/-- The reference runs and leaves its arguments as they were. -/
theorem frame_reference : Cert.quiescent_ScanRefIdeal := by
  intro m ρ _
  exact (θ_run _ _ _).mono (fun r h => ⟨fun c => (h c).2, sem_eq_zero_of_no_sems (by decide) r.2⟩) (Cert.ScanRefIdeal.Value.run m ρ)

/-- The same, under the precondition. -/
theorem frame_reference_pre [hP : Cert.Pre_gate_above_minus_infinity.Facts] : Cert.quiescent_ScanRefIdeal_pre_gate_above_minus_infinity :=
  fun m ρ _ => frame_reference m ρ trivial

/-- The kernel runs and leaves its arguments as they were, under the precondition. -/
theorem frame_ideal_pre [hP : Cert.Pre_gate_above_minus_infinity.Facts] : Cert.quiescent_ScanIdeal_pre_gate_above_minus_infinity :=
  fun m ρ _ => frame_ideal m ρ trivial

end Cert.ScanProof

end
-- ==== Proof.In.Ring.lean ====
module

public import proofs.«01_k».proof.Proof.Gen.InIdeal.Frame
public import Idealize.ShloMosaic.Lib.Ring

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

/-! The weight stays in main memory; the body copies it, a tile of 1024 rows at a time, into one of three slots. -/

/-- The three slots, the weight, and the scratch that keeps the normalised rows. -/
abbrev slotsM : Memref sig .tc .vmem S3x1024x2048 .f32 := Memref.whole cc0_scratch1
abbrev weightM : Memref sig .tc .hbm S7184x2048 .f32 := Memref.whole main_v0
abbrev rowsM : Memref sig .tc .vmem S1024x2048 .bf16 := Memref.whole cc0_scratch0

theorem slot_fits (s : Fin 3) : ∀ a, (![s.val, 0, 0] : Fin 3 → Nat) a + S1x1024x2048.size a ≤ S3x1024x2048.size a := by
  have := s.isLt
  intro a; fin_cases a
  · show s.val + 1 ≤ 3; omega
  · exact Nat.le_refl _
  · exact Nat.le_refl _
theorem tile_fits (b : Fin 56) : ∀ a, (![1024 * (b.val % 7), 0] : Fin 2 → Nat) a + S1024x2048.size a ≤ S7184x2048.size a := by
  intro a; fin_cases a
  · show 1024 * (b.val % 7) + 1024 ≤ 7184; omega
  · exact Nat.le_refl _
theorem cell_fits (s : Fin 3) : ∀ a, (![s.val] : Fin 1 → Nat) a + S1.size a ≤ S3.size a := by
  have := s.isLt
  intro a; fin_cases a
  show s.val + 1 ≤ 3; omega

/-- Slot `s`, the tile that step `b` takes, and the counter of slot `s`. -/
def slot (s : Fin 3) : Memref sig .tc .vmem S1024x2048 .f32 :=
  (slotsM.slice (Rect.unit (s := S3x1024x2048) ![s.val, 0, 0] S1x1024x2048.size (slot_fits s)) (fun _ => rfl)).squeeze S1024x2048 squeezes_S1x1024x2048_S1024x2048
def tile (b : Fin 56) : Memref sig .tc .hbm S1024x2048 .f32 :=
  weightM.slice (Rect.unit (s := S7184x2048) ![1024 * (b.val % 7), 0] S1024x2048.size (tile_fits b)) (fun _ => rfl)
def cellOf (s : Fin 3) : DmaSems sig S_ := (cc0_scratch2.slice (Rect.unit (s := S3) ![s.val] S1.size (cell_fits s))).squeeze S_ squeezes_S1_S_
abbrev cellAt (s : Fin 3) : SemLoc sig := SemLoc.dma (cellOf s).sem

section Names
omit [FloatOps F]

/-- A slice of the slots at slot `s`'s place is slot `s`; the same for tiles and counters. -/
theorem slot_named {o : Fin 3 → Nat} {s : Fin 3} (e : o = ![s.val, 0, 0]) (h) :
    (slotsM.slice (Rect.unit (s := S3x1024x2048) o S1x1024x2048.size h) (fun _ => rfl)).squeeze S1024x2048 squeezes_S1x1024x2048_S1024x2048 = slot s := by
  subst e; rfl
theorem tile_named {o : Fin 2 → Nat} {b : Fin 56} (e : o = ![1024 * (b.val % 7), 0]) (h) :
    weightM.slice (Rect.unit (s := S7184x2048) o S1024x2048.size h) (fun _ => rfl) = tile b := by
  subst e; rfl
theorem cell_named {o : Fin 1 → Nat} {s : Fin 3} (e : o = ![s.val]) (h) :
    (cc0_scratch2.slice (Rect.unit (s := S3) o S1.size h)).squeeze S_ squeezes_S1_S_ = cellOf s := by
  subst e; rfl

set_option synthInstance.maxSize 4096 in
/-- Where the body's copies of a point go, whence they come, and which counters they use. -/
theorem places : ∀ t : Fin grid0.N,
    (k0_off2 (grid0.coords t) = ![(sl 3 t.val).val, 0, 0] ∧ k0_off5 (grid0.coords t) = ![(sl 3 (t.val + 1)).val, 0, 0]
      ∧ k0_off8 (grid0.coords t) = ![(sl 3 (t.val + 2)).val, 0, 0] ∧ k0_off11 (grid0.coords t) = ![(sl 3 t.val).val, 0, 0])
    ∧ (k0_off13 (grid0.coords t) = ![(sl 3 t.val).val, 0, 0] ∧ k0_off14 (grid0.coords t) = ![(sl 3 t.val).val, 0, 0]
      ∧ k0_off15 (grid0.coords t) = ![(sl 3 t.val).val, 0, 0])
    ∧ (k0_off1 (grid0.coords t) = ![(sl 3 t.val).val] ∧ k0_off4 (grid0.coords t) = ![(sl 3 (t.val + 1)).val]
      ∧ k0_off7 (grid0.coords t) = ![(sl 3 (t.val + 2)).val] ∧ k0_off10 (grid0.coords t) = ![(sl 3 t.val).val])
    ∧ k0_off3 (grid0.coords t) = ![1024 * ((bk 56 t.val).val % 7), 0] ∧ k0_off6 (grid0.coords t) = ![1024 * ((bk 56 (t.val + 1)).val % 7), 0]
      ∧ k0_off9 (grid0.coords t) = ![1024 * ((bk 56 (t.val + 2)).val % 7), 0] := by decide +kernel

variable (t : Fin grid0.N)

@[sl_canon] theorem slot_n2 (h : k0_cond1 (grid0.coords t) = 1#1) : (slotsM.slice (Rect.unit (s := S3x1024x2048) (k0_off2 (grid0.coords t)) S1x1024x2048.size (k0_off2_inb (grid0.coords t) h)) (fun _ => rfl)).squeeze S1024x2048 squeezes_S1x1024x2048_S1024x2048 = slot (sl 3 t.val) :=
  slot_named (places t).1.1 _
@[sl_canon] theorem slot_n5 (h : k0_cond1 (grid0.coords t) = 1#1) : (slotsM.slice (Rect.unit (s := S3x1024x2048) (k0_off5 (grid0.coords t)) S1x1024x2048.size (k0_off5_inb (grid0.coords t) h)) (fun _ => rfl)).squeeze S1024x2048 squeezes_S1x1024x2048_S1024x2048 = slot (sl 3 (t.val + 1)) :=
  slot_named (places t).1.2.1 _
@[sl_canon] theorem slot_n8 (h : k0_cond2 (grid0.coords t) = 1#1) : (slotsM.slice (Rect.unit (s := S3x1024x2048) (k0_off8 (grid0.coords t)) S1x1024x2048.size (k0_off8_inb (grid0.coords t) h)) (fun _ => rfl)).squeeze S1024x2048 squeezes_S1x1024x2048_S1024x2048 = slot (sl 3 (t.val + 2)) :=
  slot_named (places t).1.2.2.1 _
@[sl_canon] theorem slot_n11 : (slotsM.slice (Rect.unit (s := S3x1024x2048) (k0_off11 (grid0.coords t)) S1x1024x2048.size (k0_off11_inb (grid0.coords t))) (fun _ => rfl)).squeeze S1024x2048 squeezes_S1x1024x2048_S1024x2048 = slot (sl 3 t.val) :=
  slot_named (places t).1.2.2.2 _
@[sl_canon] theorem slot_n13 (h : k0_cond3 (grid0.coords t) = 1#1) : (slotsM.slice (Rect.unit (s := S3x1024x2048) (k0_off13 (grid0.coords t)) S1x1024x2048.size (k0_off13_inb (grid0.coords t) h)) (fun _ => rfl)).squeeze S1024x2048 squeezes_S1x1024x2048_S1024x2048 = slot (sl 3 t.val) :=
  slot_named (places t).2.1.1 _
@[sl_canon] theorem slot_n14 (h : k0_cond4 (grid0.coords t) = 1#1) : (slotsM.slice (Rect.unit (s := S3x1024x2048) (k0_off14 (grid0.coords t)) S1x1024x2048.size (k0_off14_inb (grid0.coords t) h)) (fun _ => rfl)).squeeze S1024x2048 squeezes_S1x1024x2048_S1024x2048 = slot (sl 3 t.val) :=
  slot_named (places t).2.1.2.1 _
@[sl_canon] theorem slot_n15 (h : k0_cond5 (grid0.coords t) = 1#1) : (slotsM.slice (Rect.unit (s := S3x1024x2048) (k0_off15 (grid0.coords t)) S1x1024x2048.size (k0_off15_inb (grid0.coords t) h)) (fun _ => rfl)).squeeze S1024x2048 squeezes_S1x1024x2048_S1024x2048 = slot (sl 3 t.val) :=
  slot_named (places t).2.1.2.2 _
@[sl_canon] theorem cell_n1 (h : k0_cond1 (grid0.coords t) = 1#1) : (cc0_scratch2.slice (Rect.unit (s := S3) (k0_off1 (grid0.coords t)) S1.size (k0_off1_inb (grid0.coords t) h))).squeeze S_ squeezes_S1_S_ = cellOf (sl 3 t.val) :=
  cell_named (places t).2.2.1.1 _
@[sl_canon] theorem cell_n4 (h : k0_cond1 (grid0.coords t) = 1#1) : (cc0_scratch2.slice (Rect.unit (s := S3) (k0_off4 (grid0.coords t)) S1.size (k0_off4_inb (grid0.coords t) h))).squeeze S_ squeezes_S1_S_ = cellOf (sl 3 (t.val + 1)) :=
  cell_named (places t).2.2.1.2.1 _
@[sl_canon] theorem cell_n7 (h : k0_cond2 (grid0.coords t) = 1#1) : (cc0_scratch2.slice (Rect.unit (s := S3) (k0_off7 (grid0.coords t)) S1.size (k0_off7_inb (grid0.coords t) h))).squeeze S_ squeezes_S1_S_ = cellOf (sl 3 (t.val + 2)) :=
  cell_named (places t).2.2.1.2.2.1 _
@[sl_canon] theorem cell_n10 : (cc0_scratch2.slice (Rect.unit (s := S3) (k0_off10 (grid0.coords t)) S1.size (k0_off10_inb (grid0.coords t)))).squeeze S_ squeezes_S1_S_ = cellOf (sl 3 t.val) :=
  cell_named (places t).2.2.1.2.2.2 _
@[sl_canon] theorem tile_n3 (h : k0_cond1 (grid0.coords t) = 1#1) : weightM.slice (Rect.unit (s := S7184x2048) (k0_off3 (grid0.coords t)) S1024x2048.size (k0_off3_inb (grid0.coords t) h)) (fun _ => rfl) = tile (bk 56 t.val) :=
  tile_named (places t).2.2.2.1 _
@[sl_canon] theorem tile_n6 (h : k0_cond1 (grid0.coords t) = 1#1) : weightM.slice (Rect.unit (s := S7184x2048) (k0_off6 (grid0.coords t)) S1024x2048.size (k0_off6_inb (grid0.coords t) h)) (fun _ => rfl) = tile (bk 56 (t.val + 1)) :=
  tile_named (places t).2.2.2.2.1 _
@[sl_canon] theorem tile_n9 (h : k0_cond2 (grid0.coords t) = 1#1) : weightM.slice (Rect.unit (s := S7184x2048) (k0_off9 (grid0.coords t)) S1024x2048.size (k0_off9_inb (grid0.coords t) h)) (fun _ => rfl) = tile (bk 56 (t.val + 2)) :=
  tile_named (places t).2.2.2.2.2 _

end Names

/-- What a memref's buffer holds, and the buffer held whole. -/
abbrev Holds (c : Dev nD) {sp : Space} {S : Shape} {e : EltTy} (M : Memref sig .tc sp S e) : Type := Buf (Elt F) (M.view.loc (c : Thread nD τ))

section Pieces
variable (c : Dev nD) (W : Holds (F := F) c weightM)

/-- The share of the weight that slot `s` borrows from. -/
abbrev part (s : Fin 3) : PosShare TreeShare := if s.val = 0 then fullShare.left else if s.val = 1 then fullShare.right.left else fullShare.right.right
/-- The weight held whole. -/
abbrev weight : sProp 𝕄 := weightM.view.loc (c : Thread nD τ) ↦{fullShare} W
/-- Slot `s` at contents `f`; its counter at zero; its share of tile `b`, of the rest of the weight, and of the whole. -/
abbrev slotAtF (s : Fin 3) (f : Holds (F := F) c (slot s)) : sProp 𝕄 := (slot s).view.loc (c : Thread nD τ) ↦[(slot s).view.set]{fullShare} f
abbrev still (s : Fin 3) : sProp 𝕄 := semVal ((c : Thread nD τ), cellAt s) 0
abbrev lent (s : Fin 3) (b : Fin 56) : sProp 𝕄 := (tile b).view.loc (c : Thread nD τ) ↦[(tile b).view.set]{part s} W
def others (s : Fin 3) (b : Fin 56) : sProp 𝕄 := ((c : Thread nD τ).loc main_v0) ↦[Finset.univ \ (tile b).view.set]{part s} W
abbrev share (s : Fin 3) : sProp 𝕄 := ((c : Thread nD τ).loc main_v0) ↦[Finset.univ]{part s} W
/-- Slot `s` after tile `b` is copied into it; that copy on its way. -/
abbrev filled (s : Fin 3) (b : Fin 56) (f : Holds (F := F) c (slot s)) : Holds (F := F) c (slot s) :=
  (slot s).view.writes (Elt F) f [⟨Rect.whole S1024x2048, ReadAs.same.apply ((tile b).view.read (Elt F) W)⟩]
abbrev onItsWay (s : Fin 3) (b : Fin 56) (f : Holds (F := F) c (slot s)) : sProp 𝕄 :=
  Transfers.Flight countersEmb (c : Thread nD τ) (cellAt s) default ((slot s).view.amount (cellAt s))
    iprop(slotAtF c s (filled c W s b f) ∗ lent c W s b)
/-- A slot with its share of the weight; a copy on its way with the rest of the slot's share. -/
abbrev slotW (s : Fin 3) (f : Holds (F := F) c (slot s)) : sProp 𝕄 := iprop(slotAtF c s f ∗ share c W s)
abbrev flightW (s : Fin 3) (b : Fin 56) (f : Holds (F := F) c (slot s)) : sProp 𝕄 := iprop(onItsWay c W s b f ∗ others c W s b)
abbrev nothing (b : Fin 56) : sProp 𝕄 := iprop(emp)
/-- Slot `s` free to be filled; tile `b` on its way into it. -/
abbrev freeS (s : Fin 3) : sProp 𝕄 := Ring.free (still c) (slotW c W) s
abbrev comes (s : Fin 3) (b : Fin 56) : sProp 𝕄 := Ring.inflight (flightW c W) s b

instance : NeZero grid0.N := ⟨by rw [N_0]; decide⟩

/-- The slots before step `k`: all free at first, then two tiles on their way and one slot free. -/
def slotsAt (k : ℕ) : sProp 𝕄 :=
  if k = 0 then Ring.At₀ (still c) (slotW c W) nothing
  else Ring.At 2 (still c) (slotW c W) nothing (flightW c W) k

/-- A slot's share of the weight is its share of a tile and of the rest. -/
theorem share_split (s : Fin 3) (b : Fin 56) : share c W s ⊣⊢ iprop(lent c W s b ∗ others c W s b) := by
  unfold others; exact pointsTo_split_subset (Finset.subset_univ _)

/-- The weight is the three slots' shares of it. -/
theorem weight_split : weight c W ⊢ iprop(share c W 0 ∗ share c W 1 ∗ share c W 2) := by
  iintro H
  ihave Ha := (pointsTo_share (PosShare.mem_left_op_right fullShare)).1 $$ H
  icases Ha with ⟨H0, Hb⟩
  ihave Hc := (pointsTo_share (PosShare.mem_left_op_right fullShare.right)).1 $$ Hb
  icases Hc with ⟨H1, H2⟩
  isplitl [H0]; · iexact H0
  isplitl [H1]; · iexact H1
  iexact H2
theorem weight_join : iprop(share c W 0 ∗ share c W 1 ∗ share c W 2) ⊢ weight c W := by
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

end Pieces

/-- The places of slot `s` in the scratch: apart from each other, and all of it together. -/
abbrev slotSet (s : Fin 3) : Finset S3x1024x2048.Idx := (Rect.unit (s := S3x1024x2048) ![s.val, 0, 0] S1x1024x2048.size (slot_fits s)).set
theorem slot_set (s : Fin 3) : (slot s).view.set = slotSet s := by
  simp only [slot, Memref.view_squeeze, View.set_reshape]; exact View.set_slice_whole _ _
theorem slots_apart (s s' : Fin 3) (h : s ≠ s') : Disjoint (slotSet s) (slotSet s') :=
  Ring.lead_disjoint (s := S3x1024x2048) (0 : Fin 3) 1 (fun s : Fin 3 => (![s.val, 0, 0] : Fin 3 → Nat)) S1x1024x2048.size slot_fits (fun s => by simp) rfl s s' h
theorem slots_all : Finset.univ.biUnion slotSet = Finset.univ :=
  Ring.lead_cover (s := S3x1024x2048) (0 : Fin 3) 1 (fun s : Fin 3 => (![s.val, 0, 0] : Fin 3 → Nat)) S1x1024x2048.size slot_fits (fun s => by simp)
    (fun s a ha => by fin_cases a <;> first | exact absurd rfl ha | rfl) rfl (fun a ha => by fin_cases a <;> first | exact absurd rfl ha | rfl) rfl

section Ends
variable (c : Dev nD) (W : Holds (F := F) c weightM)

theorem slot_eq (s : Fin 3) (f) : slotAtF (F := F) c s f = (((c : Thread nD τ).loc cc0_scratch1) ↦[slotSet s]{fullShare} f : sProp 𝕄) := by
  unfold slotAtF; rw [slot_set]; rfl
theorem cell_eq : (still (F := F) c 0 = semVal ((c : Thread nD τ), SemLoc.dma 14) 0) ∧ (still (F := F) c 1 = semVal ((c : Thread nD τ), SemLoc.dma 15) 0)
    ∧ (still (F := F) c 2 = semVal ((c : Thread nD τ), SemLoc.dma 16) 0) :=
  have h : cellAt 0 = SemLoc.dma 14 ∧ cellAt 1 = SemLoc.dma 15 ∧ cellAt 2 = SemLoc.dma 16 := by decide
  ⟨congrArg (fun x => (semVal ((c : Thread nD τ), x) 0 : sProp 𝕄)) h.1, congrArg (fun x => (semVal ((c : Thread nD τ), x) 0 : sProp 𝕄)) h.2.1,
    congrArg (fun x => (semVal ((c : Thread nD τ), x) 0 : sProp 𝕄)) h.2.2⟩

/-- What the launch hands over for the slots. -/
abbrev handed : sProp 𝕄 :=
  iprop((∃ d, owns (c : Thread nD τ) slotsM fullShare d)
    ∗ (semVal ((c : Thread nD τ), SemLoc.dma 14) 0 ∗ semVal ((c : Thread nD τ), SemLoc.dma 15) 0 ∗ semVal ((c : Thread nD τ), SemLoc.dma 16) 0)
    ∗ weight c W)

set_option maxHeartbeats 1000000 in
theorem slots_apart_in : iprop(∃ d, owns (c : Thread nD τ) slotsM fullShare d) ⊢ (iprop((∃ f, slotAtF (F := F) c 0 f) ∗ (∃ f, slotAtF (F := F) c 1 f) ∗ ∃ f, slotAtF (F := F) c 2 f) : sProp 𝕄) := by
  simp only [slotsM, owns_whole]
  exact Ring.slots3_split (U := Pipeline.UD sig nD τ) (ℓ := (c : Thread nD τ).loc cc0_scratch1) (q := fullShare) slotSet slots_apart slots_all
    (slotAtF c 0) (slotAtF c 1) (slotAtF c 2) (slot_eq c 0) (slot_eq c 1) (slot_eq c 2)
set_option maxHeartbeats 1000000 in
theorem slots_join_out : (iprop((∃ f, slotAtF (F := F) c 0 f) ∗ (∃ f, slotAtF (F := F) c 1 f) ∗ ∃ f, slotAtF (F := F) c 2 f) : sProp 𝕄) ⊢ iprop(∃ d, owns (c : Thread nD τ) slotsM fullShare d) := by
  simp only [slotsM, owns_whole]
  exact Ring.slots3_join (U := Pipeline.UD sig nD τ) (ℓ := (c : Thread nD τ).loc cc0_scratch1) (q := fullShare) slotSet slots_apart slots_all
    (slotAtF c 0) (slotAtF c 1) (slotAtF c 2) (slot_eq c 0) (slot_eq c 1) (slot_eq c 2)

/-- What is handed over makes the slots before the first step. -/
theorem slots_begin : handed c W ⊢ slotsAt c W 0 := by
  unfold slotsAt; rw [if_pos rfl]; unfold Ring.At₀
  rw [Ring.bigSep_fin3]
  unfold Ring.free
  rw [(cell_eq c).1, (cell_eq c).2.1, (cell_eq c).2.2]
  iintro ⟨HS, ⟨H0, H1, H2⟩, HW⟩
  iapply Ring.with_homes₀
  ihave HT := (slots_apart_in (F := F) c) $$ HS
  icases HT with ⟨⟨%a, HA⟩, ⟨%b, HB⟩, ⟨%d, HD⟩⟩
  ihave HV := (weight_split (F := F) c W) $$ HW
  icases HV with ⟨W0, W1, W2⟩
  isplitl [H0 HA W0]
  · isplitl [H0]; · iexact H0
    iexists a; isplitl [HA] <;> iassumption
  isplitl [H1 HB W1]
  · isplitl [H1]; · iexact H1
    iexists b; isplitl [HB] <;> iassumption
  isplitl [H2]; · iexact H2
  iexists d; isplitl [HD] <;> iassumption

/-- After the last step the slots give it all back. -/
theorem slots_end : slotsAt c W 56 ⊢ handed c W := by
  unfold slotsAt; rw [if_neg (by decide)]
  iintro H
  ihave H' := (Ring.free3_of_At_last _ _ _ _) $$ H
  unfold Ring.free
  rw [(cell_eq c).1, (cell_eq c).2.1, (cell_eq c).2.2]
  icases H' with ⟨-, ⟨H0, ⟨%a, HA, W0⟩⟩, ⟨H1, ⟨%b, HB, W1⟩⟩, ⟨H2, ⟨%d, HD, W2⟩⟩⟩
  isplitl [HA HB HD]
  · iapply (slots_join_out (F := F) c)
    isplitl [HA]; · iexists a; iexact HA
    isplitl [HB]; · iexists b; iexact HB
    iexists d; iexact HD
  isplitl [H0 H1 H2]
  · isplitl [H0]; · iexact H0
    isplitl [H1] <;> iassumption
  iapply (weight_join (F := F) c W)
  isplitl [W0]; · iexact W0
  isplitl [W1] <;> iassumption

end Ends

end Cert.InProof

end
-- ==== Proof.In.Body.lean ====
module

public import proofs.«01_k».proof.Proof.In.Ring
public import proofs.«01_k».proof.Proof.Gen.InIdeal.Skeleton

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

/-- The seven read blocks, each held at its contents. -/
abbrev reads : sProp 𝕄 :=
  iprop(owns (c : Thread nD τ) arg2 fullShare x0 ∗ owns (c : Thread nD τ) arg3 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6)

/-- The body at step `t`. -/
abbrev body : Prog (TpuEff nD τ sig (Elt F) Λ₀ .tc) PUnit :=
  cc0_inproj (grid0.coords t) arg2 harg2 arg3 harg3 weightM (Memref.isWhole_whole _) arg5 harg5 arg6 harg6 arg7 harg7 arg8 harg8 arg9 harg9
    arg10 harg10 arg11 harg11 arg12 harg12 slotsM (Memref.isWhole_whole _) cc0_scratch2

/-- A memref whose pieces `L` were written over anything. -/
abbrev wrote {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

/-- What a slot held before a tile filled it does not matter. -/
theorem whole_any (M : Memref sig .tc .vmem S1024x2048 .f32) (f g : Holds (F := F) c M) (p : S1024x2048.Idx → Elt F .f32) :
    (M.view.loc (c : Thread nD τ) ↦[M.view.set]{fullShare} M.view.writes (Elt F) f [⟨Rect.whole S1024x2048, p⟩] : sProp 𝕄)
      = M.view.loc (c : Thread nD τ) ↦[M.view.set]{fullShare} M.view.writes (Elt F) g [⟨Rect.whole S1024x2048, p⟩] :=
  Ring.pointsTo_whole_rebase (c := (c : Thread nD τ)) M f g p fullShare

theorem slotAtF_filled (s : Fin 3) (b : Fin 56) (f g : Holds (F := F) c (slot s)) :
    slotAtF c s (filled c W s b f) = slotAtF c s (filled c W s b g) :=
  whole_any c (slot s) f g (ReadAs.same.apply ((tile b).view.read (Elt F) W))

theorem onItsWay_any (s : Fin 3) (b : Fin 56) (f g : Holds (F := F) c (slot s)) :
    onItsWay c W s b f = onItsWay c W s b g := by
  unfold onItsWay; rw [slotAtF_filled c W s b f g]

/-- Contents of slot `s` of which nothing is known. -/
abbrev stale (s : Fin 3) : Holds (F := F) c (slot s) := (slot s).view.junk

end Cert.InProof

end
-- ==== Proof.In.RunFirst.lean ====
module

public import proofs.«01_k».proof.Proof.In.Body

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

set_option maxHeartbeats 1000000 in
/-- What the body stores at the first step, where all three tiles are asked for, with the proof that it runs so. -/
def firstRun (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) :
    Σ' (L : List (View.Piece (Elt F) S1024x1024 .bf16)) (G : List (View.Piece (Elt F) S1024x128 .f32)), { R : List (View.Piece (Elt F) S1024x2048 .bf16) //
      ∀ (V : Waits sig Unit) (K : PUnit → sProp 𝕄),
        iprop(reads c arg2 arg3 arg5 arg6 arg7 arg8 arg9 x0 x1 x2 x3 x4 x5 x6 ∗ (∃ d, owns (c : Thread nD τ) arg10 fullShare d) ∗ (∃ d, owns (c : Thread nD τ) arg11 fullShare d) ∗ (∃ d, owns (c : Thread nD τ) arg12 fullShare d)
            ∗ freeS c W (sl 3 (t.val)) ∗ freeS c W (sl 3 (t.val + 1)) ∗ freeS c W (sl 3 (t.val + 2)) ∗ owes (c : Thread nD τ) 0 V
            ∗ (iprop(reads c arg2 arg3 arg5 arg6 arg7 arg8 arg9 x0 x1 x2 x3 x4 x5 x6 ∗ wrote c arg10 L ∗ wrote c arg11 G ∗ wrote c arg12 R
                ∗ comes c W (sl 3 (t.val + 1)) (bk 56 (t.val + 1)) ∗ comes c W (sl 3 (t.val + 2)) (bk 56 (t.val + 2)) ∗ freeS c W (sl 3 (t.val)) ∗ (∃ V', owes (c : Thread nD τ) 0 V')) -∗ K ⟨⟩))
          ⊢ wp frame (wpE (defs₀ (F := F)) Variants.none c none) Set.univ
              (body t arg2 harg2 arg3 harg3 arg5 harg5 arg6 harg6 arg7 harg7 arg8 harg8 arg9 harg9 arg10 harg10 arg11 harg11 arg12 harg12) K } := by
  refine ⟨?_, ?_, ?_, fun V K => ?run⟩
  case run =>
    simp only [body, cc0_inproj_eq_skeleton]; unfold cc0_inproj_skel
    simp only [k0_part9_eq_skeleton, k0_part1_eq_skeleton, k0_part2_eq_skeleton, k0_part3_eq_skeleton, k0_part4_eq_skeleton, k0_part5_eq_skeleton]
    unfold reads owns freeS comes Ring.free Ring.inflight
    iintro ⟨⟨⟨%f2, %e2, H2⟩, ⟨%f3, %e3, H3⟩, ⟨%f5, %e5, H5⟩, ⟨%f6, %e6, H6⟩, ⟨%f7, %e7, H7⟩, ⟨%f8, %e8, H8⟩, ⟨%f9, %e9, H9⟩⟩, ⟨%d10, %f10, -, H10⟩, ⟨%d11, %f11, -, H11⟩, ⟨%d12, %f12, -, H12⟩, ⟨Ce0, ⟨%g0, Sl0, Sh0⟩⟩, ⟨Ce1, ⟨%g1, Sl1, Sh1⟩⟩, ⟨Ce2, ⟨%g2, Sl2, Sh2⟩⟩, HV, Hk⟩
    ihave Sp0 := (share_split c W (sl 3 (t.val)) (bk 56 (t.val))).1 $$ Sh0
    icases Sp0 with ⟨Le0, Rest0⟩
    ihave Sp1 := (share_split c W (sl 3 (t.val + 1)) (bk 56 (t.val + 1))).1 $$ Sh1
    icases Sp1 with ⟨Le1, Rest1⟩
    ihave Sp2 := (share_split c W (sl 3 (t.val + 2)) (bk 56 (t.val + 2))).1 $$ Sh2
    icases Sp2 with ⟨Le2, Rest2⟩
    obtain rfl := harg2.eq_unread e2; obtain rfl := harg3.eq_unread e3; obtain rfl := harg5.eq_unread e5; obtain rfl := harg6.eq_unread e6; obtain rfl := harg7.eq_unread e7; obtain rfl := harg8.eq_unread e8; obtain rfl := harg9.eq_unread e9
    have hcanon0 := slot_n2 t h1
    have hcanon1 := slot_n5 t h1
    have hcanon2 := slot_n8 t h2
    have hcanon3 := slot_n11 t
    have hcanon4 := slot_n13 t h3
    have hcanon5 := cell_n1 t h1
    have hcanon6 := cell_n4 t h1
    have hcanon7 := cell_n7 t h2
    have hcanon8 := cell_n10 t
    have hcanon9 := tile_n3 t h1
    have hcanon10 := tile_n6 t h1
    have hcanon11 := tile_n9 t h2
    sl_exec (disch := first | sl_exact h1 | sl_exact h2 | sl_exact h3 | sl_exact h4 | sl_exact h5)
    sl_step
    iapply Hk
    isplitl [H2 H3 H5 H6 H7 H8 H9]
    · isplitl [H2]
      · iexists _; isplitr; · ipureintro; exact harg2.read_unread _
        iexact H2
      isplitl [H3]
      · iexists _; isplitr; · ipureintro; exact harg3.read_unread _
        iexact H3
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]; · iexists _; iexact H11
    isplitl [H12]; · iexists _; iexact H12
    isplitl [Ce1 Rest1]
    · iexists _; isplitl [Ce1]; · iexact Ce1
      iexact Rest1
    isplitl [Ce2 Rest2]
    · iexists _; isplitl [Ce2]; · iexact Ce2
      iexact Rest2
    isplitl [Ce0 Sl0 Le0 Rest0]
    · isplitl [Ce0]; · iexact Ce0
      iexists _; isplitl [Sl0]; · iexact Sl0
      iapply (share_split c W (sl 3 (t.val)) (bk 56 (t.val))).2; isplitl [Le0]; · iexact Le0
      iexact Rest0
    iexists _; iexact HV

end Cert.InProof

end
-- ==== Proof.In.RunSecond.lean ====
module

public import proofs.«01_k».proof.Proof.In.Body

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

set_option maxHeartbeats 1000000 in
/-- What the body stores at the second step of a row block, with the proof that it runs so. -/
def secondRun (h1 : ¬ k0_cond1 (grid0.coords t) = 1#1) (h2 : k0_cond2 (grid0.coords t) = 1#1) (h3 : ¬ k0_cond3 (grid0.coords t) = 1#1) (h4 : k0_cond4 (grid0.coords t) = 1#1) (h5 : ¬ k0_cond5 (grid0.coords t) = 1#1) (y : Vec F S1024x2048 .bf16) :
    { L : List (View.Piece (Elt F) S1024x1024 .bf16) //
      ∀ (z : Vec F S1024x128 .f32) (V : Waits sig Unit) (K : PUnit → sProp 𝕄),
        iprop(reads c arg2 arg3 arg5 arg6 arg7 arg8 arg9 x0 x1 x2 x3 x4 x5 x6 ∗ (∃ d, owns (c : Thread nD τ) arg10 fullShare d) ∗ owns (c : Thread nD τ) arg11 fullShare z ∗ owns (c : Thread nD τ) arg12 fullShare y
            ∗ comes c W (sl 3 (t.val)) (bk 56 (t.val)) ∗ comes c W (sl 3 (t.val + 1)) (bk 56 (t.val + 1)) ∗ freeS c W (sl 3 (t.val + 2)) ∗ owes (c : Thread nD τ) 0 V
            ∗ (iprop(reads c arg2 arg3 arg5 arg6 arg7 arg8 arg9 x0 x1 x2 x3 x4 x5 x6 ∗ wrote c arg10 L ∗ owns (c : Thread nD τ) arg11 fullShare z ∗ owns (c : Thread nD τ) arg12 fullShare y
                ∗ comes c W (sl 3 (t.val + 1)) (bk 56 (t.val + 1)) ∗ comes c W (sl 3 (t.val + 2)) (bk 56 (t.val + 2)) ∗ freeS c W (sl 3 (t.val)) ∗ (∃ V', owes (c : Thread nD τ) 0 V')) -∗ K ⟨⟩))
          ⊢ wp frame (wpE (defs₀ (F := F)) Variants.none c none) Set.univ
              (body t arg2 harg2 arg3 harg3 arg5 harg5 arg6 harg6 arg7 harg7 arg8 harg8 arg9 harg9 arg10 harg10 arg11 harg11 arg12 harg12) K } := by
  refine ⟨?_, fun z V K => ?run⟩
  case run =>
    simp only [body, cc0_inproj_eq_skeleton]; unfold cc0_inproj_skel
    simp only [k0_part9_eq_skeleton, k0_part6_eq_skeleton, k0_part7_eq_skeleton, k0_part8_eq_skeleton]
    unfold reads owns freeS comes Ring.free Ring.inflight
    iintro ⟨⟨⟨%f2, %e2, H2⟩, ⟨%f3, %e3, H3⟩, ⟨%f5, %e5, H5⟩, ⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, ⟨%g0, Fl0, Rest0⟩, ⟨%g1, Fl1, Rest1⟩, ⟨Ce2, ⟨%g2, Sl2, Sh2⟩⟩, HV, Hk⟩
    ihave Fl := (BIBase.Entails.of_eq (onItsWay_any c W (sl 3 (t.val)) (bk 56 (t.val)) g0 (stale c (sl 3 (t.val))))) $$ Fl0
    ihave Sp2 := (share_split c W (sl 3 (t.val + 2)) (bk 56 (t.val + 2))).1 $$ Sh2
    icases Sp2 with ⟨Le2, Rest2⟩
    obtain rfl := harg2.eq_unread e2; obtain rfl := harg3.eq_unread e3; obtain rfl := harg5.eq_unread e5; obtain rfl := harg6.eq_unread e6; obtain rfl := harg7.eq_unread e7; obtain rfl := harg8.eq_unread e8; obtain rfl := harg9.eq_unread e9; obtain rfl := harg11.eq_unread e11; obtain rfl := harg12.eq_unread e12
    have hcanon0 := slot_n8 t h2
    have hcanon1 := slot_n11 t
    have hcanon2 := slot_n14 t h4
    have hcanon3 := cell_n7 t h2
    have hcanon4 := cell_n10 t
    have hcanon5 := tile_n9 t h2
    sl_exec (disch := first | sl_exact h1 | sl_exact h2 | sl_exact h3 | sl_exact h4 | sl_exact h5)
    sl_step
    iapply Hk
    isplitl [H2 H3 H5 H6 H7 H8 H9]
    · isplitl [H2]
      · iexists _; isplitr; · ipureintro; exact harg2.read_unread _
        iexact H2
      isplitl [H3]
      · iexists _; isplitr; · ipureintro; exact harg3.read_unread _
        iexact H3
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]
    · iexists _; isplitr; · ipureintro; exact harg11.read_unread _
      iexact H11
    isplitl [H12]
    · iexists _; isplitr; · ipureintro; exact harg12.read_unread _
      iexact H12
    isplitl [Fl1 Rest1]
    · iexists _; isplitl [Fl1]; · iexact Fl1
      iexact Rest1
    isplitl [Ce2 Rest2]
    · iexists _; isplitl [Ce2]; · iexact Ce2
      iexact Rest2
    isplitl [Fl Fl_dst Fl_src Rest0]
    · isplitl [Fl]; · iexact Fl
      iexists _; isplitl [Fl_dst]; · iexact Fl_dst
      iapply (share_split c W (sl 3 (t.val)) (bk 56 (t.val))).2; isplitl [Fl_src]; · iexact Fl_src
      iexact Rest0
    iexists _; iexact HV

end Cert.InProof

end
-- ==== Proof.In.RunLater.lean ====
module

public import proofs.«01_k».proof.Proof.In.Body

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

set_option maxHeartbeats 1000000 in
/-- What the body stores at a later step of a row block, with the proof that it runs so. -/
def laterRun (h1 : ¬ k0_cond1 (grid0.coords t) = 1#1) (h2 : k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) :
    { L : List (View.Piece (Elt F) S1024x1024 .bf16) //
      ∀ (z : Vec F S1024x128 .f32) (V : Waits sig Unit) (K : PUnit → sProp 𝕄),
        iprop(reads c arg2 arg3 arg5 arg6 arg7 arg8 arg9 x0 x1 x2 x3 x4 x5 x6 ∗ (∃ d, owns (c : Thread nD τ) arg10 fullShare d) ∗ owns (c : Thread nD τ) arg11 fullShare z ∗ owns (c : Thread nD τ) arg12 fullShare y
            ∗ comes c W (sl 3 (t.val)) (bk 56 (t.val)) ∗ comes c W (sl 3 (t.val + 1)) (bk 56 (t.val + 1)) ∗ freeS c W (sl 3 (t.val + 2)) ∗ owes (c : Thread nD τ) 0 V
            ∗ (iprop(reads c arg2 arg3 arg5 arg6 arg7 arg8 arg9 x0 x1 x2 x3 x4 x5 x6 ∗ wrote c arg10 L ∗ owns (c : Thread nD τ) arg11 fullShare z ∗ owns (c : Thread nD τ) arg12 fullShare y
                ∗ comes c W (sl 3 (t.val + 1)) (bk 56 (t.val + 1)) ∗ comes c W (sl 3 (t.val + 2)) (bk 56 (t.val + 2)) ∗ freeS c W (sl 3 (t.val)) ∗ (∃ V', owes (c : Thread nD τ) 0 V')) -∗ K ⟨⟩))
          ⊢ wp frame (wpE (defs₀ (F := F)) Variants.none c none) Set.univ
              (body t arg2 harg2 arg3 harg3 arg5 harg5 arg6 harg6 arg7 harg7 arg8 harg8 arg9 harg9 arg10 harg10 arg11 harg11 arg12 harg12) K } := by
  refine ⟨?_, fun z V K => ?run⟩
  case run =>
    simp only [body, cc0_inproj_eq_skeleton]; unfold cc0_inproj_skel
    simp only [k0_part9_eq_skeleton]
    unfold reads owns freeS comes Ring.free Ring.inflight
    iintro ⟨⟨⟨%f2, %e2, H2⟩, ⟨%f3, %e3, H3⟩, ⟨%f5, %e5, H5⟩, ⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, ⟨%g0, Fl0, Rest0⟩, ⟨%g1, Fl1, Rest1⟩, ⟨Ce2, ⟨%g2, Sl2, Sh2⟩⟩, HV, Hk⟩
    ihave Fl := (BIBase.Entails.of_eq (onItsWay_any c W (sl 3 (t.val)) (bk 56 (t.val)) g0 (stale c (sl 3 (t.val))))) $$ Fl0
    ihave Sp2 := (share_split c W (sl 3 (t.val + 2)) (bk 56 (t.val + 2))).1 $$ Sh2
    icases Sp2 with ⟨Le2, Rest2⟩
    obtain rfl := harg2.eq_unread e2; obtain rfl := harg3.eq_unread e3; obtain rfl := harg5.eq_unread e5; obtain rfl := harg6.eq_unread e6; obtain rfl := harg7.eq_unread e7; obtain rfl := harg8.eq_unread e8; obtain rfl := harg9.eq_unread e9; obtain rfl := harg11.eq_unread e11; obtain rfl := harg12.eq_unread e12
    have hcanon0 := slot_n8 t h2
    have hcanon1 := slot_n11 t
    have hcanon2 := slot_n15 t h5
    have hcanon3 := cell_n7 t h2
    have hcanon4 := cell_n10 t
    have hcanon5 := tile_n9 t h2
    sl_exec (disch := first | sl_exact h1 | sl_exact h2 | sl_exact h3 | sl_exact h4 | sl_exact h5)
    sl_step
    iapply Hk
    isplitl [H2 H3 H5 H6 H7 H8 H9]
    · isplitl [H2]
      · iexists _; isplitr; · ipureintro; exact harg2.read_unread _
        iexact H2
      isplitl [H3]
      · iexists _; isplitr; · ipureintro; exact harg3.read_unread _
        iexact H3
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]
    · iexists _; isplitr; · ipureintro; exact harg11.read_unread _
      iexact H11
    isplitl [H12]
    · iexists _; isplitr; · ipureintro; exact harg12.read_unread _
      iexact H12
    isplitl [Fl1 Rest1]
    · iexists _; isplitl [Fl1]; · iexact Fl1
      iexact Rest1
    isplitl [Ce2 Rest2]
    · iexists _; isplitl [Ce2]; · iexact Ce2
      iexact Rest2
    isplitl [Fl Fl_dst Fl_src Rest0]
    · isplitl [Fl]; · iexact Fl
      iexists _; isplitl [Fl_dst]; · iexact Fl_dst
      iapply (share_split c W (sl 3 (t.val)) (bk 56 (t.val))).2; isplitl [Fl_src]; · iexact Fl_src
      iexact Rest0
    iexists _; iexact HV

end Cert.InProof

end
-- ==== Proof.In.RunRows.lean ====
module

public import proofs.«01_k».proof.Proof.In.Body

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

set_option maxHeartbeats 1000000 in
/-- What the body stores at the first step of a later row block, with the proof that it runs so. -/
def newRowsRun (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) :
    Σ' (L : List (View.Piece (Elt F) S1024x1024 .bf16)) (G : List (View.Piece (Elt F) S1024x128 .f32)), { R : List (View.Piece (Elt F) S1024x2048 .bf16) //
      ∀ (V : Waits sig Unit) (K : PUnit → sProp 𝕄),
        iprop(reads c arg2 arg3 arg5 arg6 arg7 arg8 arg9 x0 x1 x2 x3 x4 x5 x6 ∗ (∃ d, owns (c : Thread nD τ) arg10 fullShare d) ∗ (∃ d, owns (c : Thread nD τ) arg11 fullShare d) ∗ (∃ d, owns (c : Thread nD τ) arg12 fullShare d)
            ∗ comes c W (sl 3 (t.val)) (bk 56 (t.val)) ∗ comes c W (sl 3 (t.val + 1)) (bk 56 (t.val + 1)) ∗ freeS c W (sl 3 (t.val + 2)) ∗ owes (c : Thread nD τ) 0 V
            ∗ (iprop(reads c arg2 arg3 arg5 arg6 arg7 arg8 arg9 x0 x1 x2 x3 x4 x5 x6 ∗ wrote c arg10 L ∗ wrote c arg11 G ∗ wrote c arg12 R
                ∗ comes c W (sl 3 (t.val + 1)) (bk 56 (t.val + 1)) ∗ comes c W (sl 3 (t.val + 2)) (bk 56 (t.val + 2)) ∗ freeS c W (sl 3 (t.val)) ∗ (∃ V', owes (c : Thread nD τ) 0 V')) -∗ K ⟨⟩))
          ⊢ wp frame (wpE (defs₀ (F := F)) Variants.none c none) Set.univ
              (body t arg2 harg2 arg3 harg3 arg5 harg5 arg6 harg6 arg7 harg7 arg8 harg8 arg9 harg9 arg10 harg10 arg11 harg11 arg12 harg12) K } := by
  refine ⟨?_, ?_, ?_, fun V K => ?run⟩
  case run =>
    simp only [body, cc0_inproj_eq_skeleton]; unfold cc0_inproj_skel
    simp only [k0_part9_eq_skeleton, k0_part2_eq_skeleton, k0_part3_eq_skeleton, k0_part4_eq_skeleton, k0_part5_eq_skeleton]
    unfold reads owns freeS comes Ring.free Ring.inflight
    iintro ⟨⟨⟨%f2, %e2, H2⟩, ⟨%f3, %e3, H3⟩, ⟨%f5, %e5, H5⟩, ⟨%f6, %e6, H6⟩, ⟨%f7, %e7, H7⟩, ⟨%f8, %e8, H8⟩, ⟨%f9, %e9, H9⟩⟩, ⟨%d10, %f10, -, H10⟩, ⟨%d11, %f11, -, H11⟩, ⟨%d12, %f12, -, H12⟩, ⟨%g0, Fl0, Rest0⟩, ⟨%g1, Fl1, Rest1⟩, ⟨Ce2, ⟨%g2, Sl2, Sh2⟩⟩, HV, Hk⟩
    ihave Fl := (BIBase.Entails.of_eq (onItsWay_any c W (sl 3 (t.val)) (bk 56 (t.val)) g0 (stale c (sl 3 (t.val))))) $$ Fl0
    ihave Sp2 := (share_split c W (sl 3 (t.val + 2)) (bk 56 (t.val + 2))).1 $$ Sh2
    icases Sp2 with ⟨Le2, Rest2⟩
    obtain rfl := harg2.eq_unread e2; obtain rfl := harg3.eq_unread e3; obtain rfl := harg5.eq_unread e5; obtain rfl := harg6.eq_unread e6; obtain rfl := harg7.eq_unread e7; obtain rfl := harg8.eq_unread e8; obtain rfl := harg9.eq_unread e9
    have hcanon0 := slot_n8 t h2
    have hcanon1 := slot_n11 t
    have hcanon2 := slot_n13 t h3
    have hcanon3 := cell_n7 t h2
    have hcanon4 := cell_n10 t
    have hcanon5 := tile_n9 t h2
    sl_exec (disch := first | sl_exact h1 | sl_exact h2 | sl_exact h3 | sl_exact h4 | sl_exact h5)
    sl_step
    iapply Hk
    isplitl [H2 H3 H5 H6 H7 H8 H9]
    · isplitl [H2]
      · iexists _; isplitr; · ipureintro; exact harg2.read_unread _
        iexact H2
      isplitl [H3]
      · iexists _; isplitr; · ipureintro; exact harg3.read_unread _
        iexact H3
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]; · iexists _; iexact H11
    isplitl [H12]; · iexists _; iexact H12
    isplitl [Fl1 Rest1]
    · iexists _; isplitl [Fl1]; · iexact Fl1
      iexact Rest1
    isplitl [Ce2 Rest2]
    · iexists _; isplitl [Ce2]; · iexact Ce2
      iexact Rest2
    isplitl [Fl Fl_dst Fl_src Rest0]
    · isplitl [Fl]; · iexact Fl
      iexists _; isplitl [Fl_dst]; · iexact Fl_dst
      iapply (share_split c W (sl 3 (t.val)) (bk 56 (t.val))).2; isplitl [Fl_src]; · iexact Fl_src
      iexact Rest0
    iexists _; iexact HV

end Cert.InProof

end
-- ==== Proof.In.RunLast.lean ====
module

public import proofs.«01_k».proof.Proof.In.Body

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F]

local notation "𝕄" => MT nD τ sig Unit (Elt F) ℕ (Pipeline.UD sig nD τ) ℕ

variable (c : Dev nD) (t : Fin cfg0.N)
  (arg2 : Memref sig .tc .vmem S1024x2048 .f32) (harg2 : arg2.IsWhole)
  (arg3 : Memref sig .tc .vmem S1x2048 .f32) (harg3 : arg3.IsWhole)
  (arg5 : Memref sig .tc .vmem S128x2048 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x1024 .bf16) (harg10 : arg10.IsWhole)
  (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x2048 .f32) (x2 : Vec F S128x2048 .bf16) (x3 : Vec F S1x128 .f32) (x4 : Vec F S1x128 .f32)
  (x5 : Vec F S1024x128 .f32) (x6 : Vec F S1024x128 .f32) (W : Holds (F := F) c weightM)

set_option maxHeartbeats 1000000 in
/-- What the body stores at the last two steps, where no tile is asked for, with the proof that it runs so. -/
def lastRun (h1 : ¬ k0_cond1 (grid0.coords t) = 1#1) (h2 : ¬ k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) :
    { L : List (View.Piece (Elt F) S1024x1024 .bf16) //
      ∀ (z : Vec F S1024x128 .f32) (V : Waits sig Unit) (K : PUnit → sProp 𝕄),
        iprop(reads c arg2 arg3 arg5 arg6 arg7 arg8 arg9 x0 x1 x2 x3 x4 x5 x6 ∗ (∃ d, owns (c : Thread nD τ) arg10 fullShare d) ∗ owns (c : Thread nD τ) arg11 fullShare z ∗ owns (c : Thread nD τ) arg12 fullShare y
            ∗ comes c W (sl 3 (t.val)) (bk 56 (t.val)) ∗ owes (c : Thread nD τ) 0 V
            ∗ (iprop(reads c arg2 arg3 arg5 arg6 arg7 arg8 arg9 x0 x1 x2 x3 x4 x5 x6 ∗ wrote c arg10 L ∗ owns (c : Thread nD τ) arg11 fullShare z ∗ owns (c : Thread nD τ) arg12 fullShare y
                ∗ freeS c W (sl 3 (t.val)) ∗ (∃ V', owes (c : Thread nD τ) 0 V')) -∗ K ⟨⟩))
          ⊢ wp frame (wpE (defs₀ (F := F)) Variants.none c none) Set.univ
              (body t arg2 harg2 arg3 harg3 arg5 harg5 arg6 harg6 arg7 harg7 arg8 harg8 arg9 harg9 arg10 harg10 arg11 harg11 arg12 harg12) K } := by
  refine ⟨?_, fun z V K => ?run⟩
  case run =>
    simp only [body, cc0_inproj_eq_skeleton]; unfold cc0_inproj_skel
    simp only [k0_part9_eq_skeleton]
    unfold reads owns freeS comes Ring.free Ring.inflight
    iintro ⟨⟨⟨%f2, %e2, H2⟩, ⟨%f3, %e3, H3⟩, ⟨%f5, %e5, H5⟩, ⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, ⟨%g0, Fl0, Rest0⟩, HV, Hk⟩
    ihave Fl := (BIBase.Entails.of_eq (onItsWay_any c W (sl 3 (t.val)) (bk 56 (t.val)) g0 (stale c (sl 3 (t.val))))) $$ Fl0
    obtain rfl := harg2.eq_unread e2; obtain rfl := harg3.eq_unread e3; obtain rfl := harg5.eq_unread e5; obtain rfl := harg6.eq_unread e6; obtain rfl := harg7.eq_unread e7; obtain rfl := harg8.eq_unread e8; obtain rfl := harg9.eq_unread e9; obtain rfl := harg11.eq_unread e11; obtain rfl := harg12.eq_unread e12
    have hcanon0 := slot_n11 t
    have hcanon1 := slot_n15 t h5
    have hcanon2 := cell_n10 t
    sl_exec (disch := first | sl_exact h1 | sl_exact h2 | sl_exact h3 | sl_exact h4 | sl_exact h5)
    sl_step
    iapply Hk
    isplitl [H2 H3 H5 H6 H7 H8 H9]
    · isplitl [H2]
      · iexists _; isplitr; · ipureintro; exact harg2.read_unread _
        iexact H2
      isplitl [H3]
      · iexists _; isplitr; · ipureintro; exact harg3.read_unread _
        iexact H3
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]; · iexists _; iexact H10
    isplitl [H11]
    · iexists _; isplitr; · ipureintro; exact harg11.read_unread _
      iexact H11
    isplitl [H12]
    · iexists _; isplitr; · ipureintro; exact harg12.read_unread _
      iexact H12
    isplitl [Fl Fl_dst Fl_src Rest0]
    · isplitl [Fl]; · iexact Fl
      iexists _; isplitl [Fl_dst]; · iexact Fl_dst
      iapply (share_split c W (sl 3 (t.val)) (bk 56 (t.val))).2; isplitl [Fl_src]; · iexact Fl_src
      iexact Rest0
    iexists _; iexact HV

end Cert.InProof

end
-- ==== Proof.In.Data.lean ====
module

public import proofs.«01_k».proof.Proof.In.RunFirst
public import proofs.«01_k».proof.Proof.In.RunSecond
public import proofs.«01_k».proof.Proof.In.RunLater
public import proofs.«01_k».proof.Proof.In.RunRows
public import proofs.«01_k».proof.Proof.In.RunLast
public import proofs.«01_k».proof.Proof.Gen.InIdeal.Launch
public import proofs.«01_k».proof.Proof.Gen.InIdeal.Points
public import Idealize.ShloMosaic.Lib.Pipeline.FrameBody

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

/-- When each branch of the body is taken. -/
theorem branch1 : ∀ t : Fin grid0.N, k0_cond1 (grid0.coords t) = 1#1 ↔ t.val = 0 := by decide +kernel
theorem branch2 : ∀ t : Fin grid0.N, k0_cond2 (grid0.coords t) = 1#1 ↔ t.val < 54 := by decide +kernel
theorem branch3 : ∀ t : Fin grid0.N, k0_cond3 (grid0.coords t) = 1#1 ↔ t.val % 7 = 0 := by decide +kernel
theorem branch4 : ∀ t : Fin grid0.N, k0_cond4 (grid0.coords t) = 1#1 ↔ t.val % 7 = 1 := by decide +kernel
theorem branch5 : ∀ t : Fin grid0.N, k0_cond5 (grid0.coords t) = 1#1 ↔ 2 ≤ t.val % 7 := by decide +kernel

/-- What a memref reads when the pieces `L` were written over nothing known. -/
abbrev made {S : Shape} {e : EltTy} (M : Memref sig .tc .vmem S e) (L : List (View.Piece (Elt F) S e)) : Vec F S e :=
  M.view.read (Elt F) (M.view.writes (Elt F) M.view.junk L)

theorem wrote_made (c : Dev nD) {S : Shape} {e : EltTy} (M : Memref sig .tc .vmem S e) (L : List (View.Piece (Elt F) S e))
    (size : Fin S.rank → ℕ) (h : View.Piece.tiledL L size = true) : (wrote c M L : sProp 𝕄) ⊢ owns (c : Thread nD τ) M fullShare (made M L) := by
  unfold wrote owns
  iintro ⟨%f, H⟩
  iexists M.view.writes (Elt F) f L
  isplitr
  · ipureintro; exact View.read_writes_of_cover _ _ _ _ _ (View.cover_of_tiledL L size h)
  · iexact H

section Points
variable (c : Dev nD) (t : Fin cfg0.N)

/-- The first step, on the blocks of its point. -/
abbrev firstAt (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) :=
  firstRun (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) rowsM (Memref.isWhole_whole _) (iblk m c 0 t) (iblk m c 1 t) (iblk m c 2 t) (iblk m c 3 t) (iblk m c 4 t) (iblk m c 5 t) (iblk m c 6 t) (V m c main_v0) h1 h2 h3 h4 h5

/-- A step that begins a block of rows, on the blocks of its point. -/
abbrev rowsAt (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) :=
  newRowsRun (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) rowsM (Memref.isWhole_whole _) (iblk m c 0 t) (iblk m c 1 t) (iblk m c 2 t) (iblk m c 3 t) (iblk m c 4 t) (iblk m c 5 t) (iblk m c 6 t) (V m c main_v0) h1 h2 h3 h4 h5

/-- The second step of a block of rows, on the blocks of its point. -/
abbrev secondAt (h1 : ¬ k0_cond1 (grid0.coords t) = 1#1) (h2 : k0_cond2 (grid0.coords t) = 1#1) (h3 : ¬ k0_cond3 (grid0.coords t) = 1#1) (h4 : k0_cond4 (grid0.coords t) = 1#1) (h5 : ¬ k0_cond5 (grid0.coords t) = 1#1) (y : Vec F S1024x2048 .bf16) :=
  secondRun (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) rowsM (Memref.isWhole_whole _) (iblk m c 0 t) (iblk m c 1 t) (iblk m c 2 t) (iblk m c 3 t) (iblk m c 4 t) (iblk m c 5 t) (iblk m c 6 t) (V m c main_v0) h1 h2 h3 h4 h5 y

/-- A later step, on the blocks of its point. -/
abbrev laterAt (h1 : ¬ k0_cond1 (grid0.coords t) = 1#1) (h2 : k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) :=
  laterRun (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) rowsM (Memref.isWhole_whole _) (iblk m c 0 t) (iblk m c 1 t) (iblk m c 2 t) (iblk m c 3 t) (iblk m c 4 t) (iblk m c 5 t) (iblk m c 6 t) (V m c main_v0) h1 h2 h3 h4 h5 y

/-- One of the last two steps, on the blocks of its point. -/
abbrev lastAt (h1 : ¬ k0_cond1 (grid0.coords t) = 1#1) (h2 : ¬ k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) :=
  lastRun (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) rowsM (Memref.isWhole_whole _) (iblk m c 0 t) (iblk m c 1 t) (iblk m c 2 t) (iblk m c 3 t) (iblk m c 4 t) (iblk m c 5 t) (iblk m c 6 t) (V m c main_v0) h1 h2 h3 h4 h5 y

/-- The pieces that the steps store fill the blocks. -/
theorem first_fills (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (firstAt m c t h1 h2 h3 h4 h5).1 ![1024, 128] = true := by
  sl_kernel_rfl
theorem first_fills_gates (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (firstAt m c t h1 h2 h3 h4 h5).2.1 ![1024, 128] = true := by
  sl_kernel_rfl
theorem first_fills_kept (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (firstAt m c t h1 h2 h3 h4 h5).2.2.1 ![1024, 2048] = true := by
  sl_kernel_rfl
theorem rows_fills (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (rowsAt m c t h1 h2 h3 h4 h5).1 ![1024, 128] = true := by
  sl_kernel_rfl
theorem rows_fills_gates (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (rowsAt m c t h1 h2 h3 h4 h5).2.1 ![1024, 128] = true := by
  sl_kernel_rfl
theorem rows_fills_kept (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : View.Piece.tiledL (rowsAt m c t h1 h2 h3 h4 h5).2.2.1 ![1024, 2048] = true := by
  sl_kernel_rfl
theorem second_fills (h1 : ¬ k0_cond1 (grid0.coords t) = 1#1) (h2 : k0_cond2 (grid0.coords t) = 1#1) (h3 : ¬ k0_cond3 (grid0.coords t) = 1#1) (h4 : k0_cond4 (grid0.coords t) = 1#1) (h5 : ¬ k0_cond5 (grid0.coords t) = 1#1) (y : Vec F S1024x2048 .bf16) : View.Piece.tiledL (secondAt m c t h1 h2 h3 h4 h5 y).1 ![1024, 128] = true := by
  sl_kernel_rfl
theorem later_fills (h1 : ¬ k0_cond1 (grid0.coords t) = 1#1) (h2 : k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) : View.Piece.tiledL (laterAt m c t h1 h2 h3 h4 h5 y).1 ![1024, 512] = true := by
  sl_kernel_rfl
theorem last_fills (h1 : ¬ k0_cond1 (grid0.coords t) = 1#1) (h2 : ¬ k0_cond2 (grid0.coords t) = 1#1) (h3 : ¬ k0_cond3 (grid0.coords t) = 1#1) (h4 : ¬ k0_cond4 (grid0.coords t) = 1#1) (h5 : k0_cond5 (grid0.coords t) = 1#1) (y : Vec F S1024x2048 .bf16) : View.Piece.tiledL (lastAt m c t h1 h2 h3 h4 h5 y).1 ![1024, 512] = true := by
  sl_kernel_rfl

/-- The point that begins the block of rows that the point `t` works on. -/
def start : Fin cfg0.N := ⟨7 * (t.val / 7), by have := t.isLt; omega⟩

theorem start_of (h : t.val % 7 = 0) : start t = t := Fin.ext (by unfold start; show 7 * (t.val / 7) = t.val; omega)

/-- The rows that a point which begins a block of rows keeps, and its block of the gates. -/
def rowsOf : Vec F S1024x2048 .bf16 :=
  if h : t.val = 0 then made rowsM (firstAt m c t ((branch1 t).mpr (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).2.2.1
  else if h' : t.val % 7 = 0 then made rowsM (rowsAt m c t (mt (branch1 t).mp (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).2.2.1
  else made rowsM []
def gatesOf : Vec F S1024x128 .f32 :=
  if h : t.val = 0 then made (ms0_8 t) (firstAt m c t ((branch1 t).mpr (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).2.1
  else if h' : t.val % 7 = 0 then made (ms0_8 t) (rowsAt m c t (mt (branch1 t).mp (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).2.1
  else made (ms0_8 t) []
/-- The block of the projection that a point leaves. -/
def outOf : Vec F S1024x1024 .bf16 :=
  if h : t.val = 0 then made (ms0_7 t) (firstAt m c t ((branch1 t).mpr (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).1
  else if h' : t.val % 7 = 0 then made (ms0_7 t) (rowsAt m c t (mt (branch1 t).mp (by have hN : t.val < 56 := t.isLt; omega)) ((branch2 t).mpr (by have hN : t.val < 56 := t.isLt; omega)) ((branch3 t).mpr (by have hN : t.val < 56 := t.isLt; omega)) (mt (branch4 t).mp (by have hN : t.val < 56 := t.isLt; omega)) (mt (branch5 t).mp (by have hN : t.val < 56 := t.isLt; omega))).1
  else if h'' : t.val % 7 = 1 then made (ms0_7 t) (secondAt m c t (mt (branch1 t).mp (by have hN : t.val < 56 := t.isLt; omega)) ((branch2 t).mpr (by have hN : t.val < 56 := t.isLt; omega)) (mt (branch3 t).mp (by have hN : t.val < 56 := t.isLt; omega)) ((branch4 t).mpr (by have hN : t.val < 56 := t.isLt; omega)) (mt (branch5 t).mp (by have hN : t.val < 56 := t.isLt; omega)) (rowsOf m c (start t))).1
  else if h3 : t.val < 54 then made (ms0_7 t) (laterAt m c t (mt (branch1 t).mp (by have hN : t.val < 56 := t.isLt; omega)) ((branch2 t).mpr (by have hN : t.val < 56 := t.isLt; omega)) (mt (branch3 t).mp (by have hN : t.val < 56 := t.isLt; omega)) (mt (branch4 t).mp (by have hN : t.val < 56 := t.isLt; omega)) ((branch5 t).mpr (by have hN : t.val < 56 := t.isLt; omega)) (rowsOf m c (start t))).1
  else made (ms0_7 t) (lastAt m c t (mt (branch1 t).mp (by have hN : t.val < 56 := t.isLt; omega)) (mt (branch2 t).mp (by have hN : t.val < 56 := t.isLt; omega)) (mt (branch3 t).mp (by have hN : t.val < 56 := t.isLt; omega)) (mt (branch4 t).mp (by have hN : t.val < 56 := t.isLt; omega)) ((branch5 t).mpr (by have hN : t.val < 56 := t.isLt; omega)) (rowsOf m c (start t))).1

end Points

/-- The kept rows before point `n`: anything at first, then the rows of the block that the point before worked on. -/
def kept (c : Dev nD) (n : ℕ) (hn : n ≤ cfg0.N) : sProp 𝕄 :=
  if h : n = 0 then iprop(∃ d, owns (c : Thread nD τ) rowsM fullShare d)
  else owns (c : Thread nD τ) rowsM fullShare (rowsOf m c (start ⟨n - 1, by omega⟩))

/-- What is held before point `n`. -/
def held (c : Dev nD) (n : ℕ) (hn : n ≤ cfg0.N) : sProp 𝕄 :=
  iprop(kept m c n hn ∗ (∃ r, prngReg c r) ∗ slotsAt c (V m c main_v0) n)

/-- The proof data: the arrays at entry, each window's block after each point, and what is held between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outOf m c t
    | ⟨8, _⟩ => gatesOf m c (start t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_7 (c : Dev nD) (t : Fin cfg0.N) : (dats m 0 c).after 7 t = outOf m c t := by dsimp only [dats]
theorem after_8 (c : Dev nD) (t : Fin cfg0.N) : (dats m 0 c).after 8 t = gatesOf m c (start t) := by dsimp only [dats]
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from by dsimp only [dats]]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from by dsimp only [dats]]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [show (dats m 0 c).after 2 t = iblk m c 2 t from by dsimp only [dats]]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [show (dats m 0 c).after 3 t = iblk m c 3 t from by dsimp only [dats]]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [show (dats m 0 c).after 4 t = iblk m c 4 t from by dsimp only [dats]]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [show (dats m 0 c).after 5 t = iblk m c 5 t from by dsimp only [dats]]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [show (dats m 0 c).after 6 t = iblk m c 6 t from by dsimp only [dats]]; unfold Dat.blockOf iblk; rw [A_eq]; try rfl) t d).trans
    (by unfold Dat.fetched Dat.blockOf iblk; rw [A_eq]; try rfl)

/-- The gates' block is stored by the points that begin a block of rows only; the projection's by every point. -/
theorem idle_8 : ∀ t : Fin grid0.N, cfg0.idle 8 (grid0.coords t) = !decide (t.val % 7 = 0) := by decide +kernel
theorem idle_7 : ∀ t : Fin grid0.N, cfg0.idle 7 (grid0.coords t) = false := by decide +kernel

theorem start_prev (t : Fin cfg0.N) (h : t.val % 7 ≠ 0) (h') : start ⟨t.val - 1, h'⟩ = start t :=
  Fin.ext (by unfold start; show 7 * ((t.val - 1) / 7) = 7 * (t.val / 7); omega)

/-- Within a block of rows the gates' block is found as the point that begins it left it. -/
theorem before_8 (c : Dev nD) (n : ℕ) : ∀ (t : Fin cfg0.N), t.val = n → t.val % 7 ≠ 0 → ∀ d, (dats m 0 c).before 8 t d = gatesOf m c (start t) := by
  induction n using Nat.strong_induction_on with
  | _ n ih =>
  intro t ht h d
  have hN : t.val < 56 := lt_of_lt_of_eq t.isLt N_0
  have hf : (cfg0.win 8).flush ⟨t.val - 1, Nat.lt_of_le_of_lt (Nat.sub_le _ _) t.isLt⟩ = false := by
    rw [Bool.eq_false_iff]; intro hf; have := (flush0_8 _).mp hf; dsimp only at this; omega
  rw [(dats m 0 c).before_of_pos 8 t (by omega) ((cfg0.win 8).fetch_out rfl t), hf, if_neg Bool.false_ne_true]
  unfold Dat.left
  by_cases h1 : (t.val - 1) % 7 = 0
  · rw [show cfg0.idle 8 (cfg0.grid.coords ⟨t.val - 1, Nat.lt_of_le_of_lt (Nat.sub_le _ _) t.isLt⟩) = false from
      (idle_8 _).trans (by simp [h1])]
    dsimp only
    rw [← start_prev t h (Nat.lt_of_le_of_lt (Nat.sub_le _ _) t.isLt), ← after_8]
    rfl
  · rw [show cfg0.idle 8 (cfg0.grid.coords ⟨t.val - 1, Nat.lt_of_le_of_lt (Nat.sub_le _ _) t.isLt⟩) = true from
      (idle_8 _).trans (by simp [h1])]
    dsimp only
    rw [ih (t.val - 1) (by omega) _ rfl h1 d, start_prev t h]

theorem leaves_8 (c : Dev nD) (t : Fin cfg0.N) :
    (owns (c : Thread nD τ) (ms0_8 t) fullShare (gatesOf m c (start t)) : sProp 𝕄) ⊢ (dats m 0 c).leavesExact 8 t := by
  unfold Dat.leavesExact
  by_cases h : t.val % 7 = 0
  · rw [show cfg0.idle 8 (cfg0.grid.coords t) = false from (idle_8 t).trans (by simp [h])]
    dsimp only; rw [after_8]
  · rw [show cfg0.idle 8 (cfg0.grid.coords t) = true from (idle_8 t).trans (by simp [h])]
    dsimp only
    cases (cfg0.win 8).flush t
    · dsimp only; iintro H; iexists fun _ => Classical.arbitrary _; rw [before_8 m c _ t rfl h]; iexact H
    · dsimp only; rw [after_8]
theorem leaves_7 (c : Dev nD) (t : Fin cfg0.N) :
    (owns (c : Thread nD τ) (ms0_7 t) fullShare (outOf m c t) : sProp 𝕄) ⊢ (dats m 0 c).leavesExact 7 t := by
  unfold Dat.leavesExact
  rw [show cfg0.idle 7 (cfg0.grid.coords t) = false from idle_7 t]
  dsimp only; rw [after_7]

end Cert.InProof

end
-- ==== Proof.In.Points.lean ====
module

public import proofs.«01_k».proof.Proof.In.Data
public import proofs.«01_k».proof.Defs
public import Idealize.ShloMosaic.Lib.Claim
public import Idealize.ShloMosaic.Lib.Quiescent
public import proofs.«01_k».proof.Proof.Gen.InIdeal.Launch
public import proofs.«01_k».proof.Proof.Gen.InIdeal.Points
public import Idealize.ShloMosaic.Lib.Pipeline.FrameBody

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body finds at a point. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves at a point. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t ∗ (dats m 0 c).leavesExact 8 t)

theorem held_castSucc (c : Dev nD) (t : Fin cfg0.N) : (dats m 0 c).Φ t.castSucc = held m c t.val (Nat.le_of_lt t.isLt) := rfl
theorem held_succ (c : Dev nD) (t : Fin cfg0.N) : (dats m 0 c).Φ t.succ = held m c (t.val + 1) t.isLt := rfl
theorem kept_succ (c : Dev nD) (t : Fin cfg0.N) : kept m c (t.val + 1) t.isLt = owns (c : Thread nD τ) rowsM fullShare (rowsOf m c (start t)) := by
  unfold kept; rw [dif_neg (Nat.succ_ne_zero _)]; rfl
theorem kept_first (c : Dev nD) (t : Fin cfg0.N) (h : t.val = 0) : kept m c t.val (Nat.le_of_lt t.isLt) = iprop(∃ d, owns (c : Thread nD τ) rowsM fullShare d) := by
  unfold kept; rw [dif_pos h]
theorem kept_in (c : Dev nD) (t : Fin cfg0.N) (h : t.val % 7 ≠ 0) : kept m c t.val (Nat.le_of_lt t.isLt) = owns (c : Thread nD τ) rowsM fullShare (rowsOf m c (start t)) := by
  unfold kept; rw [dif_neg (by omega), start_prev t h]
theorem kept_any (c : Dev nD) (t : Fin cfg0.N) : kept m c t.val (Nat.le_of_lt t.isLt) ⊢ iprop(∃ d, owns (c : Thread nD τ) rowsM fullShare d) := by
  unfold kept; split
  · exact .rfl
  · iintro H; iexists _; iexact H

/-- What a slot keeps once its step is done. -/
theorem slots_first (c : Dev nD) (t : Fin cfg0.N) (h : t.val = 0) :
    slotsAt c (V m c main_v0) t.val ⊢ iprop(freeS c (V m c main_v0) (sl 3 t.val) ∗ freeS c (V m c main_v0) (sl 3 (t.val + 1)) ∗ freeS c (V m c main_v0) (sl 3 (t.val + 2))) := by
  unfold slotsAt; rw [if_pos h, Ring.At₀_eq3' _ _ _ t.val h (by decide : 3 ≤ 56)]
  iintro ⟨-, A, B, C⟩
  isplitl [A]; · iexact A
  isplitl [B]; · iexact B
  iexact C
theorem slots_mid (c : Dev nD) (t : Fin cfg0.N) (h : t.val ≠ 0) (h' : t.val + 2 < 56) :
    slotsAt c (V m c main_v0) t.val ⊢ iprop(comes c (V m c main_v0) (sl 3 t.val) (bk 56 t.val) ∗ comes c (V m c main_v0) (sl 3 (t.val + 1)) (bk 56 (t.val + 1)) ∗ freeS c (V m c main_v0) (sl 3 (t.val + 2))) := by
  unfold slotsAt; rw [if_neg h, Ring.At3_here _ _ _ _ t.val h']
  iintro ⟨-, A, B, C⟩
  isplitl [A]; · iexact A
  isplitl [B]; · iexact B
  iexact C
theorem slots_next (c : Dev nD) (t : Fin cfg0.N) (h' : t.val + 2 < 56) :
    iprop(comes c (V m c main_v0) (sl 3 (t.val + 1)) (bk 56 (t.val + 1)) ∗ comes c (V m c main_v0) (sl 3 (t.val + 2)) (bk 56 (t.val + 2)) ∗ freeS c (V m c main_v0) (sl 3 t.val)) ⊢ slotsAt c (V m c main_v0) (t.val + 1) := by
  unfold slotsAt; rw [if_neg (Nat.succ_ne_zero _)]
  by_cases h : t.val = 0
  · rw [Ring.At3_one' _ _ _ _ t.val h (by decide : 3 ≤ 56)]
    iintro ⟨A, B, C⟩
    iapply (Ring.with_homes (Idealize.SL.BI.Entails.refl _))
    isplitl [A]; · iexact A
    isplitl [B]; · iexact B
    iexact C
  · rw [Ring.At3_next _ _ _ _ t.val h', Ring.slotAt3_next0 _ _ _ t.val (by omega), Ring.slotAt3_next1 _ _ _ t.val h']
    iintro ⟨A, B, C⟩
    iapply (Ring.with_homes (Idealize.SL.BI.Entails.refl _))
    isplitl [A]; · iexact A
    isplitl [B]; · iexact B
    iexact C
theorem slots_tail (c : Dev nD) (t : Fin cfg0.N) (h : 54 ≤ t.val) :
    slotsAt c (V m c main_v0) t.val ⊢ iprop(comes c (V m c main_v0) (sl 3 t.val) (bk 56 t.val) ∗ (freeS c (V m c main_v0) (sl 3 t.val) -∗ slotsAt c (V m c main_v0) (t.val + 1))) := by
  have hN : t.val < 56 := lt_of_lt_of_eq t.isLt N_0
  unfold slotsAt; rw [if_neg (by omega), if_neg (by omega)]
  rw [Ring.At3_here_tail _ _ _ _ t.val hN, Ring.At3_next_tail _ _ _ _ t.val (by omega) hN, Ring.slotAt3_tail_role _ _ _ t.val]
  iintro ⟨-, A, B, C⟩
  isplitl [A]; · iexact A
  iintro D
  iapply (Ring.with_homes (Idealize.SL.BI.Entails.refl _))
  isplitl [B]; · iexact B
  isplitl [C]; · iexact C
  iexact D

set_option maxHeartbeats 8000000 in
/-- The first step takes what it finds to what it leaves. -/
theorem point_first (c : Dev nD) (t : Fin cfg0.N) (hz : t.val = 0) :
    pre m c t ⊢ wp frame (wpE (defs₀ (F := F)) Variants.none c none) Set.univ (bodyAt0 t) (fun _ => post m c t) := by
  have hN : t.val < 56 := lt_of_lt_of_eq t.isLt N_0
  have e1 : k0_cond1 (grid0.coords t) = 1#1 := (branch1 t).mpr (by omega)
  have e2 : k0_cond2 (grid0.coords t) = 1#1 := (branch2 t).mpr (by omega)
  have e3 : k0_cond3 (grid0.coords t) = 1#1 := (branch3 t).mpr (by omega)
  have e4 : ¬ k0_cond4 (grid0.coords t) = 1#1 := mt (branch4 t).mp (by omega)
  have e5 : ¬ k0_cond5 (grid0.coords t) = 1#1 := mt (branch5 t).mp (by omega)
  have ho : outOf m c t = made (ms0_7 t) (firstAt m c t e1 e2 e3 e4 e5).1 := by unfold outOf; rw [dif_pos hz]
  have hs : start t = t := start_of t (by omega)
  have hr : rowsOf m c t = made rowsM (firstAt m c t e1 e2 e3 e4 e5).2.2.1 := by unfold rowsOf; rw [dif_pos hz]
  have hg : gatesOf m c t = made (ms0_8 t) (firstAt m c t e1 e2 e3 e4 e5).2.1 := by unfold gatesOf; rw [dif_pos hz]
  unfold pre post bodyAt0
  rw [held_castSucc, held_succ]
  unfold held
  rw [kept_succ]
  rw [kept_first m c t hz]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  unfold Dat.owesAt Pipeline.owesWithin
  rw [show (dats m 0 c).owed t.castSucc = 0 from rfl, show (dats m 0 c).owed t.succ = 0 from rfl]
  iintro ⟨⟨HK, Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6]
  ihave HT := (slots_first m c t hz) $$ HS
  icases HT with ⟨S0, S1, S2⟩
  iapply ((firstAt m c t e1 e2 e3 e4 e5).2.2.2 W _)
  isplitl [H0 H1 H2 H3 H4 H5 H6]
  · unfold reads
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [HK]; · iexact HK
  isplitl [S0]; · iexact S0
  isplitl [S1]; · iexact S1
  isplitl [S2]; · iexact S2
  isplitl [HW]; · iexact HW
  unfold reads
  iintro ⟨⟨H0, H1, H2, H3, H4, H5, H6⟩, H7, H8, HK, S1, S2, S0, ⟨%W', HW'⟩⟩
  isplitl [HK Hg S0 S1 S2]
  · isplitl [HK]; · rw [hs, hr]; iapply (wrote_made c rowsM _ _ (first_fills_kept m c t e1 e2 e3 e4 e5)); iexact HK
    isplitl [Hg]; · iexact Hg
    iapply (slots_next m c t (by omega))
    isplitl [S1]; · iexact S1
    isplitl [S2]; · iexact S2
    iexact S0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); rw [ho]; iapply (wrote_made c (ms0_7 t) _ _ (first_fills m c t e1 e2 e3 e4 e5)); iexact H7
  iapply (leaves_8 m c t); rw [hs, hg]; iapply (wrote_made c (ms0_8 t) _ _ (first_fills_gates m c t e1 e2 e3 e4 e5)); iexact H8

set_option maxHeartbeats 8000000 in
/-- A step that begins a block of rows takes what it finds to what it leaves. -/
theorem point_rows (c : Dev nD) (t : Fin cfg0.N) (hz : t.val ≠ 0) (h7 : t.val % 7 = 0) :
    pre m c t ⊢ wp frame (wpE (defs₀ (F := F)) Variants.none c none) Set.univ (bodyAt0 t) (fun _ => post m c t) := by
  have hN : t.val < 56 := lt_of_lt_of_eq t.isLt N_0
  have e1 : ¬ k0_cond1 (grid0.coords t) = 1#1 := mt (branch1 t).mp (by omega)
  have e2 : k0_cond2 (grid0.coords t) = 1#1 := (branch2 t).mpr (by omega)
  have e3 : k0_cond3 (grid0.coords t) = 1#1 := (branch3 t).mpr (by omega)
  have e4 : ¬ k0_cond4 (grid0.coords t) = 1#1 := mt (branch4 t).mp (by omega)
  have e5 : ¬ k0_cond5 (grid0.coords t) = 1#1 := mt (branch5 t).mp (by omega)
  have ho : outOf m c t = made (ms0_7 t) (rowsAt m c t e1 e2 e3 e4 e5).1 := by unfold outOf; rw [dif_neg hz, dif_pos h7]
  have hs : start t = t := start_of t (by omega)
  have hr : rowsOf m c t = made rowsM (rowsAt m c t e1 e2 e3 e4 e5).2.2.1 := by unfold rowsOf; rw [dif_neg hz, dif_pos h7]
  have hg : gatesOf m c t = made (ms0_8 t) (rowsAt m c t e1 e2 e3 e4 e5).2.1 := by unfold gatesOf; rw [dif_neg hz, dif_pos h7]
  unfold pre post bodyAt0
  rw [held_castSucc, held_succ]
  unfold held
  rw [kept_succ]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  unfold Dat.owesAt Pipeline.owesWithin
  rw [show (dats m 0 c).owed t.castSucc = 0 from rfl, show (dats m 0 c).owed t.succ = 0 from rfl]
  iintro ⟨⟨HK, Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6]
  ihave HT := (slots_mid m c t (by omega) (by omega)) $$ HS
  icases HT with ⟨S0, S1, S2⟩
  ihave HK' := (kept_any m c t) $$ HK
  iapply ((rowsAt m c t e1 e2 e3 e4 e5).2.2.2 W _)
  isplitl [H0 H1 H2 H3 H4 H5 H6]
  · unfold reads
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [HK']; · iexact HK'
  isplitl [S0]; · iexact S0
  isplitl [S1]; · iexact S1
  isplitl [S2]; · iexact S2
  isplitl [HW]; · iexact HW
  unfold reads
  iintro ⟨⟨H0, H1, H2, H3, H4, H5, H6⟩, H7, H8, HK, S1, S2, S0, ⟨%W', HW'⟩⟩
  isplitl [HK Hg S0 S1 S2]
  · isplitl [HK]; · rw [hs, hr]; iapply (wrote_made c rowsM _ _ (rows_fills_kept m c t e1 e2 e3 e4 e5)); iexact HK
    isplitl [Hg]; · iexact Hg
    iapply (slots_next m c t (by omega))
    isplitl [S1]; · iexact S1
    isplitl [S2]; · iexact S2
    iexact S0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); rw [ho]; iapply (wrote_made c (ms0_7 t) _ _ (rows_fills m c t e1 e2 e3 e4 e5)); iexact H7
  iapply (leaves_8 m c t); rw [hs, hg]; iapply (wrote_made c (ms0_8 t) _ _ (rows_fills_gates m c t e1 e2 e3 e4 e5)); iexact H8

set_option maxHeartbeats 8000000 in
/-- The second step of a block of rows takes what it finds to what it leaves. -/
theorem point_second (c : Dev nD) (t : Fin cfg0.N) (h1 : t.val % 7 = 1) :
    pre m c t ⊢ wp frame (wpE (defs₀ (F := F)) Variants.none c none) Set.univ (bodyAt0 t) (fun _ => post m c t) := by
  have hN : t.val < 56 := lt_of_lt_of_eq t.isLt N_0
  have e1 : ¬ k0_cond1 (grid0.coords t) = 1#1 := mt (branch1 t).mp (by omega)
  have e2 : k0_cond2 (grid0.coords t) = 1#1 := (branch2 t).mpr (by omega)
  have e3 : ¬ k0_cond3 (grid0.coords t) = 1#1 := mt (branch3 t).mp (by omega)
  have e4 : k0_cond4 (grid0.coords t) = 1#1 := (branch4 t).mpr (by omega)
  have e5 : ¬ k0_cond5 (grid0.coords t) = 1#1 := mt (branch5 t).mp (by omega)
  have ho : outOf m c t = made (ms0_7 t) (secondAt m c t e1 e2 e3 e4 e5 (rowsOf m c (start t))).1 := by unfold outOf; rw [dif_neg (by omega), dif_neg (by omega), dif_pos h1]
  unfold pre post bodyAt0
  rw [held_castSucc, held_succ]
  unfold held
  rw [kept_succ]
  rw [kept_in m c t (by omega)]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  unfold Dat.owesAt Pipeline.owesWithin
  rw [show (dats m 0 c).owed t.castSucc = 0 from rfl, show (dats m 0 c).owed t.succ = 0 from rfl]
  iintro ⟨⟨HK, Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6]
  rw [before_8 m c _ t rfl (by omega) d8]
  ihave HT := (slots_mid m c t (by omega) (by omega)) $$ HS
  icases HT with ⟨S0, S1, S2⟩
  iapply ((secondAt m c t e1 e2 e3 e4 e5 (rowsOf m c (start t))).2 (gatesOf m c (start t)) W _)
  isplitl [H0 H1 H2 H3 H4 H5 H6]
  · unfold reads
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexact H8
  isplitl [HK]; · iexact HK
  isplitl [S0]; · iexact S0
  isplitl [S1]; · iexact S1
  isplitl [S2]; · iexact S2
  isplitl [HW]; · iexact HW
  unfold reads
  iintro ⟨⟨H0, H1, H2, H3, H4, H5, H6⟩, H7, H8, HK, S1, S2, S0, ⟨%W', HW'⟩⟩
  isplitl [HK Hg S0 S1 S2]
  · isplitl [HK]; · iexact HK
    isplitl [Hg]; · iexact Hg
    iapply (slots_next m c t (by omega))
    isplitl [S1]; · iexact S1
    isplitl [S2]; · iexact S2
    iexact S0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); rw [ho]; iapply (wrote_made c (ms0_7 t) _ _ (second_fills m c t e1 e2 e3 e4 e5 (rowsOf m c (start t)))); iexact H7
  iapply (leaves_8 m c t); iexact H8

set_option maxHeartbeats 8000000 in
/-- A later step takes what it finds to what it leaves. -/
theorem point_later (c : Dev nD) (t : Fin cfg0.N) (h2 : 2 ≤ t.val % 7) (hl : t.val < 54) :
    pre m c t ⊢ wp frame (wpE (defs₀ (F := F)) Variants.none c none) Set.univ (bodyAt0 t) (fun _ => post m c t) := by
  have hN : t.val < 56 := lt_of_lt_of_eq t.isLt N_0
  have e1 : ¬ k0_cond1 (grid0.coords t) = 1#1 := mt (branch1 t).mp (by omega)
  have e2 : k0_cond2 (grid0.coords t) = 1#1 := (branch2 t).mpr (by omega)
  have e3 : ¬ k0_cond3 (grid0.coords t) = 1#1 := mt (branch3 t).mp (by omega)
  have e4 : ¬ k0_cond4 (grid0.coords t) = 1#1 := mt (branch4 t).mp (by omega)
  have e5 : k0_cond5 (grid0.coords t) = 1#1 := (branch5 t).mpr (by omega)
  have ho : outOf m c t = made (ms0_7 t) (laterAt m c t e1 e2 e3 e4 e5 (rowsOf m c (start t))).1 := by unfold outOf; rw [dif_neg (by omega), dif_neg (by omega), dif_neg (by omega), dif_pos hl]
  unfold pre post bodyAt0
  rw [held_castSucc, held_succ]
  unfold held
  rw [kept_succ]
  rw [kept_in m c t (by omega)]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  unfold Dat.owesAt Pipeline.owesWithin
  rw [show (dats m 0 c).owed t.castSucc = 0 from rfl, show (dats m 0 c).owed t.succ = 0 from rfl]
  iintro ⟨⟨HK, Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6]
  rw [before_8 m c _ t rfl (by omega) d8]
  ihave HT := (slots_mid m c t (by omega) (by omega)) $$ HS
  icases HT with ⟨S0, S1, S2⟩
  iapply ((laterAt m c t e1 e2 e3 e4 e5 (rowsOf m c (start t))).2 (gatesOf m c (start t)) W _)
  isplitl [H0 H1 H2 H3 H4 H5 H6]
  · unfold reads
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexact H8
  isplitl [HK]; · iexact HK
  isplitl [S0]; · iexact S0
  isplitl [S1]; · iexact S1
  isplitl [S2]; · iexact S2
  isplitl [HW]; · iexact HW
  unfold reads
  iintro ⟨⟨H0, H1, H2, H3, H4, H5, H6⟩, H7, H8, HK, S1, S2, S0, ⟨%W', HW'⟩⟩
  isplitl [HK Hg S0 S1 S2]
  · isplitl [HK]; · iexact HK
    isplitl [Hg]; · iexact Hg
    iapply (slots_next m c t (by omega))
    isplitl [S1]; · iexact S1
    isplitl [S2]; · iexact S2
    iexact S0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); rw [ho]; iapply (wrote_made c (ms0_7 t) _ _ (later_fills m c t e1 e2 e3 e4 e5 (rowsOf m c (start t)))); iexact H7
  iapply (leaves_8 m c t); iexact H8

set_option maxHeartbeats 8000000 in
/-- One of the last two steps takes what it finds to what it leaves. -/
theorem point_last (c : Dev nD) (t : Fin cfg0.N) (hl : 54 ≤ t.val) :
    pre m c t ⊢ wp frame (wpE (defs₀ (F := F)) Variants.none c none) Set.univ (bodyAt0 t) (fun _ => post m c t) := by
  have hN : t.val < 56 := lt_of_lt_of_eq t.isLt N_0
  have e1 : ¬ k0_cond1 (grid0.coords t) = 1#1 := mt (branch1 t).mp (by omega)
  have e2 : ¬ k0_cond2 (grid0.coords t) = 1#1 := mt (branch2 t).mp (by omega)
  have e3 : ¬ k0_cond3 (grid0.coords t) = 1#1 := mt (branch3 t).mp (by omega)
  have e4 : ¬ k0_cond4 (grid0.coords t) = 1#1 := mt (branch4 t).mp (by omega)
  have e5 : k0_cond5 (grid0.coords t) = 1#1 := (branch5 t).mpr (by omega)
  have ho : outOf m c t = made (ms0_7 t) (lastAt m c t e1 e2 e3 e4 e5 (rowsOf m c (start t))).1 := by unfold outOf; rw [dif_neg (by omega), dif_neg (by omega), dif_neg (by omega), dif_neg (by omega)]
  unfold pre post bodyAt0
  rw [held_castSucc, held_succ]
  unfold held
  rw [kept_succ]
  rw [kept_in m c t (by omega)]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  unfold Dat.owesAt Pipeline.owesWithin
  rw [show (dats m 0 c).owed t.castSucc = 0 from rfl, show (dats m 0 c).owed t.succ = 0 from rfl]
  iintro ⟨⟨HK, Hg, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6]
  rw [before_8 m c _ t rfl (by omega) d8]
  ihave HT := (slots_tail m c t (by omega)) $$ HS
  icases HT with ⟨S0, SB⟩
  iapply ((lastAt m c t e1 e2 e3 e4 e5 (rowsOf m c (start t))).2 (gatesOf m c (start t)) W _)
  isplitl [H0 H1 H2 H3 H4 H5 H6]
  · unfold reads
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexact H8
  isplitl [HK]; · iexact HK
  isplitl [S0]; · iexact S0
  isplitl [HW]; · iexact HW
  unfold reads
  iintro ⟨⟨H0, H1, H2, H3, H4, H5, H6⟩, H7, H8, HK, S0, ⟨%W', HW'⟩⟩
  isplitl [HK Hg S0 SB]
  · isplitl [HK]; · iexact HK
    isplitl [Hg]; · iexact Hg
    iapply SB; iexact S0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); rw [ho]; iapply (wrote_made c (ms0_7 t) _ _ (last_fills m c t e1 e2 e3 e4 e5 (rowsOf m c (start t)))); iexact H7
  iapply (leaves_8 m c t); iexact H8

/-- The body, at any point, takes what it finds to what it leaves. -/
theorem body_point (c : Dev nD) (t : Fin cfg0.N) :
    pre m c t ⊢ wp frame (wpE (defs₀ (F := F)) Variants.none c none) Set.univ (bodyAt0 t) (fun _ => post m c t) := by
  by_cases hz : t.val = 0
  · exact point_first m c t hz
  by_cases h7 : t.val % 7 = 0
  · exact point_rows m c t hz h7
  by_cases h1 : t.val % 7 = 1
  · exact point_second m c t h1
  by_cases hl : t.val < 54
  · exact point_later m c t (by omega) hl
  · exact point_last m c t (by omega)

end Cert.InProof

end
-- ==== Proof.In.Frame.lean ====
module

public import proofs.«01_k».proof.Proof.In.Points
public import proofs.«01_k».proof.Defs
public import Idealize.ShloMosaic.Lib.Claim
public import Idealize.ShloMosaic.Lib.Quiescent
public import proofs.«01_k».proof.Proof.Gen.InIdeal.Launch
public import proofs.«01_k».proof.Proof.Gen.InIdeal.Points
public import Idealize.ShloMosaic.Lib.Pipeline.FrameBody

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's body table at a point is the kernel's body on the point's blocks. -/
theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_point m c t) rfl .rfl fun _ => .rfl

/-- The three counters of the body's own copies, and the array they read. -/
abbrev cells : Fin 3 → SemLoc sig := fun j => (![SemLoc.dma 14, SemLoc.dma 15, SemLoc.dma 16] : Fin 3 → SemLoc sig) j
theorem cells_ok : Pipeline.OwnSemFacts spec0 cells := by decide
def moved : Finset (Ref sig .tc) := {main_v0}
theorem moved_sub : moved ⊆ Pipeline.restRefs sig spec0 := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 14) 0 ∗ semVal ((c : Thread nD τ), SemLoc.dma 15) 0 ∗ semVal ((c : Thread nD τ), SemLoc.dma 16) 0) := by
  rw [Pipeline.ownSems0_eq_of_list c cells [0, 1, 2] (by decide) (by decide)]; rfl
theorem moved_eq (c : Dev nD) :
    (bigSep moved (fun b => ((c : Thread nD τ).loc b) ↦{fullShare} V m c b) : sProp 𝕄) = weight c (V m c main_v0) := by
  rw [BI.bigSep_eq_bigSepL_of_eq [main_v0] (by decide) (by decide)]; rfl

/-- What the launch hands the call: the scratch, the generator, the counters at zero and the weight. -/
theorem launched (c : Dev nD) :
    (Pipeline.ΦD cells spec0 moved (V m) c : sProp 𝕄)
      = iprop(iprop((∃ d, owns (c : Thread nD τ) rowsM fullShare d) ∗ (∃ d, owns (c : Thread nD τ) slotsM fullShare d)) ∗ (∃ r, prngReg c r)
        ∗ iprop(semVal ((c : Thread nD τ), SemLoc.dma 14) 0 ∗ semVal ((c : Thread nD τ), SemLoc.dma 15) 0 ∗ semVal ((c : Thread nD τ), SemLoc.dma 16) 0)
        ∗ weight c (V m c main_v0)) := by
  rw [Pipeline.ΦD_eq, scopedRest0_eq, cells_eq, moved_eq]; simp only [rowsM, slotsM, owns_whole]; try rfl

theorem held_in (c : Dev nD) : Pipeline.ΦD cells spec0 moved (V m) c ⊢ (dats m 0 c).Φ 0 := by
  rw [launched, show (dats m 0 c).Φ 0 = held m c 0 (Nat.zero_le _) from rfl]
  unfold held kept
  rw [dif_pos rfl]
  iintro ⟨⟨HR, HS⟩, Hg, HC, HW⟩
  isplitl [HR]; · iexact HR
  isplitl [Hg]; · iexact Hg
  iapply (slots_begin (F := F) c (V m c main_v0))
  isplitl [HS]; · iexact HS
  isplitl [HC]; · iexact HC
  iexact HW
theorem held_end (c : Dev nD) (n : ℕ) (hn : n ≤ cfg0.N) (e : n = 56) : held m c n hn ⊢ Pipeline.ΦD cells spec0 moved (V m) c := by
  subst e
  rw [launched]
  unfold held kept
  rw [dif_neg (by decide)]
  iintro ⟨HR, Hg, HT⟩
  ihave H' := (slots_end (F := F) c (V m c main_v0)) $$ HT
  icases H' with ⟨HS, HC, HW⟩
  isplitl [HR HS]
  · isplitl [HR]; · iexists _; iexact HR
    iexact HS
  isplitl [Hg]; · iexact Hg
  isplitl [HC]; · iexact HC
  iexact HW
theorem held_out (c : Dev nD) : (dats m 0 c).Φ (Fin.last cfg0.N) ⊢ Pipeline.ΦD cells spec0 moved (V m) c :=
  held_end m c (Fin.last cfg0.N).val (Nat.le_of_lt_succ (Fin.last cfg0.N).isLt) N_0

set_option maxHeartbeats 800000 in
/-- The host's lines run up to the call. -/
theorem to_call (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
/-- The whole program runs, leaves the arrays at what the proof data say, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cells_ok moved moved_sub m ρ main
    (hbody := fun c => (body_ok m c).loose) (hshare := fun c => (dats m 0 c).share_full fun _ => rfl)
    (howed := fun _ _ => rfl) (V := V m) (hmain := to_call m Variants.none) (hA := A_eq m) (hin := held_in m) (hout := held_out m)

/-- The program runs, keeps its arguments and leaves every counter at zero, over any scalars. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

/-- The idealized kernel's frame. -/
theorem frame_ideal : Cert.quiescent_InIdeal := fun m ρ _ => frame_any m ρ

end Cert.InProof

end
-- ==== Proof.In.Raw.lean ====
module

public import proofs.«01_k».proof.Proof.In.Frame
public import proofs.«01_k».proof.Proof.Gen.In.Launch

@[expose] public section

set_option maxRecDepth 65536

noncomputable section

namespace Cert.InProof
open Idealize.ShloMosaic

variable [Cert.In.Facts]

set_option maxHeartbeats 4000000 in
/-- The compiled kernel's body table is the idealized kernel's. -/
theorem bodies_same : Cert.In.defs₀ (F := Bits) = Cert.InIdeal.defs₀ (F := Bits) := by
  unfold Cert.In.defs₀ Cert.InIdeal.defs₀
  refine congrArg (Defs.onTc (nD := Cert.InIdeal.nD) (τ := Cert.InIdeal.τ) (sig := Cert.InIdeal.sig) (Val := Elt Bits)
    (Λ := Cert.InIdeal.Λ₀)) (funext fun ℓ => ?_)
  match ℓ with
  | ⟨0, _⟩ => exact funext fun ⟨t, s⟩ => rfl
  | ⟨_ + 1, h⟩ => exact absurd h (Nat.not_lt.2 (Nat.le_add_left _ _))

set_option maxHeartbeats 4000000 in
/-- And so is the table with the pipeline's own rows. -/
theorem tables_same : Cert.In.defs (F := Bits) = Cert.InIdeal.defs (F := Bits) := by
  unfold Cert.In.defs Cert.InIdeal.defs
  exact congrArg (Pipeline.defs (Cert.InIdeal.pcfgs (F := Bits))) bodies_same

set_option maxHeartbeats 4000000 in
/-- The kernel as compiled runs, keeps its arguments and leaves every counter at zero: its text is the idealized kernel's. -/
theorem frame_kernel : Cert.quiescent_In := fun m ρ _ => by
  rw [tables_same]
  exact frame_any (F := Bits) m ρ

end Cert.InProof

end
-- ==== Proof.In.Block.lean ====
/- What the pieces that the input projection's kernel stores are, entry by entry. -/
module

public import proofs.«01_k».proof.Proof.Gen.InIdeal.Skeleton
public import Idealize.ShloMosaic.Lib.Pipeline.ValueKit

@[expose] public section

set_option maxRecDepth 16384

noncomputable section

namespace Cert.InProof

open Cert.InIdeal Cert.InIdeal.Gen Idealize.ShloMosaic Idealize.ShloMosaic.TcCoe Idealize.SL.Sem

/-- A row of 1024 rows normalised by its root mean square, times a weight. -/
def rowNorm (v : FVec Ideal S1024x2048 .f32) (w : FVec Ideal S1x2048 .f32) (y : S1024x2048.Idx) : EReal :=
  v y * Ideal.rsqrt (Ideal.div (∑ l : Fin 2048, v (ix2 (y 0) l) * v (ix2 (y 0) l)) (Ideal.ofBits .f32 0x45000000#32)
        + Ideal.ofBits .f32 0x358637BD#32) * w (ix2 0 (y 1))

/-- Rows times the transpose of 512 rows of the weight. -/
def half (h : FVec Ideal S1024x2048 .bf16) (w : FVec Ideal S512x2048 .f32) (y : S1024x512.Idx) : EReal :=
  ∑ k : Fin 2048, h (ix2 (y 0) k) * w (ix2 (y 1) k)

/-- Rows times the transpose of the gate rows of the weight. -/
def gateSum (h : FVec Ideal S1024x2048 .bf16) (w : FVec Ideal S128x2048 .bf16) (y : S1024x128.Idx) : EReal :=
  ∑ k : Fin 2048, h (ix2 (y 0) k) * w (ix2 (y 1) k)

/-- Lane `l` of the first half of its head is 1, of the second 0. -/
def early (l : ℕ) : BitVec 1 := if l % 64 < 32 then 1#1 else 0#1

/-- 128 lanes from lane `o` on, turned by the blocks `C` and `S`; the other lane of a pair is 32 lanes on or back. -/
def turn (A : FVec Ideal S1024x512 .f32) (C S : FVec Ideal S1024x128 .f32) (M : IVec S1024x128 1) (o : ℕ) (ho : o + 128 ≤ 512) (y : S1024x128.Idx) : EReal :=
  A (ix2 (y 0) ⟨o + (y 1).val, by have : (y 1).val < 128 := (y 1).isLt; omega⟩) * C y
    + Scalar.select (M y) (A (ix2 (y 0) ⟨o + ((y 1).val + 128 - 96) % 128, by omega⟩)) (A (ix2 (y 0) ⟨o + ((y 1).val + 128 - 32) % 128, by omega⟩)) * S y

/-- The softplus as the kernel writes it. -/
def soft (x : EReal) : EReal :=
  max x 0 + Ideal.log1p (Ideal.exp (0 - (FloatOps.absf (F := Ideal) (φ := .f32) x : EReal)))

variable (v : FVec Ideal S1024x2048 .f32) (n : FVec Ideal S1x2048 .f32) (h : FVec Ideal S1024x2048 .bf16) (w : FVec Ideal S512x2048 .f32)
  (C S : FVec Ideal S1024x128 .f32) (M : IVec S1024x128 1) (A : FVec Ideal S1024x512 .f32)

theorem pay5 (y) : k0_pay5 (F := Ideal) v n y = rowNorm v n y := by pointwise [k0_pay5, rowNorm]
theorem pay6 (y) : k0_pay6 (F := Ideal) v n y = rowNorm v n y := by pointwise [k0_pay6, k0_pay5, rowNorm]
theorem pay3 (y) : k0_pay3 (F := Ideal) h w y = half h w y := by pointwise [k0_pay3, half]
theorem pay4 (y) : k0_pay4 (F := Ideal) h w y = half h w y := by pointwise [k0_pay4, half]
theorem pay21 (y) : k0_pay21 (F := Ideal) h w y = half h w y := by pointwise [k0_pay21, half]
theorem pay26 (y) : k0_pay26 (F := Ideal) h w y = half h w y := by pointwise [k0_pay26, half]
theorem pay36 (y) : k0_pay36 (F := Ideal) h w y = half h w y := by pointwise [k0_pay36, half]
theorem pay43 (y) : k0_pay43 (F := Ideal) h w y = half h w y := by pointwise [k0_pay43, half]
theorem mask35 (y) : k0_pay35 y = early ((y 1).val) := by
  pointwise [k0_pay35, early]
  obtain ⟨l, hl⟩ : ∃ l : Fin 128, l = y 1 := ⟨_, rfl⟩
  rw [← hl]
  clear hl
  revert l
  decide +kernel
theorem mask20 (y) : k0_pay20 (Scalar.select (Scalar.cmpi .eq 64#32 0#32) 1#32 64#32) k0_pay16 k0_pay17 k0_pay18 k0_pay19 y = early ((y 1).val) := by
  pointwise [k0_pay20, k0_pay16, k0_pay17, k0_pay18, k0_pay19, early]
  obtain ⟨l, hl⟩ : ∃ l : Fin 128, l = y 1 := ⟨_, rfl⟩
  rw [← hl]
  clear hl
  revert l
  decide +kernel
theorem pay22 (a b d e f y) : k0_pay22 (F := Ideal) h C S a b d e f w y = turn (half h w) C S (k0_pay20 a b d e f) 0 (by norm_num) y := by pointwise [k0_pay22, k0_pay21, turn, half]
theorem pay23 (a b d e f y) : k0_pay23 (F := Ideal) h C S a b d e f w y = turn (half h w) C S (k0_pay20 a b d e f) 128 (by norm_num) y := by pointwise [k0_pay23, k0_pay21, turn, half]
theorem pay24 (a b d e f y) : k0_pay24 (F := Ideal) h C S a b d e f w y = turn (half h w) C S (k0_pay20 a b d e f) 256 (by norm_num) y := by pointwise [k0_pay24, k0_pay21, turn, half]
theorem pay25 (y) : k0_pay25 (F := Ideal) C S M A y = turn A C S M 384 (by norm_num) y := by pointwise [k0_pay25, turn]
theorem pay40 (y) : k0_pay40 (F := Ideal) C S M A y = turn A C S M 128 (by norm_num) y := by pointwise [k0_pay40, turn]
theorem pay41 (y) : k0_pay41 (F := Ideal) C S M A y = turn A C S M 256 (by norm_num) y := by pointwise [k0_pay41, turn]
theorem pay42 (y) : k0_pay42 (F := Ideal) C S M A y = turn A C S M 384 (by norm_num) y := by pointwise [k0_pay42, turn]
theorem pay2 (y) : k0_pay2 (F := Ideal) C S M A y = turn A C S M 384 (by norm_num) y := by pointwise [k0_pay2, turn]
theorem pay1 (y) : k0_pay1 (F := Ideal) (k0_pay30 h C w) (k0_pay31 h S M w) y = turn (half h w) C S M 256 (by norm_num) y := by pointwise [k0_pay1, k0_pay30, k0_pay31, k0_pay29, k0_pay26, turn, half]
theorem pay27 (y) : k0_pay27 (F := Ideal) h C S M w y = turn (half h w) C S M 0 (by norm_num) y := by pointwise [k0_pay27, k0_pay26, turn, half]
theorem pay28 (y) : k0_pay28 (F := Ideal) h C S M w y = turn (half h w) C S M 128 (by norm_num) y := by pointwise [k0_pay28, k0_pay26, turn, half]
theorem pay44 (y) : k0_pay44 (F := Ideal) C S M h w y = turn (half h w) C S M 0 (by norm_num) y := by pointwise [k0_pay44, k0_pay43, turn, half]
theorem pay45 (y) : k0_pay45 (F := Ideal) C S M h w y = turn (half h w) C S M 128 (by norm_num) y := by pointwise [k0_pay45, k0_pay43, turn, half]
theorem pay46 (y) : k0_pay46 (F := Ideal) C S M h w y = turn (half h w) C S M 256 (by norm_num) y := by pointwise [k0_pay46, k0_pay43, turn, half]
theorem pay47 (y) : k0_pay47 (F := Ideal) C S M h w y = turn (half h w) C S M 384 (by norm_num) y := by pointwise [k0_pay47, k0_pay43, turn, half]
theorem pay39 (y) : k0_pay39 (F := Ideal) C S M (k0_pay37 h w) (k0_pay38 h w) 32#32 y = turn (half h w) C S M 0 (by norm_num) y := by pointwise [k0_pay39, k0_pay38, k0_pay37, k0_pay36, turn, half]
theorem low : ∀ l : Fin 128, IntOp.cmpi CmpIPredicate.slt (BitVec.ofNat 32 l.val) 8#32 = if l.val < 8 then 1#1 else 0#1 := by decide +kernel
theorem pay12 (w : FVec Ideal S128x2048 .bf16) (a b : FVec Ideal S1x128 .f32) (y) :
    k0_pay12 (F := Ideal) (k0_pay7 v n w) k0_pay8 (k0_pay9 v n w) (k0_pay10 a) (k0_pay11 b) y
    = if (y 1).val < 8 then Ideal.ofBits .f32 0x3F000000#32 * Ideal.tanh (Ideal.ofBits .f32 0x3F000000#32 * gateSum (rowNorm v n) w y) + Ideal.ofBits .f32 0x3F000000#32
      else (0 - Ideal.exp (a (ix2 0 (y 1)))) * soft (gateSum (rowNorm v n) w y + b (ix2 0 (y 1))) := by
  pointwise [k0_pay12, k0_pay7, k0_pay8, k0_pay9, k0_pay10, k0_pay11, k0_pay5, gateSum, rowNorm, soft]
  rw [show IntOp.cmpi CmpIPredicate.slt (BitVec.ofNat 32 (y 1).val) 8#32 = _ from low (y 1)]
  simp only [ne_eq, not_true_eq_false, if_false]
  by_cases hl : (y 1).val < 8
  · rw [if_pos hl, if_pos hl]; rfl
  · rw [if_neg hl, if_neg hl]; rfl

end Cert.InProof
end
-- ==== Proof.In.Pieces.lean ====
/- What the pieces that one grid point of the input projection stores read, entry by entry. -/
module

public import proofs.«01_k».proof.Proof.In.Data
public import proofs.«01_k».proof.Proof.In.Block
public import Idealize.ShloMosaic.Lib.Pipeline.ReadBack

@[expose] public section

set_option maxRecDepth 16384

noncomputable section

namespace Cert.InProof

open Cert.InIdeal Cert.InIdeal.Gen Idealize.ShloMosaic Idealize.ShloMosaic.TcCoe Idealize.SL.Sem

/-- Row `r` of the rows times row `1024 b + q` of the weight. -/
def tap (h : FVec Ideal S1024x2048 .bf16) (W : FVec Ideal S7184x2048 .f32) (b : ℕ) (r : Fin 1024) (q : ℕ) : EReal :=
  ∑ k : Fin 2048, h (ix2 r k) * W (ix2 ⟨(1024 * b + q) % 7184, Nat.mod_lt _ (by norm_num)⟩ k)

/-- A block of the projection turned by the blocks `C` and `S`. -/
def spun (h : FVec Ideal S1024x2048 .bf16) (W : FVec Ideal S7184x2048 .f32) (b : ℕ) (C S : FVec Ideal S1024x128 .f32) (y : S1024x1024.Idx) : EReal :=
  tap h W b (y 0) (y 1).val * C (ix2 (y 0) ⟨(y 1).val % 128, Nat.mod_lt _ (by norm_num)⟩)
    + Scalar.select (early (y 1).val) (tap h W b (y 0) ((y 1).val + 32)) (tap h W b (y 0) ((y 1).val - 32))
      * S (ix2 (y 0) ⟨(y 1).val % 128, Nat.mod_lt _ (by norm_num)⟩)

theorem sel_one (a b : EReal) : Scalar.select 1#1 a b = a := rfl
theorem sel_zero (a b : EReal) : Scalar.select 0#1 a b = b := rfl

section Turn
variable (h : FVec Ideal S1024x2048 .bf16) (W : FVec Ideal S7184x2048 .f32) (b p : ℕ) (w : FVec Ideal S512x2048 .f32)
  (hw : ∀ (r : Fin 512) (k : Fin 2048), w (ix2 r k) = W (ix2 ⟨(1024 * b + (p + r.val)) % 7184, Nat.mod_lt _ (by norm_num)⟩ k))
include hw

/-- Half a block of the projection, from row `p` of the tile on. -/
theorem half_at (r : Fin 1024) (q : Fin 512) : half h w (ix2 r q) = tap h W b r (p + q.val) := by
  unfold half tap
  exact Finset.sum_congr rfl fun k _ => by rw [← hw]; rfl

/-- The pieces without rotation. -/
theorem half_piece (x : S1024x512.Idx) (y : S1024x1024.Idx) (e0 : (y 0).val = (x 0).val) (e1 : (y 1).val = p + (x 1).val) :
    half h w x = tap h W b (y 0) (y 1).val := by
  obtain ⟨r, q, rfl⟩ : ∃ (r : Fin 1024) (q : Fin 512), x = ix2 r q := ⟨x 0, x 1, by pointwise []⟩
  obtain ⟨r', q', rfl⟩ : ∃ (r : Fin 1024) (q : Fin 1024), y = ix2 r q := ⟨y 0, y 1, by pointwise []⟩
  obtain rfl : r' = r := Fin.ext e0
  refine (half_at h W b p w hw r' q).trans ?_
  show _ = tap h W b r' q'.val
  rw [show q'.val = p + q.val from e1]

/-- The pieces with rotation. -/
theorem turn_piece (C S : FVec Ideal S1024x128 .f32) (M : IVec S1024x128 1) (o : ℕ) (ho : o + 128 ≤ 512) (x : S1024x128.Idx) (y : S1024x1024.Idx)
    (hM : M x = early (x 1).val) (e0 : (y 0).val = (x 0).val) (e1 : (y 1).val = p + o + (x 1).val) (hd : (p + o) % 128 = 0) :
    turn (half h w) C S M o ho x = spun h W b C S y := by
  obtain ⟨r, l, rfl⟩ : ∃ (r : Fin 1024) (q : Fin 128), x = ix2 r q := ⟨x 0, x 1, by pointwise []⟩
  obtain ⟨r', q, rfl⟩ : ∃ (r : Fin 1024) (q : Fin 1024), y = ix2 r q := ⟨y 0, y 1, by pointwise []⟩
  obtain rfl : r' = r := Fin.ext e0
  have hq : q.val = p + o + l.val := e1
  have hx := l.isLt
  have hl : (⟨q.val % 128, Nat.mod_lt _ (by norm_num)⟩ : Fin 128) = l := Fin.ext (by show q.val % 128 = _; omega)
  have he : early q.val = early l.val := by
    unfold early
    have : q.val % 64 = l.val % 64 := by omega
    rw [this]
  show half h w (ix2 r' ⟨o + l.val, _⟩) * C (ix2 r' l) + Scalar.select (M (ix2 r' l)) (half h w (ix2 r' ⟨o + (l.val + 128 - 96) % 128, _⟩))
      (half h w (ix2 r' ⟨o + (l.val + 128 - 32) % 128, _⟩)) * S (ix2 r' l)
    = tap h W b r' q.val * C (ix2 r' ⟨q.val % 128, _⟩) + Scalar.select (early q.val) (tap h W b r' (q.val + 32)) (tap h W b r' (q.val - 32)) * S (ix2 r' ⟨q.val % 128, _⟩)
  rw [show M (ix2 r' l) = early l.val from hM, hl, he, half_at h W b p w hw, half_at h W b p w hw, half_at h W b p w hw]
  dsimp only
  rw [show p + (o + l.val) = q.val by omega]
  congr 2
  have hp : p + (o + (l.val + 128 - 96) % 128) = p + o + (l.val + 32) % 128 ∧ p + (o + (l.val + 128 - 32) % 128) = p + o + (l.val + 96) % 128 := by omega
  rw [hp.1, hp.2]
  unfold early
  by_cases hl : l.val % 64 < 32
  · have : p + o + (l.val + 32) % 128 = q.val + 32 := by omega
    rw [if_pos hl, this, sel_one, sel_one]
  · have : p + o + (l.val + 96) % 128 = q.val - 32 := by omega
    rw [if_neg hl, this, sel_zero, sel_zero]
end Turn

/-- What a block's pieces leave, whatever lay there before. -/
theorem made_eq {s : Shape} {e : EltTy} (M : Memref sig .tc .vmem s e) (L : List (View.Piece (Elt Ideal) s e)) : made M L = View.canon L :=
  View.read_writes_junk_eq_canon _ L

theorem zeros : (![0, 0] : Fin 2 → ℕ) = fun _ => 0 := by decide

/-- A load of a whole array reads it. -/
theorem load_whole {a b : ℕ} {e : EltTy} (M : Memref sig .tc .vmem (⟨2, ![a, b]⟩ : Shape) e) (hM : M.IsWhole) (X : Vec Ideal (⟨2, ![a, b]⟩ : Shape) e) (inb) :
    View.readAt (Elt Ideal) M.view (Rect.unit (s := (⟨2, ![a, b]⟩ : Shape)) ![0, 0] ![a, b] inb).toLoadRect (hM.unread X) = X := by
  rw [View.readAt_eq_ld, hM.read_unread]
  exact View.ld_unit_zero zeros inb X

/-- A load of half a slot that holds a tile of the weight. -/
theorem load_half (W : FVec Ideal S7184x2048 .f32) (s : Fin 3) (b : Fin 56) (p : ℕ) (hp : p ≤ 512) (inb) (r : Fin 512) (k : Fin 2048) :
    (slot s).view.readCov [⟨Rect.whole S1024x2048, ReadAs.same.apply (View.read (Elt Ideal) (tile b).view W)⟩]
      (Rect.unit (s := S1024x2048) ![p, 0] ![512, 2048] inb).toLoadRect (ix2 r k)
      = W (ix2 ⟨(1024 * (b.val % 7) + (p + r.val)) % 7184, Nat.mod_lt _ (by norm_num)⟩ k) := by
  have hr := r.isLt
  have hb : b.val % 7 < 7 := Nat.mod_lt _ (by norm_num)
  have e : View.canon [(⟨Rect.whole S1024x2048, ReadAs.same.apply (View.read (Elt Ideal) (tile b).view W)⟩ : View.Piece (Elt Ideal) S1024x2048 .f32)]
      = ReadAs.same.apply (View.read (Elt Ideal) (tile b).view W) :=
    funext fun y => by
      have e := View.canon_cons_emb (Val := Elt Ideal) (Rect.whole S1024x2048) (ReadAs.same.apply (View.read (Elt Ideal) (tile b).view W)) [] y
      rw [Rect.emb_whole_apply] at e
      exact e
  rw [View.readCov_eq_canon']
  refine (congrFun e _).trans ?_
  refine (View.ld_unit_apply_of (S := S1024x2048) (Val := Elt Ideal) (e := .f32) (View.read (Elt Ideal) (tile b).view W) ![p, 0] ![512, 2048] inb (ix2 r k) (ix2 ⟨p + r.val, by omega⟩ k) (Fin.forall_fin_two.2 ⟨rfl, (Nat.zero_add _).symm⟩)).trans ?_
  refine (View.ld_unit_apply_of (S := S7184x2048) (Val := Elt Ideal) (e := .f32) W ![1024 * (b.val % 7), 0] ![1024, 2048] (tile_fits b) (ix2 ⟨p + r.val, by omega⟩ k) (ix2 ⟨1024 * (b.val % 7) + (p + r.val), by omega⟩ k) (Fin.forall_fin_two.2 ⟨rfl, (Nat.zero_add _).symm⟩)).trans ?_
  exact congrArg W (congrArg (fun q => ix2 q k) (Fin.ext (Nat.mod_eq_of_lt (by omega)).symm))

variable (m : (ℓ : Loc nD τ sig) → Buf (Elt Ideal) ℓ) (c : Dev nD) (t : Fin cfg0.N)

/-- The block that a step takes of the weight. -/
theorem block_of : (Ring.bk 56 t.val).val % 7 = t.val % 7 := by
  have hN : t.val < 56 := t.isLt
  show t.val % 56 % 7 = t.val % 7
  rw [Nat.mod_eq_of_lt hN]

/-- A load of half the slot that the step uses. -/
theorem step_half (W : FVec Ideal S7184x2048 .f32) (p : ℕ) (hp : p ≤ 512) (inb) (r : Fin 512) (k : Fin 2048) :
    (slot (Ring.sl 3 t.val)).view.readCov [⟨Rect.whole S1024x2048, ReadAs.same.apply (View.read (Elt Ideal) (tile (Ring.bk 56 t.val)).view W)⟩]
      (Rect.unit (s := S1024x2048) ![p, 0] ![512, 2048] inb).toLoadRect (ix2 r k)
      = W (ix2 ⟨(1024 * (t.val % 7) + (p + r.val)) % 7184, Nat.mod_lt _ (by norm_num)⟩ k) := by
  refine (load_half W _ (Ring.bk 56 t.val) p hp inb r k).trans ?_
  have := block_of t
  refine congrArg W (congrArg (fun q => ix2 q k) (Fin.ext ?_))
  show (1024 * ((Ring.bk 56 t.val).val % 7) + _) % 7184 = _
  rw [this]

/-- The upper or lower half of the tile that a step uses. -/
abbrev halfW (W : FVec Ideal S7184x2048 .f32) (p : ℕ) (inb : ∀ a, (![p, 0] : Fin 2 → ℕ) a + (![512, 2048] : Fin 2 → ℕ) a ≤ S1024x2048.size a) : FVec Ideal S512x2048 .f32 :=
  (slot (Ring.sl 3 t.val)).view.readCov [⟨Rect.whole S1024x2048, ReadAs.same.apply (View.read (Elt Ideal) (tile (Ring.bk 56 t.val)).view W)⟩]
      (Rect.unit (s := S1024x2048) ![p, 0] ![512, 2048] inb).toLoadRect

/-- A piece with rotation, once its parts are known. -/
theorem turn_to (h : FVec Ideal S1024x2048 .bf16) (W : FVec Ideal S7184x2048 .f32) (p : ℕ) (hp : p ≤ 512) (inb) (A : FVec Ideal S1024x512 .f32)
    (eA : A = half h (halfW t W p inb)) (C C' S S' : FVec Ideal S1024x128 .f32) (eC : C = C') (eS : S = S') (M : IVec S1024x128 1)
    (hM : ∀ x : S1024x128.Idx, M x = early (x 1).val) (o : ℕ) (ho : o + 128 ≤ 512) (hd : (p + o) % 128 = 0) (x : S1024x128.Idx) (y : S1024x1024.Idx)
    (e0 : (y 0).val = (x 0).val) (e1 : (y 1).val = p + o + (x 1).val) :
    turn A C S M o ho x = spun h W (t.val % 7) C' S' y := by
  subst eA eC eS
  exact turn_piece h W _ p _ (step_half t W p hp inb) C S M o ho x y (hM x) e0 e1 hd

end Cert.InProof
end
-- ==== Proof.In.Array.lean ====
/- What the blocks of the input projection hold, entry by entry, in terms of its arguments. -/
module

public import proofs.«01_k».proof.Proof.In.Pieces
public import Idealize.ShloMosaic.Lib.Pipeline.ReadBack
public import Idealize.ShloMosaic.Lib.Claim

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD)

/-- The residual stream. -/
abbrev ax : FVec Ideal S8192x2048 .f32 := m ((c : Thread nD τ).loc main_arg0)
/-- The norm's weight. -/
abbrev anw : FVec Ideal S1x2048 .f32 := m ((c : Thread nD τ).loc main_arg1)
/-- The projection's weight. -/
abbrev aw : FVec Ideal S2048x7184 .f32 := m ((c : Thread nD τ).loc main_arg2)
/-- The logarithms of the decay rates. -/
abbrev alog : FVec Ideal S8 .f32 := m ((c : Thread nD τ).loc main_arg3)
/-- The biases of the decay gates. -/
abbrev adt : FVec Ideal S8 .f32 := m ((c : Thread nD τ).loc main_arg4)

/-- There are 56 grid points. -/
theorem points : cfg0.N = 56 := (by decide +kernel : grid0.N = 56)

/-- Which block of its array each window holds at each grid point. -/
theorem idx : ∀ t : Fin cfg0.N, win0_0.index t = ![t.val / 7, 0] ∧ win0_1.index t = ![0, 0] ∧ win0_2.index t = ![0, 0]
    ∧ win0_3.index t = ![0, 0] ∧ win0_4.index t = ![0, 0] ∧ win0_5.index t = ![t.val / 7 % 4, 0] ∧ win0_6.index t = ![t.val / 7 % 4, 0]
    ∧ win0_7.index t = ![t.val / 7, t.val % 7] ∧ win0_8.index t = ![t.val / 7, 0] :=
  (by decide +kernel : ∀ t : Fin grid0.N, _)

/-- The array's row behind row `r` of the block of point `t`. -/
def row (t : Fin cfg0.N) (r : Fin 1024) : Fin 8192 := ⟨(t.val / 7 * 1024 + r.val) % 8192, Nat.mod_lt _ (by norm_num)⟩

theorem row_val (t : Fin cfg0.N) (r : Fin 1024) : (row t r).val = t.val / 7 * 1024 + r.val := by
  have ht := t.isLt
  have hn := points
  show (t.val / 7 * 1024 + r.val) % 8192 = _
  omega

/-- The block of rows of the residual stream at point `t`. -/
theorem blk0 (t : Fin cfg0.N) (r : Fin 1024) (k : Fin 2048) : iblk m c 0 t (ix2 r k) = ax m c (ix2 (row t r) k) := by
  have h := row_val t r
  blk_point [iblk, V, idx t]
  all_goals omega

/-- The norm's weight at every point. -/
theorem blk1 (t : Fin cfg0.N) (k : Fin 2048) : iblk m c 1 t (ix2 0 k) = anw m c (ix2 0 k) := by
  blk_point [iblk, V, idx t]

/-- The weight the kernel copies from is the argument's transpose. -/
theorem given_weight (n : Fin 7184) (k : Fin 2048) : V m c main_v0 (ix2 n k) = aw m c (ix2 k n) := by
  simp only [V, hostOps0, hostOps0_1, hostOps0_2, hostOps0_3, hostOps0_4, hostOps0_5, hostOps0_6, List.flatten_cons, List.flatten_nil, List.append_nil, List.cons_append, List.nil_append]
  entry_read
  pointwise []

end Cert.InProof
-- ==== Proof.In.Angle.lean ====
/- The angles of the rotary embedding. -/
module

public import Idealize.ShloMosaic.Lib.Pipeline.ValueKit

@[expose] public section

noncomputable section

namespace Cert.InProof

open Idealize.ShloMosaic

/-- The angle of position `s` at frequency `f`: the position times ten thousand to the power of
minus twice the frequency's number over 64. -/
def angle (s f : ℕ) : EReal :=
  FloatOps.sitofp (F := Ideal) FTy.f32 (BitVec.ofNat 32 s) *
    Ideal.pow (Ideal.ofBits FTy.f32 1176256512#32)
      (Ideal.div (-(Ideal.ofBits FTy.f32 1073741824#32 * FloatOps.sitofp (F := Ideal) FTy.f32 (BitVec.ofNat 32 f))) (Ideal.ofBits FTy.f32 1115684864#32))

/-- The softplus of a number: the larger of it and zero, plus the logarithm of one plus the
exponential of minus its size. -/
def softplus (x : EReal) : EReal := max x 0 + Ideal.log1p (Ideal.exp (-(FloatOps.absf (F := Ideal) (φ := .f32) x : EReal)))

end Cert.InProof
-- ==== Proof.In.Tables.lean ====
/- What the arrays the host prepares for the input projection hold: the gates' weight, the rows of
decay rates and biases, and the two tables of the rotary embedding. -/
module

public import proofs.«01_k».proof.Proof.In.Array
public import proofs.«01_k».proof.Proof.In.Angle
public import Idealize.ShloMosaic.Lib.KernelVsHost

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD)

/-- The table of cosines. -/
theorem host_cos (s : Fin 4096) (l : Fin 128) : V m c main_v27 (ix2 s l) = Ideal.cos (angle s.val (l.val % 32)) := by
  simp only [V, hostOps0, hostOps0_1, hostOps0_2, hostOps0_3, hostOps0_4, hostOps0_5, hostOps0_6, List.flatten_cons, List.flatten_nil, List.append_nil, List.cons_append, List.nil_append]
  entry_read
  pointwise [angle]

/-- The table of sines, the first half of every head negated. -/
theorem host_sin (s : Fin 4096) (l : Fin 128) :
    V m c main_v34 (ix2 s l) = if l.val % 64 < 32 then -Ideal.sin (angle s.val (l.val % 32)) else Ideal.sin (angle s.val (l.val % 32)) := by
  simp only [V, hostOps0, hostOps0_1, hostOps0_2, hostOps0_3, hostOps0_4, hostOps0_5, hostOps0_6, List.flatten_cons, List.flatten_nil, List.append_nil, List.cons_append, List.nil_append]
  entry_read
  pointwise []
  by_cases h : l.val % 64 < 32
  · rw [dif_pos h, if_pos h]
    have e : l.val % 64 = l.val % 32 := by omega
    rw [e]
    rfl
  · rw [dif_neg h, if_neg h]
    have e : l.val % 64 - 32 = l.val % 32 := by omega
    rw [e]
    rfl

/-- The gates' weight is the last sixteen columns of the argument. -/
theorem host_gates (g : Fin 128) (k : Fin 2048) (h : g.val < 16) :
    V m c main_v3 (ix2 g k) = aw m c (ix2 k ⟨7168 + g.val, by omega⟩) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dif_pos h

/-- The gates' weight is zero beyond. -/
theorem host_gates_pad (g : Fin 128) (k : Fin 2048) (h : ¬g.val < 16) : V m c main_v3 (ix2 g k) = (0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact (dif_neg h).trans (sitofp_zero (φ := .f32))

/-- The row of decay rates. -/
theorem host_alog (g : Fin 128) (h : 8 ≤ g.val ∧ g.val < 16) : V m c main_v5 (ix2 0 g) = alog m c (ix1 ⟨g.val - 8, by omega⟩) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dif_pos ⟨h.1, by omega⟩

theorem host_alog_pad (g : Fin 128) (h : ¬g.val < 16) : V m c main_v5 (ix2 0 g) = (0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact (dif_neg (by omega)).trans (sitofp_zero (φ := .f32))

/-- The row of biases. -/
theorem host_bias (g : Fin 128) (h : 8 ≤ g.val ∧ g.val < 16) : V m c main_v7 (ix2 0 g) = adt m c (ix1 ⟨g.val - 8, by omega⟩) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dif_pos ⟨h.1, by omega⟩

theorem host_bias_pad (g : Fin 128) (h : ¬g.val < 16) : V m c main_v7 (ix2 0 g) = (0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact (dif_neg (by omega)).trans (sitofp_zero (φ := .f32))

end Cert.InProof
-- ==== Proof.In.Gate.lean ====
/- Facts of real arithmetic the input projection's equation needs: the logistic by a hyperbolic
tangent, the rotation with its scale drawn out, and the softplus in its two spellings. -/
module

public import proofs.«01_k».proof.Proof.In.Pieces
public import proofs.«01_k».proof.Proof.In.Angle
public import Idealize.ShloMosaic.Lib.IdealHost

@[expose] public section

noncomputable section

namespace Cert.InProof

open Idealize.ShloMosaic

theorem one_half : Ideal.ofBits .f32 0x3F000000#32 = ((1 / 2 : ℝ) : EReal) := by
  simp [Ideal.ofBits, Ideal.ieee, -EReal.coe_mul]
  norm_num

/-- The identity on the real numbers. -/
theorem logistic_real (r : ℝ) : 1 / 2 * Real.tanh (1 / 2 * r) + 1 / 2 = (1 + Real.exp (-r))⁻¹ := by
  have hp : 0 < Real.exp (1 / 2 * r) := Real.exp_pos _
  have hq : 0 < Real.exp (-(1 / 2 * r)) := Real.exp_pos _
  have he : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, he]
  generalize Real.exp (1 / 2 * r) = p at *
  generalize Real.exp (-(1 / 2 * r)) = q at *
  have hs : 0 < p + q := by positivity
  have h2 : (1 + q * q) = q * (p + q) := by linarith [h1, mul_comm p q, mul_add q p q]
  rw [h2]
  field_simp
  linear_combination (2 : ℝ) * h1

/-- Half the hyperbolic tangent of half a number, plus one half, is its logistic. -/
theorem logistic_eq (z : EReal) :
    Ideal.ofBits .f32 0x3F000000#32 * Ideal.tanh (Ideal.ofBits .f32 0x3F000000#32 * z) + Ideal.ofBits .f32 0x3F000000#32
      = Ideal.div 1 (1 + Ideal.exp (-z)) := by
  rw [one_half]
  have h0 : (0 : ℝ) < 1 / 2 := by norm_num
  induction z using EReal.rec with
  | bot =>
    rw [EReal.coe_mul_bot_of_pos h0]
    have e1 : Ideal.tanh ⊥ = ((-1 : ℝ) : EReal) := rfl
    rw [e1, ← EReal.coe_mul, ← EReal.coe_add]
    norm_num
    have e2 : (1 : EReal) + ⊤ = ⊤ := rfl
    simp [Ideal.div, e2]
  | top =>
    rw [EReal.coe_mul_top_of_pos h0]
    have e1 : Ideal.tanh ⊤ = ((1 : ℝ) : EReal) := rfl
    rw [e1, ← EReal.coe_mul, ← EReal.coe_add]
    norm_num
    simp [Ideal.div]
  | coe r =>
    have h1 : (1 : ℝ) + Real.exp (-r) ≠ 0 := by positivity
    have e1 : Ideal.exp (-(r : EReal)) = ((Real.exp (-r) : ℝ) : EReal) := by rw [← EReal.coe_neg]; rfl
    have e2 : Ideal.div 1 (1 + ((Real.exp (-r) : ℝ) : EReal)) = (((1 + Real.exp (-r))⁻¹ : ℝ) : EReal) := by
      have e3 : (1 : EReal) + ((Real.exp (-r) : ℝ) : EReal) = ((1 + Real.exp (-r) : ℝ) : EReal) := by rw [EReal.coe_add]; rfl
      rw [e3]
      unfold Ideal.div
      rw [if_neg (by exact_mod_cast h1), one_mul, ← EReal.coe_inv]
    rw [e1, e2, ← EReal.coe_mul, Ideal.tanh_coe, ← EReal.coe_mul, ← EReal.coe_add, logistic_real]

theorem soft_eq (x : EReal) : soft x = softplus x := by
  unfold soft softplus
  rw [zero_sub]

/-- The queries' scale is a positive number. -/
theorem scale_pos : 0 ≤ Ideal.ofBits .f32 0x3E38AA3B#32 ∧ Ideal.ofBits .f32 0x3E38AA3B#32 ≠ ⊤ := by
  have h : Ideal.ofBits .f32 0x3E38AA3B#32 = ((12102203 / 67108864 : ℝ) : EReal) := by
    simp [Ideal.ofBits, Ideal.ieee, -EReal.coe_mul]
    norm_num
  rw [h]
  exact ⟨EReal.coe_nonneg.2 (by norm_num), EReal.coe_ne_top _⟩

/-- A lane of the first half: the scale comes out of the rotation. -/
theorem rotate_early (a b c s k : EReal) (h0 : 0 ≤ k) (h1 : k ≠ ⊤) : a * (c * k) + b * (-s * k) = (a * c - b * s) * k := by
  rw [sub_eq_add_neg, EReal.right_distrib_of_nonneg_of_ne_top h0 h1, mul_assoc, neg_mul, neg_mul, mul_assoc, mul_neg]

/-- A lane of the second half. -/
theorem rotate_late (a b c s k : EReal) (h0 : 0 ≤ k) (h1 : k ≠ ⊤) : a * (c * k) + b * (s * k) = (a * c + b * s) * k := by
  rw [EReal.right_distrib_of_nonneg_of_ne_top h0 h1, mul_assoc, mul_assoc]

end Cert.InProof
-- ==== Proof.In.RefValue.lean ====
/- What the reference of the input projection computes, entry by entry. -/
module

public import proofs.«01_k».proof.Proof.Gen.InRefIdeal.Read
public import proofs.«01_k».proof.Proof.In.Angle
public import Idealize.ShloMosaic.Lib.Pipeline.ValueKit

@[expose] public section

set_option maxRecDepth 16384

noncomputable section

namespace Cert.InRefProof

open Cert.InRefIdeal Cert.InRefIdeal.Read Cert.InProof Idealize.ShloMosaic Idealize.ShloMosaic.TcCoe Idealize.SL.Sem

variable (x0 : FVec Ideal S8192x2048 .f32) (x1 : FVec Ideal S1x2048 .f32) (x2 : FVec Ideal S2048x7184 .f32) (x3 x4 : FVec Ideal S8 .f32)

/-- The projection: the normalised row `r` against column `n` of the weight. -/
def column (r : Fin 8192) (n : ℕ) : EReal :=
  ∑ k : Fin 2048, x0 (ix2 r k) * Ideal.rsqrt (Ideal.div (∑ l : Fin 2048, x0 (ix2 r l) * x0 (ix2 r l)) (Ideal.ofBits .f32 0x45000000#32)
        + Ideal.ofBits .f32 0x358637BD#32) * x1 (ix2 0 k) * x2 (ix2 k ⟨n % 7184, Nat.mod_lt _ (by norm_num)⟩)

theorem proj (r : Fin 8192) (n : Fin 7184) : val_main_v14 (F := Ideal) x0 x1 x2 (ix2 r n) = column x0 x1 x2 r n.val := by
  have e : (⟨n.val % 7184, Nat.mod_lt _ (by norm_num)⟩ : Fin 7184) = n := Fin.ext (Nat.mod_eq_of_lt n.isLt)
  unfold column
  rw [e]
  simp only [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  pointwise []

/-- The rotary embedding of a row of heads: entry `q` from its own value and the one 32 lanes on or back. -/
def rotated (p : ℕ → EReal) (s q : ℕ) : EReal :=
  if q % 64 < 32 then p q * Ideal.cos (angle s (q % 32)) - p (q + 32) * Ideal.sin (angle s (q % 32))
  else p q * Ideal.cos (angle s (q % 32)) + p (q - 32) * Ideal.sin (angle s (q % 32))

theorem rotated_early (p : ℕ → EReal) (s q : ℕ) (h : q % 64 < 32) :
    rotated p s q = p q * Ideal.cos (angle s (q % 32)) - p (q + 32) * Ideal.sin (angle s (q % 32)) := if_pos h
theorem rotated_late (p : ℕ → EReal) (s q : ℕ) (h : ¬q % 64 < 32) :
    rotated p s q = p q * Ideal.cos (angle s (q % 32)) + p (q - 32) * Ideal.sin (angle s (q % 32)) := if_neg h

theorem queries_cos (s : Fin 4096) (f : Fin 32) : val_main_v33 (F := Ideal) (ix2 s f) = Ideal.cos (angle s.val f.val) := by
  simp only [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v35, val_main_cst_2, val_main_cst_3, val_main_cst_4, val_main_cst_5]
  pointwise [angle]

theorem queries_sin (s : Fin 4096) (f : Fin 32) : val_main_v35 (F := Ideal) (ix2 s f) = Ideal.sin (angle s.val f.val) := by
  simp only [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v35, val_main_cst_2, val_main_cst_3, val_main_cst_4, val_main_cst_5]
  pointwise [angle]

set_option maxHeartbeats 2000000 in
/-- The rotated queries. -/
theorem queries (r : Fin 8192) (q : Fin 1024) :
    val_main_v50 (F := Ideal) x0 x1 x2 (ix2 r q) = rotated (fun q => column x0 x1 x2 r (0 + q)) (r.val % 4096) q.val := by
  have hp := proj x0 x1 x2 r
  have hC := queries_cos
  have hS := queries_sin
  simp only [val_main_v15, val_main_v16, val_main_v34, val_main_v36, val_main_v37, val_main_v38, val_main_v39, val_main_v40, val_main_v41, val_main_v42, val_main_v43, val_main_v44, val_main_v45, val_main_v46, val_main_v47, val_main_v48, val_main_v49, val_main_v50]
  generalize val_main_v14 (F := Ideal) x0 x1 x2 = p at hp ⊢
  generalize val_main_v33 (F := Ideal) = C at hC ⊢
  generalize val_main_v35 (F := Ideal) = S at hS ⊢
  pointwise []
  have hq := q.isLt
  by_cases h : q.val % 64 < 32
  · refine (dif_pos h).trans (Eq.trans ?_ (rotated_early _ _ _ h).symm)
    simp only [hp, hC, hS]
    have e : q.val % 64 = q.val % 32 := by omega
    have e1 : q.val / 64 * 64 + (32 + q.val % 64) = (q.val + 32) := by omega
    have e2 : q.val = q.val := by omega
    exact congrArg₂ (fun u v : EReal => u - v)
      (congrArg₂ (fun u v : EReal => u * v) (congrArg (column x0 x1 x2 r) e2) (congrArg (fun f => Ideal.cos (angle (r.val % 4096) f)) e))
      (congrArg₂ (fun u v : EReal => u * v) (congrArg (column x0 x1 x2 r) e1) (congrArg (fun f => Ideal.sin (angle (r.val % 4096) f)) e))
  · refine (dif_neg h).trans (Eq.trans ?_ (rotated_late _ _ _ h).symm)
    simp only [hp, hC, hS]
    have e : q.val % 64 - 32 = q.val % 32 := by omega
    have e1 : q.val / 64 * 64 + (32 + (q.val % 64 - 32)) = q.val := by omega
    have e2 : q.val / 64 * 64 + (q.val % 64 - 32) = (q.val - 32) := by omega
    exact congrArg₂ (fun u v : EReal => u + v)
      (congrArg₂ (fun u v : EReal => u * v) (congrArg (column x0 x1 x2 r) e1) (congrArg (fun f => Ideal.cos (angle (r.val % 4096) f)) e))
      (congrArg₂ (fun u v : EReal => u * v) (congrArg (column x0 x1 x2 r) e2) (congrArg (fun f => Ideal.sin (angle (r.val % 4096) f)) e))

theorem keys_cos (s : Fin 4096) (f : Fin 32) : val_main_v71 (F := Ideal) (ix2 s f) = Ideal.cos (angle s.val f.val) := by
  simp only [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v73, val_main_cst_7, val_main_cst_8, val_main_cst_9, val_main_cst_10]
  pointwise [angle]

theorem keys_sin (s : Fin 4096) (f : Fin 32) : val_main_v73 (F := Ideal) (ix2 s f) = Ideal.sin (angle s.val f.val) := by
  simp only [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v73, val_main_cst_7, val_main_cst_8, val_main_cst_9, val_main_cst_10]
  pointwise [angle]

set_option maxHeartbeats 2000000 in
/-- The rotated keys. -/
theorem keys (r : Fin 8192) (q : Fin 1024) :
    val_main_v88 (F := Ideal) x0 x1 x2 (ix2 r q) = rotated (fun q => column x0 x1 x2 r (1024 + q)) (r.val % 4096) q.val := by
  have hp := proj x0 x1 x2 r
  have hC := keys_cos
  have hS := keys_sin
  simp only [val_main_v53, val_main_v54, val_main_v72, val_main_v74, val_main_v75, val_main_v76, val_main_v77, val_main_v78, val_main_v79, val_main_v80, val_main_v81, val_main_v82, val_main_v83, val_main_v84, val_main_v85, val_main_v86, val_main_v87, val_main_v88]
  generalize val_main_v14 (F := Ideal) x0 x1 x2 = p at hp ⊢
  generalize val_main_v71 (F := Ideal) = C at hC ⊢
  generalize val_main_v73 (F := Ideal) = S at hS ⊢
  pointwise []
  have hq := q.isLt
  by_cases h : q.val % 64 < 32
  · refine (dif_pos h).trans (Eq.trans ?_ (rotated_early _ _ _ h).symm)
    simp only [hp, hC, hS]
    have e : q.val % 64 = q.val % 32 := by omega
    have e1 : 1024 + (q.val / 64 * 64 + (32 + q.val % 64)) = 1024 + (q.val + 32) := by omega
    have e2 : 1024 + (q.val) = 1024 + q.val := by omega
    exact congrArg₂ (fun u v : EReal => u - v)
      (congrArg₂ (fun u v : EReal => u * v) (congrArg (column x0 x1 x2 r) e2) (congrArg (fun f => Ideal.cos (angle (r.val % 4096) f)) e))
      (congrArg₂ (fun u v : EReal => u * v) (congrArg (column x0 x1 x2 r) e1) (congrArg (fun f => Ideal.sin (angle (r.val % 4096) f)) e))
  · refine (dif_neg h).trans (Eq.trans ?_ (rotated_late _ _ _ h).symm)
    simp only [hp, hC, hS]
    have e : q.val % 64 - 32 = q.val % 32 := by omega
    have e1 : 1024 + (q.val / 64 * 64 + (32 + (q.val % 64 - 32))) = 1024 + q.val := by omega
    have e2 : 1024 + (q.val / 64 * 64 + (q.val % 64 - 32)) = 1024 + (q.val - 32) := by omega
    exact congrArg₂ (fun u v : EReal => u + v)
      (congrArg₂ (fun u v : EReal => u * v) (congrArg (column x0 x1 x2 r) e1) (congrArg (fun f => Ideal.cos (angle (r.val % 4096) f)) e))
      (congrArg₂ (fun u v : EReal => u * v) (congrArg (column x0 x1 x2 r) e2) (congrArg (fun f => Ideal.sin (angle (r.val % 4096) f)) e))

/-- The first result: the rotated queries times their scale, the rotated keys, and the rest of the projection. -/
theorem first_result (r : Fin 8192) (n : Fin 7168) :
    val_main_v112 (F := Ideal) x0 x1 x2 (ix2 r n) =
      if n.val < 1024 then rotated (fun q => column x0 x1 x2 r (0 + q)) (r.val % 4096) n.val * Ideal.ofBits .f32 0x3E38AA3B#32
      else if n.val < 2048 then rotated (fun q => column x0 x1 x2 r (1024 + q)) (r.val % 4096) (n.val - 1024)
      else column x0 x1 x2 r n.val := by
  have hq := queries x0 x1 x2 r
  have hk := keys x0 x1 x2 r
  have hp : ∀ q : Fin 5120, val_main_v110 (F := Ideal) x0 x1 x2 (ix2 r q) = column x0 x1 x2 r (2048 + q.val) := by
    intro q
    have hp := proj x0 x1 x2 r
    simp only [val_main_v110]
    generalize val_main_v14 (F := Ideal) x0 x1 x2 = p at hp ⊢
    pointwise []
    rw [hp]
  simp only [val_main_v112, val_main_v111, val_main_v52, val_main_v51, val_main_cst_6]
  generalize val_main_v50 (F := Ideal) x0 x1 x2 = a at hq ⊢
  generalize val_main_v88 (F := Ideal) x0 x1 x2 = b at hk ⊢
  generalize val_main_v110 (F := Ideal) x0 x1 x2 = p at hp ⊢
  pointwise []
  have hn := n.isLt
  by_cases h : n.val < 1024
  · rw [dif_pos h, if_pos h, hq]
    simp only [Nat.zero_add]
  · rw [dif_neg h, if_neg h]
    by_cases h' : n.val < 2048
    · rw [dif_pos (by omega), if_pos h', hk]
    · rw [dif_neg (by omega), if_neg h', hp]
      congr 1
      simp only
      omega

/-- The second result: the update gates, the decay gates, and lanes that hold no gate. -/
theorem second_result (r : Fin 8192) (g : Fin 128) :
    val_main_v113 (F := Ideal) x0 x1 x2 x3 x4 (ix2 r g) =
      if g.val < 8 then Ideal.div 1 (1 + Ideal.exp (-column x0 x1 x2 r (7168 + g.val)))
      else if g.val < 16 then -Ideal.exp (x3 (ix1 ⟨(g.val - 8) % 8, Nat.mod_lt _ (by norm_num)⟩))
        * softplus (column x0 x1 x2 r (7168 + g.val) + x4 (ix1 ⟨(g.val - 8) % 8, Nat.mod_lt _ (by norm_num)⟩))
      else -softplus 0 := by
  have hp := proj x0 x1 x2 r
  have ha : ∀ q : Fin 8, val_main_v95 (F := Ideal) x0 x1 x2 (ix2 r q) = Ideal.div 1 (1 + Ideal.exp (-column x0 x1 x2 r (7168 + q.val))) := by
    intro q
    simp only [val_main_v95, val_main_v94, val_main_v93, val_main_v92, val_main_v91, val_main_v90, val_main_v89, val_main_cst_12, val_main_cst_11]
    generalize val_main_v14 (F := Ideal) x0 x1 x2 = p at hp ⊢
    pointwise []
    rw [hp]
  have hb : ∀ q : Fin 8, val_main_v105 (F := Ideal) x0 x1 x2 x3 x4 (ix2 r q) = -Ideal.exp (x3 (ix1 q)) * softplus (column x0 x1 x2 r (7176 + q.val) + x4 (ix1 q)) := by
    intro q
    simp only [val_main_v105, val_main_v104, val_main_v103, val_main_v102, val_main_v101, val_main_v100, val_main_v99, val_main_v98, val_main_v97, val_main_v96, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
    generalize val_main_v14 (F := Ideal) x0 x1 x2 = p at hp ⊢
    pointwise []
    rw [if_neg (fun h => h rfl), hp]
    rfl
  have hc : ∀ q : Fin 112, val_main_v109 (F := Ideal) (ix2 r q) = -softplus 0 := by
    intro q
    simp only [val_main_v109, val_main_v108, val_main_v107, val_main_v106, val_main_cst_13, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
    pointwise []
    rw [if_neg (fun h => h rfl)]
    rfl
  simp only [val_main_v113]
  generalize val_main_v95 (F := Ideal) x0 x1 x2 = p at ha ⊢
  generalize val_main_v105 (F := Ideal) x0 x1 x2 x3 x4 = a at hb ⊢
  generalize val_main_v109 (F := Ideal) = b at hc ⊢
  pointwise []
  have hg := g.isLt
  by_cases h : g.val < 8
  · rw [dif_pos h, if_pos h, ha]
  · rw [dif_neg h, if_neg h]
    by_cases h' : g.val < 16
    · rw [dif_pos (by omega), if_pos h', hb]
      have e : 7176 + (g.val - 8) = 7168 + g.val := by omega
      have e1 : (⟨(g.val - 8) % 8, Nat.mod_lt _ (by norm_num)⟩ : Fin 8) = ⟨g.val - 8, by omega⟩ := Fin.ext (Nat.mod_eq_of_lt (by omega))
      simp only [e, e1]
    · rw [dif_neg (by omega), if_neg h', hc]

end Cert.InRefProof
-- ==== Proof.In.Entries.lean ====
/- The blocks a grid point works on, through to the result's entries: columns of the projection,
the scaled tables, the rotated blocks and the gates. -/
module

public import proofs.«01_k».proof.Proof.In.Tables
public import proofs.«01_k».proof.Proof.In.Gate
public import proofs.«01_k».proof.Proof.In.RefValue

@[expose] public section

set_option maxRecDepth 16384

noncomputable section

namespace Cert.InProof

open Cert.InIdeal Cert.InIdeal.Gen Idealize.ShloMosaic Idealize.ShloMosaic.TcCoe Idealize.SL.Sem
open Cert.InRefProof (column rotated rotated_early rotated_late)

variable (m : (ℓ : Loc nD τ sig) → Buf (Elt Ideal) ℓ) (c : Dev nD)

/-- Column `n` of the projection of row `r`. -/
abbrev col (r : Fin 8192) (n : ℕ) : EReal := column (ax m c) (anw m c) (aw m c) r n

/-- A row of a point's normalised block against a row of the weight. -/
theorem tap_col (t : Fin cfg0.N) (b : ℕ) (r : Fin 1024) (q : ℕ) :
    tap (rowNorm (iblk m c 0 t) (iblk m c 1 t)) (V m c main_v0) b r q = col m c (row t r) (1024 * b + q) := by
  unfold tap col column rowNorm
  refine Finset.sum_congr rfl fun k _ => ?_
  exact congrArg₂ (fun u v : EReal => u * v)
    (congrArg₂ (fun u v : EReal => u * v)
      (congrArg₂ (fun u v : EReal => u * v) (blk0 m c t r k)
        (congrArg (fun z : EReal => Ideal.rsqrt (Ideal.div z (Ideal.ofBits .f32 0x45000000#32) + Ideal.ofBits .f32 0x358637BD#32))
          (Finset.sum_congr rfl fun l _ => congrArg₂ (fun u v : EReal => u * v) (blk0 m c t r l) (blk0 m c t r l))))
      (blk1 m c t k))
    (given_weight m c _ k)

/-- The gates' weight at every point. -/
theorem blk2 (t : Fin cfg0.N) (g : Fin 128) (k : Fin 2048) : iblk m c 2 t (ix2 g k) = V m c main_v3 (ix2 g k) := by
  blk_point [iblk, idx t]
theorem blk3 (t : Fin cfg0.N) (g : Fin 128) : iblk m c 3 t (ix2 0 g) = V m c main_v5 (ix2 0 g) := by
  blk_point [iblk, idx t]
theorem blk4 (t : Fin cfg0.N) (g : Fin 128) : iblk m c 4 t (ix2 0 g) = V m c main_v7 (ix2 0 g) := by
  blk_point [iblk, idx t]

/-- The position of a block's row in its sequence. -/
def place (t : Fin cfg0.N) (r : Fin 1024) : Fin 4096 := ⟨(row t r).val % 4096, Nat.mod_lt _ (by norm_num)⟩

theorem blk5 (t : Fin cfg0.N) (r : Fin 1024) (l : Fin 128) : iblk m c 5 t (ix2 r l) = V m c main_v27 (ix2 (place t r) l) := by
  have h : (place t r).val = t.val / 7 % 4 * 1024 + r.val := by
    have := row_val t r
    show (row t r).val % 4096 = _
    omega
  blk_point [iblk, idx t]
  all_goals omega
theorem blk6 (t : Fin cfg0.N) (r : Fin 1024) (l : Fin 128) : iblk m c 6 t (ix2 r l) = V m c main_v34 (ix2 (place t r) l) := by
  have h : (place t r).val = t.val / 7 % 4 * 1024 + r.val := by
    have := row_val t r
    show (row t r).val % 4096 = _
    omega
  blk_point [iblk, idx t]
  all_goals omega

/-- The scale of the tables at the first block of columns, and at the second. -/
theorem scale_first : k0_pay13 (F := Ideal) (BitVec.ofNat 32 0) = Ideal.ofBits .f32 0x3E38AA3B#32 := rfl
theorem scale_second : k0_pay32 (F := Ideal) (BitVec.ofNat 32 1) = (1 : EReal) := by
  show Ideal.ofBits .f32 0x3F800000#32 = 1
  simp
theorem pay14 (a : BitVec 32) (v : FVec Ideal S1024x128 .f32) (y) : k0_pay14 (F := Ideal) a v y = (v y * k0_pay13 (F := Ideal) a : EReal) := by pointwise [k0_pay14]
theorem pay15 (a : BitVec 32) (v : FVec Ideal S1024x128 .f32) (y) : k0_pay15 (F := Ideal) a v y = (v y * k0_pay13 (F := Ideal) a : EReal) := by pointwise [k0_pay15]
theorem pay33 (a : BitVec 32) (v : FVec Ideal S1024x128 .f32) (y) : k0_pay33 (F := Ideal) a v y = (v y * k0_pay32 (F := Ideal) a : EReal) := by pointwise [k0_pay33]
theorem pay34 (a : BitVec 32) (v : FVec Ideal S1024x128 .f32) (y) : k0_pay34 (F := Ideal) a v y = (v y * k0_pay32 (F := Ideal) a : EReal) := by pointwise [k0_pay34]

/-- The grid's second coordinate. -/
theorem second_coord : ∀ t : Fin cfg0.N, (grid0.coords t 1).val = t.val % 7 := (by decide +kernel : ∀ t : Fin grid0.N, _)

/-- The rotated block of a point, its tables scaled by `k`. -/
theorem spun_rot (t : Fin cfg0.N) (b : ℕ) (C S : FVec Ideal S1024x128 .f32) (k : EReal) (h0 : 0 ≤ k) (h1 : k ≠ ⊤)
    (hC : ∀ y, C y = HMul.hMul (α := EReal) (β := EReal) (γ := EReal) (iblk m c 5 t y) k) (hS : ∀ y, S y = HMul.hMul (α := EReal) (β := EReal) (γ := EReal) (iblk m c 6 t y) k)
    (s : Fin cfg0.N) (hs : row s = row t) (r : Fin 1024) (q : Fin 1024) :
    spun (rowNorm (iblk m c 0 s) (iblk m c 1 s)) (V m c main_v0) b C S (ix2 r q)
      = rotated (fun q => col m c (row t r) (1024 * b + q)) ((row t r).val % 4096) q.val * k := by
  have hl : (q.val % 128) % 32 = q.val % 32 := by omega
  have hh : (q.val % 128) % 64 = q.val % 64 := by omega
  have eC : C (ix2 r ⟨q.val % 128, Nat.mod_lt _ (by norm_num)⟩) = (Ideal.cos (angle ((row t r).val % 4096) (q.val % 32)) * k : EReal) := by
    refine (hC _).trans (congrArg (fun z : EReal => z * k) ((blk5 m c t r ⟨q.val % 128, Nat.mod_lt _ (by norm_num)⟩).trans ((host_cos m c (place t r) ⟨q.val % 128, Nat.mod_lt _ (by norm_num)⟩).trans
      (congrArg (fun f => Ideal.cos (angle ((row t r).val % 4096) f)) hl))))
  have eS : S (ix2 r ⟨q.val % 128, Nat.mod_lt _ (by norm_num)⟩)
      = ((if (q.val % 128) % 64 < 32 then -Ideal.sin (angle ((row t r).val % 4096) ((q.val % 128) % 32)) else Ideal.sin (angle ((row t r).val % 4096) ((q.val % 128) % 32))) * k : EReal) :=
    (hS _).trans (congrArg (fun z : EReal => z * k) ((blk6 m c t r ⟨q.val % 128, Nat.mod_lt _ (by norm_num)⟩).trans (host_sin m c (place t r) ⟨q.val % 128, Nat.mod_lt _ (by norm_num)⟩)))
  have hrow : row s r = row t r := congrFun hs r
  have hq := q.isLt
  show tap _ _ b r q.val * C (ix2 r ⟨q.val % 128, _⟩) + Scalar.select (early q.val) (tap _ _ b r (q.val + 32)) (tap _ _ b r (q.val - 32)) * S (ix2 r ⟨q.val % 128, _⟩) = _
  rw [eC, eS, tap_col m c s, tap_col m c s, tap_col m c s, hrow]
  unfold early
  by_cases h : q.val % 64 < 32
  · rw [if_pos h, if_pos (by omega), rotated_early _ _ _ h, sel_one, hl]
    exact rotate_early _ _ _ _ _ h0 h1
  · rw [if_neg h, if_neg (by omega), rotated_late _ _ _ h, sel_zero, hl]
    exact rotate_late _ _ _ _ _ h0 h1

/-- The gates' sums: a column of the projection, and zero where there is no gate. -/
theorem gate_col (t : Fin cfg0.N) (r : Fin 1024) (g : Fin 128) (h : g.val < 16) :
    gateSum (rowNorm (iblk m c 0 t) (iblk m c 1 t)) (iblk m c 2 t) (ix2 r g) = col m c (row t r) (7168 + g.val) := by
  have e : (⟨(7168 + g.val) % 7184, Nat.mod_lt _ (by norm_num)⟩ : Fin 7184) = ⟨7168 + g.val, by omega⟩ := Fin.ext (Nat.mod_eq_of_lt (by omega))
  unfold col column
  rw [e]
  unfold gateSum rowNorm
  refine Finset.sum_congr rfl fun k _ => ?_
  exact congrArg₂ (fun u v : EReal => u * v)
    (congrArg₂ (fun u v : EReal => u * v)
      (congrArg₂ (fun u v : EReal => u * v) (blk0 m c t r k)
        (congrArg (fun z : EReal => Ideal.rsqrt (Ideal.div z (Ideal.ofBits .f32 0x45000000#32) + Ideal.ofBits .f32 0x358637BD#32))
          (Finset.sum_congr rfl fun l _ => congrArg₂ (fun u v : EReal => u * v) (blk0 m c t r l) (blk0 m c t r l))))
      (blk1 m c t k))
    ((blk2 m c t g k).trans (host_gates m c g k h))

theorem gate_none (t : Fin cfg0.N) (r : Fin 1024) (g : Fin 128) (h : ¬g.val < 16) :
    gateSum (rowNorm (iblk m c 0 t) (iblk m c 1 t)) (iblk m c 2 t) (ix2 r g) = 0 := by
  unfold gateSum
  refine Finset.sum_eq_zero fun k _ => ?_
  exact (congrArg (fun z : EReal => rowNorm (iblk m c 0 t) (iblk m c 1 t) (ix2 r k) * z) ((blk2 m c t g k).trans (host_gates_pad m c g k h))).trans (mul_zero _)

/-- The first result's entry. -/
def firstOut (r : Fin 8192) (n : ℕ) : EReal :=
  if n < 1024 then rotated (fun q => col m c r (0 + q)) (r.val % 4096) n * Ideal.ofBits .f32 0x3E38AA3B#32
  else if n < 2048 then rotated (fun q => col m c r (1024 + q)) (r.val % 4096) (n - 1024)
  else col m c r n

/-- The second result's entry. -/
def secondOut (r : Fin 8192) (g : Fin 128) : EReal :=
  if g.val < 8 then Ideal.div 1 (1 + Ideal.exp (-col m c r (7168 + g.val)))
  else if g.val < 16 then -Ideal.exp (alog m c (ix1 ⟨(g.val - 8) % 8, Nat.mod_lt _ (by norm_num)⟩))
    * softplus (col m c r (7168 + g.val) + adt m c (ix1 ⟨(g.val - 8) % 8, Nat.mod_lt _ (by norm_num)⟩))
  else -softplus 0

/-- A point's block of the gates. -/
theorem gates_entry (t : Fin cfg0.N) (r : Fin 1024) (g : Fin 128) :
    k0_pay12 (F := Ideal) (k0_pay7 (iblk m c 0 t) (iblk m c 1 t) (iblk m c 2 t)) k0_pay8 (k0_pay9 (iblk m c 0 t) (iblk m c 1 t) (iblk m c 2 t)) (k0_pay10 (iblk m c 3 t)) (k0_pay11 (iblk m c 4 t)) (ix2 r g)
      = secondOut m c (row t r) g := by
  refine (pay12 _ _ _ _ _ _).trans ?_
  show (if g.val < 8 then _ else (0 - Ideal.exp (iblk m c 3 t (ix2 0 g) : EReal)) * soft (gateSum (rowNorm (iblk m c 0 t) (iblk m c 1 t)) (iblk m c 2 t) (ix2 r g) + (iblk m c 4 t (ix2 0 g) : EReal)) : EReal) = _
  unfold secondOut
  by_cases h : g.val < 8
  · rw [if_pos h, if_pos h]
    refine (logistic_eq _).trans ?_
    rw [gate_col m c t r g (by omega)]
  · rw [if_neg h, if_neg h]
    by_cases h' : g.val < 16
    · have e : (⟨(g.val - 8) % 8, Nat.mod_lt _ (by norm_num)⟩ : Fin 8) = ⟨g.val - 8, by omega⟩ := Fin.ext (Nat.mod_eq_of_lt (by omega))
      rw [if_pos h', e, gate_col m c t r g h', soft_eq, blk3 m c t g, blk4 m c t g, host_alog m c g ⟨by omega, h'⟩, host_bias m c g ⟨by omega, h'⟩, zero_sub]
    · rw [if_neg h', gate_none m c t r g h', soft_eq, blk3 m c t g, blk4 m c t g, host_alog_pad m c g h', host_bias_pad m c g h']
      rw [zero_sub, add_zero]
      have e : Ideal.exp 0 = 1 := by
        rw [show (0 : EReal) = ((0 : ℝ) : EReal) from rfl]
        show ((Real.exp 0 : ℝ) : EReal) = 1
        rw [Real.exp_zero]
        rfl
      rw [e, neg_mul, one_mul]

end Cert.InProof
-- ==== Proof.In.First.lean ====
/- What the first step of a block of rows stores, at the very first point. -/
module

public import proofs.«01_k».proof.Proof.In.Pieces

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD) (t : Fin cfg0.N)

/-- The normalised rows of the block of a point. -/
abbrev normedF : FVec Ideal S1024x2048 .bf16 := rowNorm (iblk m c 0 t) (iblk m c 1 t)
abbrev cosF : FVec Ideal S1024x128 .f32 := k0_pay14 (F := Ideal) (BitVec.ofNat 32 (grid0.coords t 1).val) (iblk m c 5 t)
abbrev sinF : FVec Ideal S1024x128 .f32 := k0_pay15 (F := Ideal) (BitVec.ofNat 32 (grid0.coords t 1).val) (iblk m c 6 t)

theorem first_normed : firstRun.sl.r c (ms0_0 t) (hs0_0 t) (ms0_1 t) (hs0_1 t) (iblk m c 0 t) (iblk m c 1 t) = normedF m c t := by
  unfold firstRun.sl.r
  exact (congrArg₂ (k0_pay5 (F := Ideal)) (load_whole (ms0_0 t) (hs0_0 t) (iblk m c 0 t) _) (load_whole (ms0_1 t) (hs0_1 t) (iblk m c 1 t) _)).trans (funext (pay5 _ _))
theorem first_cos : firstRun.sl.r_5 c t (ms0_5 t) (hs0_5 t) (iblk m c 5 t) = cosF m c t := by
  unfold firstRun.sl.r_5
  exact congrArg (k0_pay14 (F := Ideal) _) (load_whole (ms0_5 t) (hs0_5 t) (iblk m c 5 t) _)
theorem first_sin : firstRun.sl.r_6 c t (ms0_6 t) (hs0_6 t) (iblk m c 6 t) = sinF m c t := by
  unfold firstRun.sl.r_6
  exact congrArg (k0_pay15 (F := Ideal) _) (load_whole (ms0_6 t) (hs0_6 t) (iblk m c 6 t) _)
theorem first_mask (x : S1024x128.Idx) : firstRun.sl.r_7 x = early (x 1).val := mask20 x
theorem first_mask' (x : S1024x128.Idx) : k0_pay20 64#32 k0_pay16 k0_pay17 k0_pay18 k0_pay19 x = early (x 1).val := mask20 x
theorem first_low : half (firstRun.sl.r c (ms0_0 t) (hs0_0 t) (ms0_1 t) (hs0_1 t) (iblk m c 0 t) (iblk m c 1 t)) (firstRun.sl.v146 c t (V m c main_v0)) = half (normedF m c t) (halfW t (V m c main_v0) 0 inb_S1024x2048_S512x2048_0_0) := by
  rw [first_normed]; rfl
theorem first_low' : firstRun.sl.r_8 c t (ms0_0 t) (hs0_0 t) (ms0_1 t) (hs0_1 t) (iblk m c 0 t) (iblk m c 1 t) (V m c main_v0) = half (normedF m c t) (halfW t (V m c main_v0) 0 inb_S1024x2048_S512x2048_0_0) := by
  unfold firstRun.sl.r_8
  exact (funext (pay21 _ _)).trans (first_low m c t)
theorem first_high : half (firstRun.sl.r c (ms0_0 t) (hs0_0 t) (ms0_1 t) (hs0_1 t) (iblk m c 0 t) (iblk m c 1 t)) (firstRun.sl.v187 c t (V m c main_v0)) = half (normedF m c t) (halfW t (V m c main_v0) 512 inb_S1024x2048_S512x2048_512_0) := by
  rw [first_normed]; rfl
theorem first_high' : firstRun.sl.r_9 c t (ms0_0 t) (hs0_0 t) (ms0_1 t) (hs0_1 t) (iblk m c 0 t) (iblk m c 1 t) (V m c main_v0) = half (normedF m c t) (halfW t (V m c main_v0) 512 inb_S1024x2048_S512x2048_512_0) := by
  unfold firstRun.sl.r_9
  exact (funext (pay26 _ _)).trans (first_high m c t)

set_option maxHeartbeats 1000000 in
/-- What the first step of a row block stores. -/
theorem first_out (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) (y : S1024x1024.Idx) :
    made (ms0_7 t) (firstAt m c t h1 h2 h3 h4 h5).1 y = spun (normedF m c t) (V m c main_v0) (t.val % 7) (cosF m c t) (sinF m c t) y := by
  rw [made_eq]
  unfold firstAt firstRun
  dsimp only
  canon_tiles x hx
  · exact (pay2 _ _ _ _ x).trans (turn_to t _ (V m c main_v0) 512 (by norm_num) _ _ (first_high' m c t) _ _ _ _ (first_cos m c t) (first_sin m c t) _ first_mask 384 _ (by norm_num) x y ‹_› ‹_›)
  · unfold firstRun.sl.r_10 firstRun.sl.r_11
    exact (pay1 _ _ _ _ _ x).trans (turn_to t _ (V m c main_v0) 512 (by norm_num) _ _ (first_high m c t) _ _ _ _ (first_cos m c t) (first_sin m c t) _ first_mask 256 _ (by norm_num) x y ‹_› ‹_›)
  · exact (pay28 _ _ _ _ _ x).trans (turn_to t _ (V m c main_v0) 512 (by norm_num) _ _ (first_high m c t) _ _ _ _ (first_cos m c t) (first_sin m c t) _ first_mask 128 _ (by norm_num) x y ‹_› ‹_›)
  · exact (pay27 _ _ _ _ _ x).trans (turn_to t _ (V m c main_v0) 512 (by norm_num) _ _ (first_high m c t) _ _ _ _ (first_cos m c t) (first_sin m c t) _ first_mask 0 _ (by norm_num) x y ‹_› ‹_›)
  · exact (pay25 _ _ _ _ x).trans (turn_to t _ (V m c main_v0) 0 (by norm_num) _ _ (first_low' m c t) _ _ _ _ (first_cos m c t) (first_sin m c t) _ first_mask 384 _ (by norm_num) x y ‹_› ‹_›)
  · exact (pay24 _ _ _ _ _ _ _ _ _ x).trans (turn_to t _ (V m c main_v0) 0 (by norm_num) _ _ (first_low m c t) _ _ _ _ (first_cos m c t) (first_sin m c t) _ first_mask' 256 _ (by norm_num) x y ‹_› ‹_›)
  · exact (pay23 _ _ _ _ _ _ _ _ _ x).trans (turn_to t _ (V m c main_v0) 0 (by norm_num) _ _ (first_low m c t) _ _ _ _ (first_cos m c t) (first_sin m c t) _ first_mask' 128 _ (by norm_num) x y ‹_› ‹_›)
  · exact (pay22 _ _ _ _ _ _ _ _ _ x).trans (turn_to t _ (V m c main_v0) 0 (by norm_num) _ _ (first_low m c t) _ _ _ _ (first_cos m c t) (first_sin m c t) _ first_mask' 0 _ (by norm_num) x y ‹_› (Eq.trans ‹_› (Nat.zero_add _).symm))

/-- The gates that the first step of a row block stores. -/
theorem first_gates (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) (y : S1024x128.Idx) :
    made (ms0_8 t) (firstAt m c t h1 h2 h3 h4 h5).2.1 y
      = k0_pay12 (F := Ideal) (k0_pay7 (iblk m c 0 t) (iblk m c 1 t) (iblk m c 2 t)) k0_pay8 (k0_pay9 (iblk m c 0 t) (iblk m c 1 t) (iblk m c 2 t)) (k0_pay10 (iblk m c 3 t)) (k0_pay11 (iblk m c 4 t)) y := by
  rw [made_eq]
  unfold firstAt firstRun
  dsimp only
  refine (congrFun (View.canon_unit_zero zeros _ _) y).trans ?_
  unfold firstRun.sl.r_1 firstRun.sl.r_2 firstRun.sl.r_3 firstRun.sl.r_4
  rw [load_whole, load_whole, load_whole, load_whole, load_whole]

/-- The rows that the first step of a row block keeps. -/
theorem first_kept (h1 : k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : made rowsM (firstAt m c t h1 h2 h3 h4 h5).2.2.1 = normedF m c t := by
  rw [made_eq]
  unfold firstAt firstRun
  dsimp only
  refine (View.canon_unit_zero zeros _ _).trans ?_
  refine (congrArg₂ (k0_pay6 (F := Ideal)) (load_whole (ms0_0 t) (hs0_0 t) (iblk m c 0 t) _) (load_whole (ms0_1 t) (hs0_1 t) (iblk m c 1 t) _)).trans (funext (pay6 _ _))

end Cert.InProof
end
-- ==== Proof.In.Rows.lean ====
/- What the first step of a block of rows stores. -/
module

public import proofs.«01_k».proof.Proof.In.Pieces

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD) (t : Fin cfg0.N)

/-- The normalised rows of the block of a point. -/
abbrev normedR : FVec Ideal S1024x2048 .bf16 := rowNorm (iblk m c 0 t) (iblk m c 1 t)
abbrev cosR : FVec Ideal S1024x128 .f32 := k0_pay14 (F := Ideal) (BitVec.ofNat 32 (grid0.coords t 1).val) (iblk m c 5 t)
abbrev sinR : FVec Ideal S1024x128 .f32 := k0_pay15 (F := Ideal) (BitVec.ofNat 32 (grid0.coords t 1).val) (iblk m c 6 t)

theorem rows_normed : newRowsRun.sl.r c (ms0_0 t) (hs0_0 t) (ms0_1 t) (hs0_1 t) (iblk m c 0 t) (iblk m c 1 t) = normedR m c t := by
  unfold newRowsRun.sl.r
  exact (congrArg₂ (k0_pay5 (F := Ideal)) (load_whole (ms0_0 t) (hs0_0 t) (iblk m c 0 t) _) (load_whole (ms0_1 t) (hs0_1 t) (iblk m c 1 t) _)).trans (funext (pay5 _ _))
theorem rows_cos : newRowsRun.sl.r_5 c t (ms0_5 t) (hs0_5 t) (iblk m c 5 t) = cosR m c t := by
  unfold newRowsRun.sl.r_5
  exact congrArg (k0_pay14 (F := Ideal) _) (load_whole (ms0_5 t) (hs0_5 t) (iblk m c 5 t) _)
theorem rows_sin : newRowsRun.sl.r_6 c t (ms0_6 t) (hs0_6 t) (iblk m c 6 t) = sinR m c t := by
  unfold newRowsRun.sl.r_6
  exact congrArg (k0_pay15 (F := Ideal) _) (load_whole (ms0_6 t) (hs0_6 t) (iblk m c 6 t) _)
theorem rows_mask (x : S1024x128.Idx) : newRowsRun.sl.r_7 x = early (x 1).val := mask20 x
theorem rows_mask' (x : S1024x128.Idx) : k0_pay20 64#32 k0_pay16 k0_pay17 k0_pay18 k0_pay19 x = early (x 1).val := mask20 x
theorem rows_low : half (newRowsRun.sl.r c (ms0_0 t) (hs0_0 t) (ms0_1 t) (hs0_1 t) (iblk m c 0 t) (iblk m c 1 t)) (newRowsRun.sl.v146 c t (V m c main_v0)) = half (normedR m c t) (halfW t (V m c main_v0) 0 inb_S1024x2048_S512x2048_0_0) := by
  rw [rows_normed]; rfl
theorem rows_low' : newRowsRun.sl.r_8 c t (ms0_0 t) (hs0_0 t) (ms0_1 t) (hs0_1 t) (iblk m c 0 t) (iblk m c 1 t) (V m c main_v0) = half (normedR m c t) (halfW t (V m c main_v0) 0 inb_S1024x2048_S512x2048_0_0) := by
  unfold newRowsRun.sl.r_8
  exact (funext (pay21 _ _)).trans (rows_low m c t)
theorem rows_high : half (newRowsRun.sl.r c (ms0_0 t) (hs0_0 t) (ms0_1 t) (hs0_1 t) (iblk m c 0 t) (iblk m c 1 t)) (newRowsRun.sl.v187 c t (V m c main_v0)) = half (normedR m c t) (halfW t (V m c main_v0) 512 inb_S1024x2048_S512x2048_512_0) := by
  rw [rows_normed]; rfl
theorem rows_high' : newRowsRun.sl.r_9 c t (ms0_0 t) (hs0_0 t) (ms0_1 t) (hs0_1 t) (iblk m c 0 t) (iblk m c 1 t) (V m c main_v0) = half (normedR m c t) (halfW t (V m c main_v0) 512 inb_S1024x2048_S512x2048_512_0) := by
  unfold newRowsRun.sl.r_9
  exact (funext (pay26 _ _)).trans (rows_high m c t)

set_option maxHeartbeats 1000000 in
/-- What the first step of a row block stores. -/
theorem rows_out (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) (y : S1024x1024.Idx) :
    made (ms0_7 t) (rowsAt m c t h1 h2 h3 h4 h5).1 y = spun (normedR m c t) (V m c main_v0) (t.val % 7) (cosR m c t) (sinR m c t) y := by
  rw [made_eq]
  unfold rowsAt newRowsRun
  dsimp only
  canon_tiles x hx
  · exact (pay2 _ _ _ _ x).trans (turn_to t _ (V m c main_v0) 512 (by norm_num) _ _ (rows_high' m c t) _ _ _ _ (rows_cos m c t) (rows_sin m c t) _ rows_mask 384 _ (by norm_num) x y ‹_› ‹_›)
  · unfold newRowsRun.sl.r_10 newRowsRun.sl.r_11
    exact (pay1 _ _ _ _ _ x).trans (turn_to t _ (V m c main_v0) 512 (by norm_num) _ _ (rows_high m c t) _ _ _ _ (rows_cos m c t) (rows_sin m c t) _ rows_mask 256 _ (by norm_num) x y ‹_› ‹_›)
  · exact (pay28 _ _ _ _ _ x).trans (turn_to t _ (V m c main_v0) 512 (by norm_num) _ _ (rows_high m c t) _ _ _ _ (rows_cos m c t) (rows_sin m c t) _ rows_mask 128 _ (by norm_num) x y ‹_› ‹_›)
  · exact (pay27 _ _ _ _ _ x).trans (turn_to t _ (V m c main_v0) 512 (by norm_num) _ _ (rows_high m c t) _ _ _ _ (rows_cos m c t) (rows_sin m c t) _ rows_mask 0 _ (by norm_num) x y ‹_› ‹_›)
  · exact (pay25 _ _ _ _ x).trans (turn_to t _ (V m c main_v0) 0 (by norm_num) _ _ (rows_low' m c t) _ _ _ _ (rows_cos m c t) (rows_sin m c t) _ rows_mask 384 _ (by norm_num) x y ‹_› ‹_›)
  · exact (pay24 _ _ _ _ _ _ _ _ _ x).trans (turn_to t _ (V m c main_v0) 0 (by norm_num) _ _ (rows_low m c t) _ _ _ _ (rows_cos m c t) (rows_sin m c t) _ rows_mask' 256 _ (by norm_num) x y ‹_› ‹_›)
  · exact (pay23 _ _ _ _ _ _ _ _ _ x).trans (turn_to t _ (V m c main_v0) 0 (by norm_num) _ _ (rows_low m c t) _ _ _ _ (rows_cos m c t) (rows_sin m c t) _ rows_mask' 128 _ (by norm_num) x y ‹_› ‹_›)
  · exact (pay22 _ _ _ _ _ _ _ _ _ x).trans (turn_to t _ (V m c main_v0) 0 (by norm_num) _ _ (rows_low m c t) _ _ _ _ (rows_cos m c t) (rows_sin m c t) _ rows_mask' 0 _ (by norm_num) x y ‹_› (Eq.trans ‹_› (Nat.zero_add _).symm))

/-- The gates that the first step of a row block stores. -/
theorem rows_gates (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) (y : S1024x128.Idx) :
    made (ms0_8 t) (rowsAt m c t h1 h2 h3 h4 h5).2.1 y
      = k0_pay12 (F := Ideal) (k0_pay7 (iblk m c 0 t) (iblk m c 1 t) (iblk m c 2 t)) k0_pay8 (k0_pay9 (iblk m c 0 t) (iblk m c 1 t) (iblk m c 2 t)) (k0_pay10 (iblk m c 3 t)) (k0_pay11 (iblk m c 4 t)) y := by
  rw [made_eq]
  unfold rowsAt newRowsRun
  dsimp only
  refine (congrFun (View.canon_unit_zero zeros _ _) y).trans ?_
  unfold newRowsRun.sl.r_1 newRowsRun.sl.r_2 newRowsRun.sl.r_3 newRowsRun.sl.r_4
  rw [load_whole, load_whole, load_whole, load_whole, load_whole]

/-- The rows that the first step of a row block keeps. -/
theorem rows_kept (h1 : ¬ k0_cond1 (grid0.coords t) = 1#1) (h2 : k0_cond2 (grid0.coords t) = 1#1) (h3 : k0_cond3 (grid0.coords t) = 1#1) (h4 : ¬ k0_cond4 (grid0.coords t) = 1#1) (h5 : ¬ k0_cond5 (grid0.coords t) = 1#1) : made rowsM (rowsAt m c t h1 h2 h3 h4 h5).2.2.1 = normedR m c t := by
  rw [made_eq]
  unfold rowsAt newRowsRun
  dsimp only
  refine (View.canon_unit_zero zeros _ _).trans ?_
  refine (congrArg₂ (k0_pay6 (F := Ideal)) (load_whole (ms0_0 t) (hs0_0 t) (iblk m c 0 t) _) (load_whole (ms0_1 t) (hs0_1 t) (iblk m c 1 t) _)).trans (funext (pay6 _ _))

end Cert.InProof
end
-- ==== Proof.In.Second.lean ====
/- What the second step of a block of rows stores. -/
module

public import proofs.«01_k».proof.Proof.In.Pieces

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD) (t : Fin cfg0.N)

/-- The two blocks that turn a pair of lanes at a point, as the second step reads them. -/
abbrev cosS : FVec Ideal S1024x128 .f32 := k0_pay33 (F := Ideal) (BitVec.ofNat 32 (grid0.coords t 1).val) (iblk m c 5 t)
abbrev sinS : FVec Ideal S1024x128 .f32 := k0_pay34 (F := Ideal) (BitVec.ofNat 32 (grid0.coords t 1).val) (iblk m c 6 t)

theorem second_cos : secondRun.sl.r c t (ms0_5 t) (hs0_5 t) (iblk m c 5 t) = cosS m c t := by
  unfold secondRun.sl.r
  exact congrArg (k0_pay33 (F := Ideal) _) (load_whole (ms0_5 t) (hs0_5 t) (iblk m c 5 t) _)
theorem second_sin : secondRun.sl.r_1 c t (ms0_6 t) (hs0_6 t) (iblk m c 6 t) = sinS m c t := by
  unfold secondRun.sl.r_1
  exact congrArg (k0_pay34 (F := Ideal) _) (load_whole (ms0_6 t) (hs0_6 t) (iblk m c 6 t) _)
theorem second_rows (h : Vec Ideal S1024x2048 .bf16) : secondRun.sl.r_5 c rowsM (Memref.isWhole_whole _) h = h := by
  unfold secondRun.sl.r_5
  exact load_whole rowsM (Memref.isWhole_whole _) h _
theorem second_low (h : Vec Ideal S1024x2048 .bf16) : secondRun.sl.r_2 c t rowsM (Memref.isWhole_whole _) (V m c main_v0) h = half h (halfW t (V m c main_v0) 0 inb_S1024x2048_S512x2048_0_0) := by
  unfold secondRun.sl.r_2
  exact (congrArg (fun q => k0_pay36 (F := Ideal) q _) (load_whole rowsM (Memref.isWhole_whole _) h _)).trans (funext (pay36 _ _))
theorem second_high (h : Vec Ideal S1024x2048 .bf16) : half (secondRun.sl.r_5 c rowsM (Memref.isWhole_whole _) h) (secondRun.sl.v131 c t (V m c main_v0)) = half h (halfW t (V m c main_v0) 512 inb_S1024x2048_S512x2048_512_0) := by
  rw [second_rows]; rfl

theorem second_low' (h : Vec Ideal S1024x2048 .bf16) : half (View.readAt (Elt Ideal) rowsM.view (Rect.unit (s := S1024x2048) ![0, 0] ![1024, 2048] inb_S1024x2048_S1024x2048_0_0).toLoadRect ((Memref.isWhole_whole _).unread h)) (halfW t (V m c main_v0) 0 inb_S1024x2048_S512x2048_0_0) = half h (halfW t (V m c main_v0) 0 inb_S1024x2048_S512x2048_0_0) := by
  rw [load_whole]

set_option maxHeartbeats 1000000 in
/-- What the second step of a row block stores. -/
theorem second_out (h1 : ¬ k0_cond1 (grid0.coords t) = 1#1) (h2 : k0_cond2 (grid0.coords t) = 1#1) (h3 : ¬ k0_cond3 (grid0.coords t) = 1#1) (h4 : k0_cond4 (grid0.coords t) = 1#1) (h5 : ¬ k0_cond5 (grid0.coords t) = 1#1) (h : Vec Ideal S1024x2048 .bf16) (y : S1024x1024.Idx) :
    made (ms0_7 t) (secondAt m c t h1 h2 h3 h4 h5 h).1 y = spun h (V m c main_v0) (t.val % 7) (cosS m c t) (sinS m c t) y := by
  rw [made_eq]
  unfold secondAt secondRun
  dsimp only
  unfold secondRun.sl.r_3 secondRun.sl.r_4 secondRun.sl.r_6
  canon_tiles x hx
  · exact (pay47 _ _ _ _ _ x).trans (turn_to t _ (V m c main_v0) 512 (by norm_num) _ _ (second_high m c t h) _ _ _ _ (second_cos m c t) (second_sin m c t) _ mask35 384 _ (by norm_num) x y ‹_› ‹_›)
  · exact (pay46 _ _ _ _ _ x).trans (turn_to t _ (V m c main_v0) 512 (by norm_num) _ _ (second_high m c t h) _ _ _ _ (second_cos m c t) (second_sin m c t) _ mask35 256 _ (by norm_num) x y ‹_› ‹_›)
  · exact (pay45 _ _ _ _ _ x).trans (turn_to t _ (V m c main_v0) 512 (by norm_num) _ _ (second_high m c t h) _ _ _ _ (second_cos m c t) (second_sin m c t) _ mask35 128 _ (by norm_num) x y ‹_› ‹_›)
  · exact (pay44 _ _ _ _ _ x).trans (turn_to t _ (V m c main_v0) 512 (by norm_num) _ _ (second_high m c t h) _ _ _ _ (second_cos m c t) (second_sin m c t) _ mask35 0 _ (by norm_num) x y ‹_› ‹_›)
  · exact (pay42 _ _ _ _ x).trans (turn_to t _ (V m c main_v0) 0 (by norm_num) _ _ (second_low m c t h) _ _ _ _ (second_cos m c t) (second_sin m c t) _ mask35 384 _ (by norm_num) x y ‹_› ‹_›)
  · exact (pay41 _ _ _ _ x).trans (turn_to t _ (V m c main_v0) 0 (by norm_num) _ _ (second_low m c t h) _ _ _ _ (second_cos m c t) (second_sin m c t) _ mask35 256 _ (by norm_num) x y ‹_› ‹_›)
  · exact (pay40 _ _ _ _ x).trans (turn_to t _ (V m c main_v0) 0 (by norm_num) _ _ (second_low m c t h) _ _ _ _ (second_cos m c t) (second_sin m c t) _ mask35 128 _ (by norm_num) x y ‹_› ‹_›)
  · exact (pay39 _ _ _ _ _ x).trans (turn_to t _ (V m c main_v0) 0 (by norm_num) _ _ (second_low' m c t h) _ _ _ _ (second_cos m c t) (second_sin m c t) _ mask35 0 _ (by norm_num) x y ‹_› (Eq.trans ‹_› (Nat.zero_add _).symm))

end Cert.InProof
end
-- ==== Proof.In.Later.lean ====
/- What the steps without rotation store. -/
module

public import proofs.«01_k».proof.Proof.In.Pieces

@[expose] public section

set_option maxRecDepth 16384

noncomputable section

namespace Cert.InProof

open Cert.InIdeal Cert.InIdeal.Gen Idealize.ShloMosaic Idealize.ShloMosaic.TcCoe Idealize.SL.Sem

variable (m : (ℓ : Loc nD τ sig) → Buf (Elt Ideal) ℓ) (c : Dev nD) (t : Fin cfg0.N)

/-- What a later step stores. -/
theorem later_out (h1 : ¬ k0_cond1 (grid0.coords t) = 1#1) (h2 : k0_cond2 (grid0.coords t) = 1#1) (h3 : ¬ k0_cond3 (grid0.coords t) = 1#1) (h4 : ¬ k0_cond4 (grid0.coords t) = 1#1) (h5 : k0_cond5 (grid0.coords t) = 1#1) (h : Vec Ideal S1024x2048 .bf16) (y : S1024x1024.Idx) :
    made (ms0_7 t) (laterAt m c t h1 h2 h3 h4 h5 h).1 y = tap h (V m c main_v0) (t.val % 7) (y 0) (y 1).val := by
  rw [made_eq]
  unfold laterAt laterRun
  dsimp only
  unfold laterRun.sl.v60 laterRun.sl.v68
  canon_tiles x hx
  · refine (congrFun (congrArg (fun q => k0_pay4 (F := Ideal) q _) (load_whole rowsM (Memref.isWhole_whole _) h _)) x).trans ?_
    refine (pay4 h _ x).trans ?_
    exact half_piece h (V m c main_v0) _ 512 _ (step_half t _ 512 (by norm_num) _) x y ‹_› ‹_›
  · refine (congrFun (congrArg (fun q => k0_pay3 (F := Ideal) q _) (load_whole rowsM (Memref.isWhole_whole _) h _)) x).trans ?_
    refine (pay3 h _ x).trans ?_
    exact half_piece h (V m c main_v0) _ 0 _ (step_half t _ 0 (by norm_num) _) x y ‹_› (Eq.trans ‹_› (Nat.zero_add _).symm)

/-- What one of the last two steps stores. -/
theorem last_out (h1 : ¬ k0_cond1 (grid0.coords t) = 1#1) (h2 : ¬ k0_cond2 (grid0.coords t) = 1#1) (h3 : ¬ k0_cond3 (grid0.coords t) = 1#1) (h4 : ¬ k0_cond4 (grid0.coords t) = 1#1) (h5 : k0_cond5 (grid0.coords t) = 1#1) (h : Vec Ideal S1024x2048 .bf16) (y : S1024x1024.Idx) :
    made (ms0_7 t) (lastAt m c t h1 h2 h3 h4 h5 h).1 y = tap h (V m c main_v0) (t.val % 7) (y 0) (y 1).val := by
  rw [made_eq]
  unfold lastAt lastRun
  dsimp only
  unfold lastRun.sl.v60 lastRun.sl.v68
  canon_tiles x hx
  · refine (congrFun (congrArg (fun q => k0_pay4 (F := Ideal) q _) (load_whole rowsM (Memref.isWhole_whole _) h _)) x).trans ?_
    refine (pay4 h _ x).trans ?_
    exact half_piece h (V m c main_v0) _ 512 _ (step_half t _ 512 (by norm_num) _) x y ‹_› ‹_›
  · refine (congrFun (congrArg (fun q => k0_pay3 (F := Ideal) q _) (load_whole rowsM (Memref.isWhole_whole _) h _)) x).trans ?_
    refine (pay3 h _ x).trans ?_
    exact half_piece h (V m c main_v0) _ 0 _ (step_half t _ 0 (by norm_num) _) x y ‹_› (Eq.trans ‹_› (Nat.zero_add _).symm)

end Cert.InProof
end
-- ==== Proof.In.Final.lean ====
/- What every grid point leaves, what the two result arrays hold after the run, and the run itself. -/
module

public import proofs.«01_k».proof.Proof.In.Entries
public import proofs.«01_k».proof.Proof.In.First
public import proofs.«01_k».proof.Proof.In.Rows
public import proofs.«01_k».proof.Proof.In.Second
public import proofs.«01_k».proof.Proof.In.Later
public import proofs.«01_k».proof.Proof.In.Frame

@[expose] public section

set_option maxRecDepth 16384

noncomputable section

namespace Cert.InProof

open Cert.InIdeal Cert.InIdeal.Gen Idealize.ShloMosaic Idealize.ShloMosaic.TcCoe Idealize.SL.Sem
open Idealize.ShloMosaic.Pipeline (Dat)
open Cert.InRefProof (column rotated)

variable (m : (ℓ : Loc nD τ sig) → Buf (Elt Ideal) ℓ) (ρ : Dev nD → PrngReg) (c : Dev nD)

theorem start_mod (t : Fin cfg0.N) : (start t).val % 7 = 0 := by
  show 7 * (t.val / 7) % 7 = 0
  omega

theorem row_start (t : Fin cfg0.N) : row (start t) = row t := by
  funext r
  apply Fin.ext
  rw [row_val, row_val]
  have e : (start t).val / 7 = t.val / 7 := by
    show 7 * (t.val / 7) / 7 = _
    omega
  rw [e]

/-- The rows that are kept are the normalised rows. -/
theorem rows_closed (t : Fin cfg0.N) (h : t.val % 7 = 0) : rowsOf m c t = rowNorm (iblk m c 0 t) (iblk m c 1 t) := by
  unfold rowsOf
  by_cases h0 : t.val = 0
  · rw [dif_pos h0]
    exact first_kept m c t _ _ _ _ _
  · rw [dif_neg h0, dif_pos h]
    exact rows_kept m c t _ _ _ _ _

/-- The gates' block of a row of blocks. -/
theorem gates_closed (t : Fin cfg0.N) (h : t.val % 7 = 0) (r : Fin 1024) (g : Fin 128) : gatesOf m c t (ix2 r g) = secondOut m c (row t r) g := by
  unfold gatesOf
  by_cases h0 : t.val = 0
  · rw [dif_pos h0]
    exact (first_gates m c t _ _ _ _ _ (ix2 r g)).trans (gates_entry m c t r g)
  · rw [dif_neg h0, dif_pos h]
    exact (rows_gates m c t _ _ _ _ _ (ix2 r g)).trans (gates_entry m c t r g)

/-- The queries' blocks. -/
theorem queries_closed (t : Fin cfg0.N) (h : t.val % 7 = 0) (r q : Fin 1024) :
    spun (rowNorm (iblk m c 0 t) (iblk m c 1 t)) (V m c main_v0) (t.val % 7)
      (k0_pay14 (F := Ideal) (BitVec.ofNat 32 (grid0.coords t 1).val) (iblk m c 5 t)) (k0_pay15 (F := Ideal) (BitVec.ofNat 32 (grid0.coords t 1).val) (iblk m c 6 t)) (ix2 r q)
      = firstOut m c (row t r) (1024 * (t.val % 7) + q.val) := by
  have hq := q.isLt
  have hk : k0_pay13 (F := Ideal) (BitVec.ofNat 32 (grid0.coords t 1).val) = Ideal.ofBits .f32 0x3E38AA3B#32 := by
    rw [second_coord, h]
    exact scale_first
  refine (spun_rot m c t _ _ _ _ scale_pos.1 scale_pos.2 (fun y => (pay14 _ _ y).trans (by rw [hk])) (fun y => (pay15 _ _ y).trans (by rw [hk])) t rfl r q).trans ?_
  unfold firstOut
  rw [h, if_pos (by omega)]
  simp only [Nat.mul_zero, Nat.zero_add]

/-- The keys' blocks. -/
theorem keys_closed (t : Fin cfg0.N) (h : t.val % 7 = 1) (r q : Fin 1024) :
    spun (rowNorm (iblk m c 0 (start t)) (iblk m c 1 (start t))) (V m c main_v0) (t.val % 7) (cosS m c t) (sinS m c t) (ix2 r q)
      = firstOut m c (row t r) (1024 * (t.val % 7) + q.val) := by
  have hq := q.isLt
  have hk : k0_pay32 (F := Ideal) (BitVec.ofNat 32 (grid0.coords t 1).val) = (1 : EReal) := by
    rw [second_coord, h]
    exact scale_second
  refine (spun_rot m c t _ _ _ 1 zero_le_one (EReal.coe_ne_top 1) (fun y => (pay33 _ _ y).trans (by rw [hk])) (fun y => (pay34 _ _ y).trans (by rw [hk])) (start t) (row_start t) r q).trans ?_
  unfold firstOut
  rw [h, if_neg (by omega), if_pos (by omega), mul_one]
  simp only [Nat.mul_one, Nat.add_sub_cancel_left]

/-- The other blocks. -/
theorem plain_closed (t : Fin cfg0.N) (h : 2 ≤ t.val % 7) (r q : Fin 1024) :
    tap (rowNorm (iblk m c 0 (start t)) (iblk m c 1 (start t))) (V m c main_v0) (t.val % 7) r q.val
      = firstOut m c (row t r) (1024 * (t.val % 7) + q.val) := by
  rw [tap_col, row_start]
  unfold firstOut
  rw [if_neg (by omega), if_neg (by omega)]

/-- The block every point leaves. -/
theorem out_closed (t : Fin cfg0.N) (r q : Fin 1024) : outOf m c t (ix2 r q) = firstOut m c (row t r) (1024 * (t.val % 7) + q.val) := by
  have hN : t.val < 56 := t.isLt
  unfold outOf
  by_cases h0 : t.val = 0
  · rw [dif_pos h0]
    exact (first_out m c t _ _ _ _ _ (ix2 r q)).trans (queries_closed m c t (by omega) r q)
  rw [dif_neg h0]
  by_cases h1 : t.val % 7 = 0
  · rw [dif_pos h1]
    exact (rows_out m c t _ _ _ _ _ (ix2 r q)).trans (queries_closed m c t h1 r q)
  rw [dif_neg h1]
  by_cases h2 : t.val % 7 = 1
  · rw [dif_pos h2]
    refine (second_out m c t _ _ _ _ _ _ (ix2 r q)).trans ?_
    rw [rows_closed m c (start t) (start_mod t)]
    exact keys_closed m c t h2 r q
  rw [dif_neg h2]
  by_cases h3 : t.val < 54
  · rw [dif_pos h3]
    refine (later_out m c t _ _ _ _ _ _ (ix2 r q)).trans ?_
    rw [rows_closed m c (start t) (start_mod t)]
    exact plain_closed m c t (by omega) r q
  · rw [dif_neg h3]
    refine (last_out m c t _ _ _ _ _ _ (ix2 r q)).trans ?_
    rw [rows_closed m c (start t) (start_mod t)]
    exact plain_closed m c t (by omega) r q

/-- The two result arrays. -/
def firstArr : FVec Ideal S8192x7168 .bf16 := fun y => firstOut m c (y 0) (y 1).val
def secondArr : FVec Ideal S8192x128 .f32 := fun y => secondOut m c (y 0) (y 1)

/-- The projection's array after the run. -/
theorem final_out : (dats m 0 c).arrAt 7 (cfgs 0).N = firstArr m c := by
  refine (dats m 0 c).arrAt_eq_of_covers 7 _ (by decide +kernel) fun t _ y => ?_
  have hi := (idx t).2.2.2.2.2.2.2.1
  have e0 : ((((cfg0.win 7).blk t).view.emb y) 0 : Fin 8192) = row t (y 0) := by
    apply Fin.ext
    show win0_7.index t (0 : Fin 2) * 1024 + 1 * (y 0).val = _
    rw [hi]
    refine Eq.trans ?_ (row_val t (y 0)).symm
    show t.val / 7 * 1024 + 1 * (y 0).val = t.val / 7 * 1024 + (y 0).val
    omega
  have e1 : ((((cfg0.win 7).blk t).view.emb y) 1 : Fin 7168).val = 1024 * (t.val % 7) + (y 1).val := by
    show win0_7.index t (1 : Fin 2) * 1024 + 1 * (y 1).val = _
    rw [hi]
    show t.val % 7 * 1024 + 1 * (y 1).val = _
    omega
  show (dats m 0 c).after 7 t ((cfg0.win 7).xinj (grid0.coords t) y) = firstOut m c ((((cfg0.win 7).blk t).view.emb y) 0) ((((cfg0.win 7).blk t).view.emb y) 1 : Fin 7168).val
  rw [after_7, e0, e1]
  have e : (cfg0.win 7).xinj (grid0.coords t) y = ix2 (y 0) (y 1) := by
    funext a
    match a with
    | ⟨0, _⟩ => rfl
    | ⟨1, _⟩ => rfl
  rw [e]
  exact out_closed m c t _ _

/-- The gates' array after the run. -/
theorem final_gates : (dats m 0 c).arrAt 8 (cfgs 0).N = secondArr m c := by
  refine (dats m 0 c).arrAt_eq_of_covers 8 _ (by decide +kernel) fun t _ y => ?_
  have hi := (idx t).2.2.2.2.2.2.2.2
  have e0 : ((((cfg0.win 8).blk t).view.emb y) 0 : Fin 8192) = row t (y 0) := by
    apply Fin.ext
    show win0_8.index t (0 : Fin 2) * 1024 + 1 * (y 0).val = _
    rw [hi]
    refine Eq.trans ?_ (row_val t (y 0)).symm
    show t.val / 7 * 1024 + 1 * (y 0).val = t.val / 7 * 1024 + (y 0).val
    omega
  have e1 : ((((cfg0.win 8).blk t).view.emb y) 1 : Fin 128) = y 1 := by
    apply Fin.ext
    show win0_8.index t (1 : Fin 2) * 128 + 1 * (y 1).val = _
    rw [hi]
    show 0 * 128 + 1 * (y 1).val = _
    omega
  show (dats m 0 c).after 8 t ((cfg0.win 8).xinj (grid0.coords t) y) = secondOut m c ((((cfg0.win 8).blk t).view.emb y) 0) ((((cfg0.win 8).blk t).view.emb y) 1)
  rw [after_8, e0, e1]
  have e : (cfg0.win 8).xinj (grid0.coords t) y = ix2 (y 0) (y 1) := by
    funext a
    match a with
    | ⟨0, _⟩ => rfl
    | ⟨1, _⟩ => rfl
  rw [e]
  refine (gates_closed m c (start t) (start_mod t) _ _).trans ?_
  rw [row_start]

/-- Every run ends with the two arrays in the results and the arguments as they were. -/
theorem run_out : θ_run defs (onTc (τ := τ) (main (F := Ideal))) ⟨m, fun _ => 0, ρ⟩ fun r => ∀ c : Dev nD,
      r.2.mem ((c : Thread nD τ).loc main_v35_0) = firstArr m c
      ∧ r.2.mem ((c : Thread nD τ).loc main_v35_1) = secondArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r hr c => ?_) (run_all m ρ)
  have h := hr.1 c
  exact ⟨(h.1 7).trans (final_out m c), (h.1 8).trans (final_gates m c),
    (h.1 0).trans (((dats m 0 c).arrAt_in 0 rfl _).trans ((A_eq m c 0).trans (V_main_arg0 m c))),
    (h.1 1).trans (((dats m 0 c).arrAt_in 1 rfl _).trans ((A_eq m c 1).trans (V_main_arg1 m c))),
    (h.2 main_arg2 (Pipeline.mem_restRefs_of main_arg2 (by decide) (by decide))).trans (V_main_arg2 m c),
    (h.2 main_arg3 (Pipeline.mem_restRefs_of main_arg3 (by decide) (by decide))).trans (V_main_arg3 m c),
    (h.2 main_arg4 (Pipeline.mem_restRefs_of main_arg4 (by decide) (by decide))).trans (V_main_arg4 m c)⟩

end Cert.InProof

end
-- ==== Proof.In.Equal.lean ====
/- The input projection: the kernel's two results are the reference's. -/
module

public import proofs.«01_k».proof.Defs
public import proofs.«01_k».proof.Proof.In.Final
public import proofs.«01_k».proof.Proof.In.RefValue
public import proofs.«01_k».proof.Proof.Gen.InRefIdeal.Run
public import proofs.«01_k».proof.Proof.Gen.InRefIdeal
public import proofs.«01_k».proof.Proof.Gen.InIdeal
public import Idealize.ShloMosaic.Lib.Quiescent

@[expose] public section

set_option maxRecDepth 16384

noncomputable section

namespace Cert.InProof

open Idealize.ShloMosaic Idealize.ShloMosaic.TcCoe Idealize.SL.Sem

/-- From the same arguments the idealized kernel and the idealized reference leave equal results, and neither changes
    an argument. -/
theorem equal : Cert.algebraic_InIdeal_InRefIdeal := by
  intro m ρ m' ρ' _ hag
  refine ⟨fun c => firstArr m c, fun c => secondArr m c, run_out m ρ, ?_⟩
  refine (θ_run _ _ _).mono (fun r h c => ⟨(h c).1.trans ?_, (h c).2.1.trans ?_, (h c).2.2⟩) (Cert.InRefIdeal.Value.run m' ρ')
  · obtain ⟨h0, h1, h2, h3, h4⟩ := hag c
    refine (Cert.InRefIdeal.Read.val_main_v112_eq m' c).trans (funext fun i => ?_)
    rw [h0, h1, h2]
    obtain ⟨r, n, rfl⟩ : ∃ (r : Fin 8192) (n : Fin 7168), i = ix2 r n := ⟨i 0, i 1, by pointwise []⟩
    exact Cert.InRefProof.first_result _ _ _ r n
  · obtain ⟨h0, h1, h2, h3, h4⟩ := hag c
    refine (Cert.InRefIdeal.Read.val_main_v113_eq m' c).trans (funext fun i => ?_)
    rw [h0, h1, h2, h3, h4]
    obtain ⟨r, n, rfl⟩ : ∃ (r : Fin 8192) (n : Fin 128), i = ix2 r n := ⟨i 0, i 1, by pointwise []⟩
    exact Cert.InRefProof.second_result _ _ _ _ _ r n

/-- The idealized reference runs, keeps its arguments and leaves every counter at zero. -/
theorem frame_reference : Cert.quiescent_InRefIdeal := fun m ρ _ =>
  (θ_run _ _ _).mono (fun r h => ⟨fun c => (h c).2.2, sem_eq_zero_of_no_sems (by decide) r.2⟩) (Cert.InRefIdeal.Value.run m ρ)

end Cert.InProof

end
-- ==== Proof.Out.Value.lean ====
/- The output projection: the array the kernel leaves is the array the reference computes. -/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

namespace Cert.OutProof

open Cert.OutIdeal Cert.OutIdeal.Gen Idealize.ShloMosaic Idealize.ShloMosaic.TcCoe Idealize.SL.Sem
open Idealize.ShloMosaic.Pipeline (Dat)

/-- Element `(r, j)` of the two head groups' products with their halves of the weight, added. -/
def mix (da gdn : FVec Ideal S8192x1024 .bf16) (wo : FVec Ideal S2048x2048 .bf16) (r : Fin 8192) (j : Fin 2048) : EReal :=
  (∑ k : Fin 1024, da (ix2 r k) * wo (ix2 ⟨k.val, by omega⟩ j))
    + ∑ k : Fin 1024, gdn (ix2 r k) * wo (ix2 ⟨1024 + k.val, by omega⟩ j)

/-- Element `(r, j)` of the result: the residual plus the normalised row of `mix` times the norm's weight. -/
def res (x : FVec Ideal S8192x2048 .f32) (da gdn : FVec Ideal S8192x1024 .bf16) (wo : FVec Ideal S2048x2048 .bf16)
    (nw : FVec Ideal S1x2048 .f32) (r : Fin 8192) (j : Fin 2048) : EReal :=
  x (ix2 r j) + mix da gdn wo r j
    * Ideal.rsqrt (Ideal.div (∑ l : Fin 2048, mix da gdn wo r l * mix da gdn wo r l) (Ideal.ofBits .f32 0x45000000#32)
        + Ideal.ofBits .f32 0x358637BD#32) * nw (ix2 0 j)

set_option maxHeartbeats 1000000 in
/-- The reference's product over the concatenated features is `mix`. -/
theorem ref_mix (da gdn : FVec Ideal S8192x1024 .bf16) (wo : FVec Ideal S2048x2048 .bf16) (i : S8192x2048.Idx) :
    Cert.OutRefIdeal.Read.val_main_v4 (F := Ideal) da gdn wo i = mix da gdn wo (i 0) (i 1) := by
  rw [Cert.OutRefIdeal.Read.val_main_v4_apply]
  refine (Fin.sum_univ_add (a := 1024) (b := 1024) _).trans ?_
  unfold mix
  refine congrArg₂ (· + ·) (Finset.sum_congr rfl fun k _ => ?_) (Finset.sum_congr rfl fun k _ => ?_)
  · pointwise [Cert.OutRefIdeal.Read.val_main_v2, Cert.OutRefIdeal.Read.val_main_v0, Cert.OutRefIdeal.Read.val_main_v1,
      Cert.OutRefIdeal.Read.val_main_v3]
    rw [dif_pos (show ((Fin.castAdd 1024 k : Fin (1024 + 1024)) : ℕ) < 1024 from k.isLt)]
    blk_point [] <;> exact Fin.val_castAdd 1024 k
  · pointwise [Cert.OutRefIdeal.Read.val_main_v2, Cert.OutRefIdeal.Read.val_main_v0, Cert.OutRefIdeal.Read.val_main_v1,
      Cert.OutRefIdeal.Read.val_main_v3]
    rw [dif_neg (show ¬ ((Fin.natAdd 1024 k : Fin (1024 + 1024)) : ℕ) < 1024 by simp)]
    blk_point [] <;> simp only [Fin.val_natAdd] <;> omega

/-- The reference's result at an index. -/
theorem ref_res (x : FVec Ideal S8192x2048 .f32) (da gdn : FVec Ideal S8192x1024 .bf16) (wo : FVec Ideal S2048x2048 .bf16)
    (nw : FVec Ideal S1x2048 .f32) (i : S8192x2048.Idx) :
    Cert.OutRefIdeal.Read.val_main_v19 (F := Ideal) x da gdn wo nw i = res x da gdn wo nw (i 0) (i 1) := by
  pointwise [Cert.OutRefIdeal.Read.val_main_v19, Cert.OutRefIdeal.Read.val_main_v18, Cert.OutRefIdeal.Read.val_main_v17,
    Cert.OutRefIdeal.Read.val_main_v16, Cert.OutRefIdeal.Read.val_main_v15, Cert.OutRefIdeal.Read.val_main_v14,
    Cert.OutRefIdeal.Read.val_main_v13, Cert.OutRefIdeal.Read.val_main_v12, Cert.OutRefIdeal.Read.val_main_v11,
    Cert.OutRefIdeal.Read.val_main_v10, Cert.OutRefIdeal.Read.val_main_v9, Cert.OutRefIdeal.Read.val_main_v8,
    Cert.OutRefIdeal.Read.val_main_v7, Cert.OutRefIdeal.Read.val_main_v6, Cert.OutRefIdeal.Read.val_main_v5,
    Cert.OutRefIdeal.Read.val_main_cst, Cert.OutRefIdeal.Read.val_main_cst_0, Cert.OutRefIdeal.Read.val_main_cst_1, res]
  simp only [ref_mix]
  rfl

variable (m : (ℓ : Loc nD τ sig) → Buf (Elt Ideal) ℓ)

/-- Which block of its array each window holds at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![0, 0] ∧ win0_6.index t = ![t.val, 0] :=
  (by decide +kernel : ∀ t : Fin grid0.N, _)

set_option maxHeartbeats 1000000 in
/-- What the body stores at index `y` of point `t`'s block is the result's element there. -/
theorem point (c : Dev nD) (t : Fin cfg0.N) (y) :
    k0_pay1 (F := Ideal) (iblk m c 1 t) (iblk m c 3 t) (iblk m c 2 t) (iblk m c 4 t) (iblk m c 0 t) (iblk m c 5 t) y
    = res (m ((c : Thread nD τ).loc main_arg0)) (m ((c : Thread nD τ).loc main_arg1)) (m ((c : Thread nD τ).loc main_arg2))
        (m ((c : Thread nD τ).loc main_arg3)) (m ((c : Thread nD τ).loc main_arg4))
        ((((cfg0.win 6).blk t).view.emb y) 0) ((((cfg0.win 6).blk t).view.emb y) 1) := by
  pointwise [k0_pay1, res, mix]
  blk_point [iblk, V, idx t]

/-- The array after the run, at an index. -/
theorem final (c : Dev nD) : (dats m 0 c).arrAt 6 (cfgs 0).N
    = fun i : S8192x2048.Idx => res (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 6 _ (by decide +kernel) fun t _ y => ?_
  blk_simp
  rw [after0_6]; frame_out
  exact point m c t y

end Cert.OutProof

end
-- ==== Proof.Out.Equal.lean ====
/- The output projection: the kernel's result is the reference's. -/
module

public import proofs.«01_k».proof.Defs
public import proofs.«01_k».proof.Proof.Out.Value
public import proofs.«01_k».proof.Proof.Gen.OutRefIdeal.Run
public import proofs.«01_k».proof.Proof.Gen.OutRefIdeal
public import proofs.«01_k».proof.Proof.Gen.OutIdeal
public import proofs.«01_k».proof.Proof.Gen.Out.Frame
public import proofs.«01_k».proof.Proof.Gen.Out
public import Idealize.ShloMosaic.Lib.Quiescent

@[expose] public section

noncomputable section

namespace Cert.OutProof

open Idealize.ShloMosaic Idealize.ShloMosaic.TcCoe Idealize.SL.Sem

/-- From the same arguments the idealized kernel and the idealized reference leave equal results, and neither changes
    an argument. -/
theorem equal : Cert.algebraic_OutIdeal_OutRefIdeal := by
  intro m ρ m' ρ' _ hag
  refine ⟨fun c => fun i => res (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (i 0) (i 1), ?_, ?_⟩
  · exact (θ_run _ _ _).mono (fun r h c => ⟨(h c).1.trans (final m c), (h c).2⟩) (Cert.OutIdeal.Value.run_blocks m ρ)
  · refine (θ_run _ _ _).mono (fun r h c => ⟨(h c).1.trans ?_, (h c).2⟩) (Cert.OutRefIdeal.Value.run m' ρ')
    obtain ⟨h0, h1, h2, h3, h4⟩ := hag c
    refine (Cert.OutRefIdeal.Read.val_main_v19_eq _ _ _ _ _).trans (funext fun i => ?_)
    rw [h0, h1, h2, h3, h4]
    exact ref_res _ _ _ _ _ i

/-- The idealized reference runs, keeps its arguments and leaves every counter at zero. -/
theorem frame_reference : Cert.quiescent_OutRefIdeal := fun m ρ _ =>
  (θ_run _ _ _).mono (fun r h => ⟨fun c => (h c).2, sem_eq_zero_of_no_sems (by decide) r.2⟩) (Cert.OutRefIdeal.Value.run m ρ)

/-- The kernel runs, keeps its arguments and leaves every counter at zero. -/
theorem frame_kernel : Cert.quiescent_Out := fun m ρ _ => Cert.Out.Gen.frame m ρ

/-- The idealized kernel runs, keeps its arguments and leaves every counter at zero. -/
theorem frame_ideal : Cert.quiescent_OutIdeal := fun m ρ _ => Cert.OutIdeal.Gen.frame m ρ

end Cert.OutProof

end
-- ==== Proof.Mlp.Math.lean ====
/- The squared-ReLU MLP with its two RMS norms, element by element, and the reference's value at an index. -/
module

public import proofs.«01_k».proof.Proof.Gen.MlpRefIdeal.Read
public import Idealize.ShloMosaic.Lib.Pipeline.ValueKit

@[expose] public section

set_option maxRecDepth 16384

noncomputable section

namespace Cert.MlpProof

open Cert.MlpRefIdeal Idealize.ShloMosaic Idealize.ShloMosaic.TcCoe Idealize.SL.Sem

/-- Element `(r, k)` of the input's row normalised by its root mean square, times the norm's weight. -/
def nrm (x : FVec Ideal S8192x2048 .f32) (nw : FVec Ideal S1x2048 .f32) (r : Fin 8192) (k : Fin 2048) : EReal :=
  x (ix2 r k) * Ideal.rsqrt (Ideal.div (∑ l : Fin 2048, x (ix2 r l) * x (ix2 r l)) (Ideal.ofBits .f32 0x45000000#32)
        + Ideal.ofBits .f32 0x358637BD#32) * nw (ix2 0 k)

/-- Element `(r, f)` of the hidden layer: the positive part of the first product, squared. -/
def act (x : FVec Ideal S8192x2048 .f32) (nw : FVec Ideal S1x2048 .f32) (wu : FVec Ideal S2048x8192 .bf16)
    (r : Fin 8192) (f : Fin 8192) : EReal :=
  max (∑ k : Fin 2048, nrm x nw r k * wu (ix2 k f)) 0 * max (∑ k : Fin 2048, nrm x nw r k * wu (ix2 k f)) 0

/-- Element `(r, j)` of the second product. -/
def down (x : FVec Ideal S8192x2048 .f32) (nw : FVec Ideal S1x2048 .f32) (wu : FVec Ideal S2048x8192 .bf16)
    (wd : FVec Ideal S8192x2048 .bf16) (r : Fin 8192) (j : Fin 2048) : EReal :=
  ∑ f : Fin 8192, act x nw wu r f * wd (ix2 f j)

/-- Element `(r, j)` of the result: the residual plus the normalised row of `down` times the second norm's weight. -/
def res (x : FVec Ideal S8192x2048 .f32) (nw : FVec Ideal S1x2048 .f32) (wu : FVec Ideal S2048x8192 .bf16)
    (wd : FVec Ideal S8192x2048 .bf16) (nw2 : FVec Ideal S1x2048 .f32) (r : Fin 8192) (j : Fin 2048) : EReal :=
  x (ix2 r j) + down x nw wu wd r j
    * Ideal.rsqrt (Ideal.div (∑ l : Fin 2048, down x nw wu wd r l * down x nw wu wd r l) (Ideal.ofBits .f32 0x45000000#32)
        + Ideal.ofBits .f32 0x358637BD#32) * nw2 (ix2 0 j)

variable (x : FVec Ideal S8192x2048 .f32) (nw : FVec Ideal S1x2048 .f32) (wu : FVec Ideal S2048x8192 .bf16)
  (wd : FVec Ideal S8192x2048 .bf16) (nw2 : FVec Ideal S1x2048 .f32)

/-- The reference's normalised input at an index. -/
theorem ref_nrm (i : S8192x2048.Idx) : Read.val_main_v13 (F := Ideal) x nw i = nrm x nw (i 0) (i 1) := by
  pointwise [Read.val_main_v13, Read.val_main_v12, Read.val_main_v11, Read.val_main_v10, Read.val_main_v9, Read.val_main_v8,
    Read.val_main_v7, Read.val_main_v6, Read.val_main_v5, Read.val_main_v4, Read.val_main_v3, Read.val_main_v2, Read.val_main_v1,
    Read.val_main_v0, Read.val_main_cst, Read.val_main_cst_0, Read.val_main_cst_1, nrm]

set_option maxHeartbeats 1000000 in
/-- The reference's hidden layer at an index. -/
theorem ref_act (i : S8192x8192.Idx) : Read.val_main_v17 (F := Ideal) x nw wu i = act x nw wu (i 0) (i 1) := by
  pointwise [Read.val_main_v17, Read.val_main_v16, Read.val_main_call0_v0, Read.val_main_call0_cst, act]
  rw [Read.val_main_v15_apply]
  simp only [ref_nrm]
  pointwise [Read.val_main_v14]
  blk_point []

set_option maxHeartbeats 1000000 in
/-- The reference's second product at an index. -/
theorem ref_down (i : S8192x2048.Idx) : Read.val_main_v19 (F := Ideal) x nw wu wd i = down x nw wu wd (i 0) (i 1) := by
  rw [Read.val_main_v19_apply]
  simp only [ref_act]
  pointwise [Read.val_main_v18, down]
  blk_point []

set_option maxHeartbeats 1000000 in
/-- The reference's result at an index. -/
theorem ref_res (i : S8192x2048.Idx) : Read.val_main_v34 (F := Ideal) x nw wu wd nw2 i = res x nw wu wd nw2 (i 0) (i 1) := by
  pointwise [Read.val_main_v34, Read.val_main_v33, Read.val_main_v32, Read.val_main_v31, Read.val_main_v30, Read.val_main_v29,
    Read.val_main_v28, Read.val_main_v27, Read.val_main_v26, Read.val_main_v25, Read.val_main_v24, Read.val_main_v23,
    Read.val_main_v22, Read.val_main_v21, Read.val_main_v20, Read.val_main_cst_2, Read.val_main_cst_3, Read.val_main_cst_4, res]
  simp only [ref_down]
  rfl

end Cert.MlpProof

end
-- ==== Proof.Mlp.Block.lean ====
/- What one pass over a block of the MLP's kernel computes. -/
module

public import proofs.«01_k».proof.Proof.Mlp.Math
public import proofs.«01_k».proof.Proof.Gen.MlpIdeal.Value

@[expose] public section

set_option maxRecDepth 16384

noncomputable section

namespace Cert.MlpProof

open Cert.MlpIdeal Cert.MlpIdeal.Gen Idealize.ShloMosaic Idealize.ShloMosaic.TcCoe Idealize.SL.Sem
open Idealize.ShloMosaic.Pipeline (Dat)

/-- A row of 128 rows normalised by its root mean square, times a weight. -/
def rowNorm (v : FVec Ideal S128x2048 .f32) (w : FVec Ideal S1x2048 .f32) (y : S128x2048.Idx) : EReal :=
  v y * Ideal.rsqrt (Ideal.div (∑ l : Fin 2048, v (ix2 (y 0) l) * v (ix2 (y 0) l)) (Ideal.ofBits .f32 0x45000000#32)
        + Ideal.ofBits .f32 0x358637BD#32) * w (ix2 0 (y 1))

/-- The first chunk's store is its normalised rows. -/
theorem pay4 (v w) (y) : k0_pay4 (F := Ideal) v w y = rowNorm v w y := by pointwise [k0_pay4, rowNorm]
/-- The second chunk's store is its normalised rows. -/
theorem pay5 (v w) (y) : k0_pay5 (F := Ideal) v w y = rowNorm v w y := by pointwise [k0_pay5, rowNorm]
/-- The third chunk's store is its normalised rows. -/
theorem pay7 (v w) (y) : k0_pay7 (F := Ideal) v (k0_pay6 v) w y = rowNorm v w y := by pointwise [k0_pay7, k0_pay6, rowNorm]
/-- The fourth chunk's store is its normalised rows. -/
theorem pay8 (v w) (y) : k0_pay8 (F := Ideal) v w y = rowNorm v w y := by pointwise [k0_pay8, rowNorm]
/-- The first chunk's result is the residual plus its normalised rows. -/
theorem pay11 (v x w) (y) : k0_pay11 (F := Ideal) v x w y = x y + rowNorm v w y := by pointwise [k0_pay11, rowNorm]
/-- The second chunk's result is the residual plus its normalised rows. -/
theorem pay12 (v x w) (y) : k0_pay12 (F := Ideal) v x w y = x y + rowNorm v w y := by pointwise [k0_pay12, rowNorm]
/-- The third chunk's result is the residual plus its normalised rows. -/
theorem pay13 (v x w) (y) : k0_pay13 (F := Ideal) v x w y = x y + rowNorm v w y := by pointwise [k0_pay13, rowNorm]
/-- The fourth chunk's result is the residual plus its normalised rows. -/
theorem pay3 (v x w) (y) : k0_pay3 (F := Ideal) v (k0_pay14 v) x w y = x y + rowNorm v w y := by pointwise [k0_pay3, k0_pay14, rowNorm]

/-- One slice of the hidden layer applied to a block of normalised rows. -/
def slice (h : FVec Ideal S512x2048 .bf16) (wu wd : FVec Ideal S2048x2048 .bf16) (y : S512x2048.Idx) : EReal :=
  ∑ f : Fin 2048, max (∑ k : Fin 2048, h (ix2 (y 0) k) * wu (ix2 k f)) 0 * max (∑ k : Fin 2048, h (ix2 (y 0) k) * wu (ix2 k f)) 0
    * wd (ix2 f (y 1))

/-- The first pass stores its slice's product. -/
theorem pay1 (h wu wd) (y) : k0_pay1 (F := Ideal) (k0_pay9 h wu) wd y = slice h wu wd y := by pointwise [k0_pay1, k0_pay9, slice]
/-- A middle pass adds its slice's product. -/
theorem pay2 (a h wu wd) (y) : k0_pay2 (F := Ideal) a h wu wd y = a y + slice h wu wd y := by pointwise [k0_pay2, slice]
/-- The last pass adds its slice's product. -/
theorem pay10 (a h wu wd) (y) : k0_pay10 (F := Ideal) a h wu wd y = a y + slice h wu wd y := by pointwise [k0_pay10, slice]

end Cert.MlpProof

end
-- ==== Proof.Mlp.Acc.lean ====
/- What the MLP kernel's two scratch arrays and its result hold after each pass. -/
module

public import proofs.«01_k».proof.Proof.Mlp.Block
public import Idealize.ShloMosaic.Lib.Pipeline.ReadBack

@[expose] public section

set_option maxRecDepth 16384

noncomputable section

namespace Cert.MlpProof

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual stream. -/
abbrev ax : FVec Ideal S8192x2048 .f32 := m ((c : Thread nD τ).loc main_arg0)
/-- The first norm's weight. -/
abbrev anw : FVec Ideal S1x2048 .f32 := m ((c : Thread nD τ).loc main_arg1)
/-- The first product's weight. -/
abbrev awu : FVec Ideal S2048x8192 .bf16 := m ((c : Thread nD τ).loc main_arg2)
/-- The second product's weight. -/
abbrev awd : FVec Ideal S8192x2048 .bf16 := m ((c : Thread nD τ).loc main_arg3)
/-- The second norm's weight. -/
abbrev anw2 : FVec Ideal S1x2048 .f32 := m ((c : Thread nD τ).loc main_arg4)

/-- Which block of its array each window holds at each grid point. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

/-- There are 64 grid points. -/
theorem points : cfg0.N = 64 := (by decide +kernel : grid0.N = 64)

/-- The array's row of row `r` of the block of point `t`. -/
def row (t : ℕ) (r : Fin 512) : Fin 8192 := ⟨(512 * (t / 4) + r.val) % 8192, Nat.mod_lt _ (by norm_num)⟩

/-- The hidden feature `f` of slice `s`. -/
def feat (s : ℕ) (f : Fin 2048) : Fin 8192 := ⟨(2048 * s + f.val) % 8192, Nat.mod_lt _ (by norm_num)⟩

/-- Slice `s`'s share of the second product. -/
def part (x : FVec Ideal S8192x2048 .f32) (nw : FVec Ideal S1x2048 .f32) (wu : FVec Ideal S2048x8192 .bf16)
    (wd : FVec Ideal S8192x2048 .bf16) (s : ℕ) (r : Fin 8192) (j : Fin 2048) : EReal :=
  ∑ f : Fin 2048, act x nw wu r (feat s f) * wd (ix2 (feat s f) j)

/-- The four slices' shares are the second product. -/
theorem parts (x nw wu wd r j) : ∑ s ∈ Finset.range 4, part x nw wu wd s r j = down x nw wu wd r j := by
  rw [Finset.sum_range]
  unfold part down
  refine Fin.sum_mul_add_congr (S := 4) (n := 2048) fun s k hl => ?_
  have : feat s k = ⟨s.val * 2048 + k.val, hl⟩ := Fin.ext (by show (2048 * s.val + k.val) % 8192 = s.val * 2048 + k.val; omega)
  rw [this]

/-- A point's input block is its rows of the residual stream. -/
theorem blk0 (t : Fin cfg0.N) (r : Fin 512) (k : Fin 2048) :
    (iblk m c 0 t : FVec Ideal S512x2048 .f32) (ix2 r k) = ax m c (ix2 (row t r) k) := by
  have ht : t.val < 64 := points ▸ t.isLt
  have hr := r.isLt
  have : row t r = ⟨512 * (t.val / 4) + r.val, by omega⟩ := Fin.ext (Nat.mod_eq_of_lt (by omega))
  rw [this]
  blk_point [iblk, V, idx t]

/-- A point's slice of the first product's weight. -/
theorem blk2 (t : Fin cfg0.N) (k f : Fin 2048) :
    (iblk m c 2 t : FVec Ideal S2048x2048 .bf16) (ix2 k f) = awu m c (ix2 k (feat (t.val % 4) f)) := by
  have hr := f.isLt
  have : feat (t.val % 4) f = ⟨2048 * (t.val % 4) + f.val, by omega⟩ := Fin.ext (Nat.mod_eq_of_lt (by omega))
  rw [this]
  blk_point [iblk, V, idx t]

/-- A point's slice of the second product's weight. -/
theorem blk3 (t : Fin cfg0.N) (f j : Fin 2048) :
    (iblk m c 3 t : FVec Ideal S2048x2048 .bf16) (ix2 f j) = awd m c (ix2 (feat (t.val % 4) f) j) := by
  have hr := f.isLt
  have : feat (t.val % 4) f = ⟨2048 * (t.val % 4) + f.val, by omega⟩ := Fin.ext (Nat.mod_eq_of_lt (by omega))
  rw [this]
  blk_point [iblk, V, idx t]

/-- The first norm's weight is read whole. -/
theorem blk1 (t : Fin cfg0.N) (k : Fin 2048) : (iblk m c 1 t : FVec Ideal S1x2048 .f32) (ix2 0 k) = anw m c (ix2 0 k) := by
  blk_point [iblk, V, idx t]

/-- The second norm's weight is read whole. -/
theorem blk4 (t : Fin cfg0.N) (k : Fin 2048) : (iblk m c 4 t : FVec Ideal S1x2048 .f32) (ix2 0 k) = anw2 m c (ix2 0 k) := by
  blk_point [iblk, V, idx t]

/-- The normalised rows of a point's block. -/
def hid (t : ℕ) (y : S512x2048.Idx) : EReal := nrm (ax m c) (anw m c) (row t (y 0)) (y 1)

/-- A slice of the hidden layer at the normalised rows is the slice's share. -/
theorem slice_part (t : Fin cfg0.N) (h : FVec Ideal S512x2048 .bf16) (hh : ∀ y, h y = hid m c t y) (y : S512x2048.Idx) :
    slice h (iblk m c 2 t) (iblk m c 3 t) y = part (ax m c) (anw m c) (awu m c) (awd m c) (t.val % 4) (row t (y 0)) (y 1) := by
  unfold slice part act
  refine Finset.sum_congr rfl fun f _ => ?_
  have e : ∑ k : Fin 2048, h (ix2 (y 0) k) * (iblk m c 2 t : FVec Ideal S2048x2048 .bf16) (ix2 k f)
      = ∑ k : Fin 2048, nrm (ax m c) (anw m c) (row t (y 0)) k * awu m c (ix2 k (feat (t.val % 4) f)) :=
    Finset.sum_congr rfl fun k _ => congrArg₂ (· * ·) (hh _) (blk2 m c t k f)
  exact congrArg₂ (· * ·) (congrArg₂ (· * ·) (congrArg (max · 0) e) (congrArg (max · 0) e)) (blk3 m c t f (y 1))

/-- A normalised row, given its elements and the weight. -/
theorem rowNorm_of (v w) (x : S128x2048.Idx) (V : Fin 2048 → EReal) (W : EReal) (hv : ∀ l, v (ix2 (x 0) l) = V l)
    (hw : w (ix2 0 (x 1)) = W) :
    rowNorm v w x = V (x 1) * Ideal.rsqrt (Ideal.div (∑ l : Fin 2048, V l * V l) (Ideal.ofBits .f32 0x45000000#32)
      + Ideal.ofBits .f32 0x358637BD#32) * W := by
  have e : v x = V (x 1) := (congrArg v (eq_ix2 x)).trans (hv (x 1))
  have s : ∑ l : Fin 2048, v (ix2 (x 0) l) * v (ix2 (x 0) l) = ∑ l : Fin 2048, V l * V l :=
    Finset.sum_congr rfl fun l _ => by rw [hv l]
  unfold rowNorm
  rw [e, s, hw]

/-- A chunk's element is the block's, `off` rows further down. -/
theorem chunk_at (t : Fin cfg0.N) (off : ℕ) (inb) (x : S128x2048.Idx) (y : S512x2048.Idx) (h0 : (y 0).val = off + (x 0).val) (l : Fin 2048) :
    View.ld (iblk m c 0 t : FVec Ideal S512x2048 .f32) (Rect.unit ![off, 0] ![128, 2048] inb) (ix2 (x 0) l)
      = ax m c (ix2 (row t (y 0)) l) := by
  refine Eq.trans ?_ (blk0 m c t (y 0) l)
  exact View.ld_unit_apply_of _ _ _ _ _ _ (Fin.forall_fin_two.2 ⟨h0, (Nat.zero_add _).symm⟩)

/-- The normalised rows of one chunk of a block: rows `off` to `off + 128`. -/
theorem chunk (t : Fin cfg0.N) (off : ℕ) (inb) (x : S128x2048.Idx) (y : S512x2048.Idx) (h0 : (y 0).val = off + (x 0).val)
    (h1 : (y 1).val = (x 1).val) :
    rowNorm (View.ld (iblk m c 0 t : FVec Ideal S512x2048 .f32) (Rect.unit ![off, 0] ![128, 2048] inb)) (iblk m c 1 t) x
      = hid m c t y := by
  rw [rowNorm_of _ _ x _ _ (chunk_at m c t off inb x y h0) (blk1 m c t (x 1))]
  have e : x 1 = y 1 := Fin.ext h1.symm
  unfold hid nrm
  rw [e]

set_option maxHeartbeats 1000000 in
/-- The first scratch array after a first pass: the normalised rows. -/
theorem first_hid (t : Fin cfg0.N) (h0 : t.val % 4 = 0) (y : S512x2048.Idx) :
    (outsAt0 m c t.val t.isLt).2.1 y = hid m c t y := by
  rw [outsAt0_A m c t h0 (by omega) (by omega)]
  frame_out
  canon_tiles x h
  · rw [pay8]; exact chunk m c t 384 _ x y ‹_› ‹_›
  · rw [pay7]; exact chunk m c t 256 _ x y ‹_› ‹_›
  · rw [pay5]; exact chunk m c t 128 _ x y ‹_› ‹_›
  · rw [pay4]; exact chunk m c t 0 _ x y (by omega) ‹_›

/-- An index of the whole block, placed in it. -/
theorem whole_idx (inb) (z : S512x2048.Idx) : (Rect.unit (s := S512x2048) ![0, 0] ![512, 2048] inb).idx z = z :=
  funext fun a => Fin.ext (by
    rw [Rect.idx_unit_val]
    exact (congrArg (· + (z a).val) (show (![0, 0] : Fin 2 → ℕ) a = 0 from Fin.forall_fin_two (p := fun a => (![0, 0] : Fin 2 → ℕ) a = 0).2 ⟨rfl, rfl⟩ a)).trans (Nat.zero_add _))

/-- The point before. -/
abbrev before (t : Fin cfg0.N) : Fin cfg0.N := ⟨t.val - 1, Nat.lt_of_le_of_lt (Nat.sub_le _ _) t.isLt⟩

/-- Two passes over one block see the same rows. -/
theorem row_before (t : Fin cfg0.N) (h : t.val % 4 ≠ 0) (r) : row (t.val - 1) r = row t r :=
  Fin.ext (by
    show (512 * ((t.val - 1) / 4) + _) % 8192 = (512 * (t.val / 4) + _) % 8192
    rw [show (t.val - 1) / 4 = t.val / 4 by omega])

/-- The normalised rows are the same at the pass before. -/
theorem hid_before (t : Fin cfg0.N) (h : t.val % 4 ≠ 0) (y) : hid m c (t.val - 1) y = hid m c t y := by
  have hr := row_before t h (y 0)
  unfold hid
  exact congrArg (fun q => nrm _ _ q _) hr

/-- The first scratch array holds the block's normalised rows after every pass. -/
theorem kept_hid (n : ℕ) : ∀ (t : Fin cfg0.N), t.val % 4 = n → ∀ y : S512x2048.Idx, (outsAt0 m c t.val t.isLt).2.1 y = hid m c t y := by
  induction n with
  | zero => exact fun t h y => first_hid m c t h y
  | succ n ih =>
    intro t h y
    have hlt : t.val < 64 := points ▸ t.isLt
    have e : (outsAt0 m c t.val t.isLt).2.1 y = (outsAt0 m c (t.val - 1) (Nat.lt_of_le_of_lt (Nat.sub_le _ _) t.isLt)).2.1 y := by
      by_cases h3 : t.val % 4 = 3
      · rw [outsAt0_C m c t (by omega) (by omega) h3]
        frame_out
        rfl
      · rw [outsAt0_B m c t (by omega) (by omega) h3]
        frame_out
        rfl
    rw [e]
    refine (ih (before t) (by show (t.val - 1) % 4 = n; omega) y).trans ?_
    exact hid_before m c t (by omega) y

/-- The shares of the slices passed so far, at an element of the block of point `t`. -/
def acc (t : ℕ) (n : ℕ) (y : S512x2048.Idx) : EReal :=
  ∑ s ∈ Finset.range n, part (ax m c) (anw m c) (awu m c) (awd m c) s (row t (y 0)) (y 1)

/-- One more slice. -/
theorem acc_succ (t : Fin cfg0.N) (n : ℕ) (h : t.val % 4 = n + 1) (y) :
    acc m c (t.val - 1) (n + 1) y + part (ax m c) (anw m c) (awu m c) (awd m c) (t.val % 4) (row t (y 0)) (y 1) = acc m c t (n + 2) y := by
  have hr := row_before t (by omega) (y 0)
  unfold acc
  refine Eq.trans ?_ (Finset.sum_range_succ _ _).symm
  rw [h]
  exact congrArg (· + _) (Finset.sum_congr rfl fun s _ => congrArg (fun q => part _ _ _ _ s q _) hr)

set_option maxHeartbeats 1000000 in
/-- The second scratch array holds the shares passed so far, after every pass but the last. -/
theorem kept_acc (n : ℕ) : ∀ (t : Fin cfg0.N), t.val % 4 = n → n < 3 → ∀ y : S512x2048.Idx,
    (outsAt0 m c t.val t.isLt).2.2 y = acc m c t (n + 1) y := by
  induction n with
  | zero =>
    intro t h _ y
    have hh := first_hid m c t h
    rw [outsAt0_A m c t h (by omega) (by omega)] at hh ⊢
    revert hh
    frame_out
    intro hh
    rw [pay1, View.readCov_eq_canon']
    rw [slice_part m c t _ (fun z => ?_)]
    · unfold acc; rw [h]; simp
    · refine Eq.trans ?_ (hh z)
      rw [whole_idx]
  | succ n ih =>
    intro t h hn y
    have hlt : t.val < 64 := points ▸ t.isLt
    have e0 := kept_hid m c n (before t) (by show (t.val - 1) % 4 = n; omega)
    have e1 := ih (before t) (by show (t.val - 1) % 4 = n; omega) (by omega)
    rw [outsAt0_B m c t (by omega) (by omega) (by omega)]
    frame_out
    rw [pay2, ← acc_succ m c t n h]
    rw [read_unread_whole, read_unread_whole]
    exact congrArg₂ (· + ·) (e1 y) (slice_part m c t _ (fun z => (e0 z).trans (hid_before m c t (by omega) z)) y)

/-- The second product at a row of the block. -/
theorem full (t : Fin cfg0.N) (y) : acc m c t 4 y = down (ax m c) (anw m c) (awu m c) (awd m c) (row t (y 0)) (y 1) := parts ..

/-- The last pass's sum is the second product. -/
theorem last_acc (t : Fin cfg0.N) (h : t.val % 4 = 3) (a : FVec Ideal S512x2048 .f32) (h' : FVec Ideal S512x2048 .bf16)
    (ha : ∀ y, a y = acc m c (t.val - 1) 3 y) (hh : ∀ y, h' y = hid m c (t.val - 1) y) (y : S512x2048.Idx) :
    k0_pay10 (F := Ideal) a h' (iblk m c 2 t) (iblk m c 3 t) y
      = down (ax m c) (anw m c) (awu m c) (awd m c) (row t (y 0)) (y 1) := by
  rw [pay10, ha, slice_part m c t h' (fun z => (hh z).trans (hid_before m c t (by omega) z)), acc_succ m c t 2 h, full]

end Cert.MlpProof

end
-- ==== Proof.Mlp.Last.lean ====
/- The MLP kernel's result after each last pass, and the array it leaves. -/
module

public import proofs.«01_k».proof.Proof.Mlp.Acc

@[expose] public section

set_option maxRecDepth 16384

noncomputable section

namespace Cert.MlpProof

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A chunk of a point's input block, loaded. -/
abbrev xld (t : Fin cfg0.N) (off : ℕ) (inb : ∀ a, (![off, 0] : Fin 2 → ℕ) a + (![128, 2048] : Fin 2 → ℕ) a ≤ S512x2048.size a) : FVec Ideal S128x2048 .f32 :=
  View.ld (iblk m c 0 t : FVec Ideal S512x2048 .f32) (Rect.unit ![off, 0] ![128, 2048] inb)

/-- A chunk read back from a block stored whole. -/
abbrev back (v : View sig .tc .vmem S512x2048 .f32) (a : FVec Ideal S512x2048 .f32) (off : ℕ) (inb : ∀ a, (![0, 0] : Fin 2 → ℕ) a + (![512, 2048] : Fin 2 → ℕ) a ≤ S512x2048.size a) (inb' : ∀ a, (![off, 0] : Fin 2 → ℕ) a + (![128, 2048] : Fin 2 → ℕ) a ≤ S512x2048.size a) : FVec Ideal S128x2048 .f32 :=
  v.readCov (Val := Elt Ideal) [⟨Rect.unit (s := S512x2048) ![0, 0] ![512, 2048] inb, a⟩] (Rect.unit (s := S512x2048) ![off, 0] ![128, 2048] inb').toLoadRect

/-- A chunk of the second product, read back. -/
theorem down_at (t : Fin cfg0.N) (a : FVec Ideal S512x2048 .f32) (v : View sig .tc .vmem S512x2048 .f32)
    (ha : ∀ y, a y = down (ax m c) (anw m c) (awu m c) (awd m c) (row t (y 0)) (y 1)) (off : ℕ) (inb inb')
    (x : S128x2048.Idx) (y : S512x2048.Idx) (h0 : (y 0).val = off + (x 0).val) (l : Fin 2048) :
    back v a off inb inb' (ix2 (x 0) l)
      = down (ax m c) (anw m c) (awu m c) (awd m c) (row t (y 0)) l := by
  unfold back
  rw [View.readCov_eq_canon', View.canon_cons_unit_lit' _ _ _ ((Fin.forall_fin_two (p := fun a => (![0, 0] : Fin 2 → ℕ) a = 0)).2 ⟨rfl, rfl⟩)]
  refine (ha _).trans ?_
  let z : S512x2048.Idx := (Rect.unit (s := S512x2048) ![off, 0] ![128, 2048] inb').toLoadRect.idx (ix2 (x 0) l)
  have e0 : z 0 = y 0 := Fin.ext ((show (z 0).val = off + (x 0).val from Rect.idx_unit_val (s := S512x2048) ![off, 0] ![128, 2048] inb' _ 0).trans h0.symm)
  have e1 : z 1 = l := Fin.ext ((show (z 1).val = 0 + l.val from Rect.idx_unit_val (s := S512x2048) ![off, 0] ![128, 2048] inb' _ 1).trans (Nat.zero_add _))
  exact congrArg₂ (fun q j => down (ax m c) (anw m c) (awu m c) (awd m c) (row t q) j) e0 e1

/-- One chunk of the result. -/
theorem res_at (t : Fin cfg0.N) (a : FVec Ideal S512x2048 .f32) (v : View sig .tc .vmem S512x2048 .f32)
    (ha : ∀ y, a y = down (ax m c) (anw m c) (awu m c) (awd m c) (row t (y 0)) (y 1)) (off : ℕ) (inb inb')
    (x : S128x2048.Idx) (y : S512x2048.Idx) (h0 : (y 0).val = off + (x 0).val) (h1 : (y 1).val = (x 1).val) :
    xld m c t off inb' x
      + rowNorm (back v a off inb inb') (iblk m c 4 t) x
      = res (ax m c) (anw m c) (awu m c) (awd m c) (anw2 m c) (row t (y 0)) (y 1) := by
  have e : x 1 = y 1 := Fin.ext h1.symm
  have ex := (congrArg (xld m c t off inb') (eq_ix2 x)).trans
    (chunk_at m c t off inb' x y h0 (x 1))
  rw [rowNorm_of _ _ x _ _ (down_at m c t a v ha off inb inb' x y h0) (blk4 m c t (x 1))]
  unfold res
  rw [← e]
  exact congrArg (· + _) ex

set_option maxHeartbeats 1000000 in
/-- The result's block after the last pass. -/
theorem last_res (t : Fin cfg0.N) (h : t.val % 4 = 3) (y : S512x2048.Idx) :
    (outsAt0 m c t.val t.isLt).1 y = res (ax m c) (anw m c) (awu m c) (awd m c) (anw2 m c) (row t (y 0)) (y 1) := by
  have e0 := kept_hid m c 2 (before t) (by show (t.val - 1) % 4 = 2; omega)
  have e1 := kept_acc m c 2 (before t) (by show (t.val - 1) % 4 = 2; omega) (by omega)
  have ha := last_acc m c t h _ _ e1 e0
  rw [outsAt0_C m c t (by omega) (by omega) h]
  frame_out
  rw [read_unread_whole, read_unread_whole]
  revert ha
  generalize k0_pay10 (F := Ideal) _ _ _ _ = a
  intro ha
  canon_tiles x h
  · rw [pay3]; exact res_at m c t a (View.whole cc0_scratch1) ha 384 inb_S512x2048_S512x2048_0_0 inb_S512x2048_S128x2048_384_0 x y ‹_› ‹_›
  · rw [pay13]; exact res_at m c t a (View.whole cc0_scratch1) ha 256 inb_S512x2048_S512x2048_0_0 inb_S512x2048_S128x2048_256_0 x y ‹_› ‹_›
  · rw [pay12]; exact res_at m c t a (View.whole cc0_scratch1) ha 128 inb_S512x2048_S512x2048_0_0 inb_S512x2048_S128x2048_128_0 x y ‹_› ‹_›
  · rw [pay11]; exact res_at m c t a (View.whole cc0_scratch1) ha 0 inb_S512x2048_S512x2048_0_0 inb_S512x2048_S128x2048_0_0 x y (by omega) ‹_›

/-- The array after the run, at an index. -/
theorem final : (dats m 0 c).arrAt 5 (cfgs 0).N
    = fun i : S8192x2048.Idx => res (ax m c) (anw m c) (awu m c) (awd m c) (anw2 m c) (i 0) (i 1) := by
  refine (dats m 0 c).arrAt_eq_of_covers 5 _ (by decide +kernel) fun t hf y => ?_
  have h3 : t.val % 4 = 3 := (flush0_5 t).mp hf
  blk_simp
  rw [after0_5]
  refine (last_res m c t h3 y).trans ?_
  have hb := idx t
  have hlt : t.val < 64 := points ▸ t.isLt
  have e0 : row t (y 0) = (win0_5.blk t).view.emb y 0 := Fin.ext (by
    show (512 * (t.val / 4) + (y 0).val) % 8192 = _
    have hy : (y 0).val < 512 := (y 0).isLt
    blk_simp [hb]
    omega)
  have e1 : (y 1 : Fin 2048) = (win0_5.blk t).view.emb y 1 := Fin.ext (by blk_simp [hb])
  rw [← e0, ← e1]

end Cert.MlpProof

end
-- ==== Proof.Mlp.Equal.lean ====
/- The MLP: the kernel's result is the reference's. -/
module

public import proofs.«01_k».proof.Defs
public import proofs.«01_k».proof.Proof.Mlp.Last
public import proofs.«01_k».proof.Proof.Mlp.Math
public import proofs.«01_k».proof.Proof.Gen.MlpRefIdeal.Run
public import proofs.«01_k».proof.Proof.Gen.MlpRefIdeal
public import proofs.«01_k».proof.Proof.Gen.MlpIdeal
public import proofs.«01_k».proof.Proof.Gen.Mlp.Frame
public import proofs.«01_k».proof.Proof.Gen.Mlp
public import Idealize.ShloMosaic.Lib.Quiescent

@[expose] public section

noncomputable section

namespace Cert.MlpProof

open Idealize.ShloMosaic Idealize.ShloMosaic.TcCoe Idealize.SL.Sem

/-- From the same arguments the idealized kernel and the idealized reference leave equal results, and neither changes
    an argument. -/
theorem equal : Cert.algebraic_MlpIdeal_MlpRefIdeal := by
  intro m ρ m' ρ' _ hag
  refine ⟨fun c => fun i => res (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (i 0) (i 1), ?_, ?_⟩
  · exact (θ_run _ _ _).mono (fun r h c => ⟨(h c).1.trans (final m c), (h c).2⟩) (Cert.MlpIdeal.Value.run_blocks m ρ)
  · refine (θ_run _ _ _).mono (fun r h c => ⟨(h c).1.trans ?_, (h c).2⟩) (Cert.MlpRefIdeal.Value.run m' ρ')
    obtain ⟨h0, h1, h2, h3, h4⟩ := hag c
    refine (Cert.MlpRefIdeal.Read.val_main_v34_eq m' c).trans (funext fun i => ?_)
    rw [h0, h1, h2, h3, h4]
    exact ref_res _ _ _ _ _ i

/-- The idealized reference runs, keeps its arguments and leaves every counter at zero. -/
theorem frame_reference : Cert.quiescent_MlpRefIdeal := fun m ρ _ =>
  (θ_run _ _ _).mono (fun r h => ⟨fun c => (h c).2, sem_eq_zero_of_no_sems (by decide) r.2⟩) (Cert.MlpRefIdeal.Value.run m ρ)

/-- The kernel runs, keeps its arguments and leaves every counter at zero. -/
theorem frame_kernel : Cert.quiescent_Mlp := fun m ρ _ => Cert.Mlp.Gen.frame m ρ

/-- The idealized kernel runs, keeps its arguments and leaves every counter at zero. -/
theorem frame_ideal : Cert.quiescent_MlpIdeal := fun m ρ _ => Cert.MlpIdeal.Gen.frame m ρ

end Cert.MlpProof

end
-- ==== Proof.lean ====
/- The claims: for each call taken, the frames of the kernel, of the idealized kernel and of the idealized reference,
   that idealizing kept the kernel's text, and that kernel and reference leave equal results. -/
module

public import proofs.«01_k».proof.Defs
public import proofs.«01_k».proof.Proof.Gen.Scan
public import proofs.«01_k».proof.Proof.Scan.Raw
public import proofs.«01_k».proof.Proof.Scan.Equal
public import proofs.«01_k».proof.Proof.Gen.In
public import proofs.«01_k».proof.Proof.In.Raw
public import proofs.«01_k».proof.Proof.In.Equal
public import proofs.«01_k».proof.Proof.Out.Equal
public import proofs.«01_k».proof.Proof.Mlp.Equal
public import Idealize.ShloMosaic.Adequacy
public import Idealize.ShloMosaic.Init

@[expose] public section

noncomputable section

namespace Cert.Proof

open Idealize.ShloMosaic Idealize.SL.Sem

/-- The shapes the gate's precondition names fit. -/
theorem gate_facts : Cert.Pre_gate_above_minus_infinity.Facts where
  slices_S8192x7168_S8192x1024_0_6144 := by decide
  bitsLt_bf16_f32 := by decide
  bcast_S_S8192x1024 := by decide

/-- Every claim of the certificate. -/
theorem claim : Cert.Claim :=
  ⟨Cert.Scan.Gen.facts, Cert.ScanIdeal.Gen.facts, Cert.ScanRefIdeal.Gen.facts,
    Cert.Out.Gen.facts, Cert.OutIdeal.Gen.facts, Cert.OutRefIdeal.Gen.facts,
    Cert.Mlp.Gen.facts, Cert.MlpIdeal.Gen.facts, Cert.MlpRefIdeal.Gen.facts,
    Cert.In.Gen.facts, Cert.InIdeal.Gen.facts, Cert.InRefIdeal.Gen.facts, gate_facts,
    Cert.ScanProof.frame_kernel, Cert.ScanProof.frame_ideal, Cert.ScanProof.frame_ideal_pre (hP := gate_facts),
    Cert.ScanProof.frame_reference, Cert.ScanProof.frame_reference_pre (hP := gate_facts),
    Cert.OutProof.frame_kernel, Cert.OutProof.frame_ideal, Cert.OutProof.frame_reference,
    Cert.MlpProof.frame_kernel, Cert.MlpProof.frame_ideal, Cert.MlpProof.frame_reference,
    Cert.InProof.frame_kernel, Cert.InProof.frame_ideal, Cert.InProof.frame_reference,
    trivial, Cert.ScanProof.equal (hP := gate_facts), trivial, Cert.OutProof.equal, trivial, Cert.MlpProof.equal,
    trivial, Cert.InProof.equal⟩

end Cert.Proof

end
